-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_5)) (v3 : (c : Dev Cert.Kernel3Ideal.nD) → Buf (Elt Ideal) ((c.tc : Thread Cert.Kernel3Ideal.nD Cert.Kernel3Ideal.τ).loc Cert.Kernel3Ideal.main_v24_6)) (v4 : (c : Dev Cert.Kernel3Ideal.nD) → Buf (Elt Ideal) ((c.tc : Thread Cert.Kernel3Ideal.nD Cert.Kernel3Ideal.τ).loc Cert.Kernel3Ideal.main_v24_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_5) = v2 c
          ∧ r.2.mem ((c.tc : Thread Cert.Kernel3Ideal.nD Cert.Kernel3Ideal.τ).loc Cert.Kernel3Ideal.main_v24_6) = v3 c
          ∧ r.2.mem ((c.tc : Thread Cert.Kernel3Ideal.nD Cert.Kernel3Ideal.τ).loc Cert.Kernel3Ideal.main_v24_7) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_v92) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hPre_finite : Cert.Pre_finite.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
-- ==== Pre_finite.lean ====
abbrev S2x4x3x64x8192 : Shape := ⟨5, ![2, 4, 3, 64, 8192]⟩
abbrev S2x4x8192x64 : Shape := ⟨4, ![2, 4, 8192, 64]⟩
abbrev S_ : Shape := ⟨0, ![]⟩

class Facts : Prop where
  bcast_S_S2x4x3x64x8192 : S_.BroadcastsInDim S2x4x3x64x8192 (![] : Fin 0 → Fin S2x4x3x64x8192.rank)
  bcast_S_S2x4x8192x64 : S_.BroadcastsInDim S2x4x8192x64 (![] : Fin 0 → Fin S2x4x8192x64.rank)

variable [Facts]

def fn {F : FTy → Type} [FloatOps F] (main_arg0 : FVec F S2x4x3x64x8192 .f32) (main_arg1 : FVec F S2x4x8192x64 .f32) (main_arg2 : FVec F S2x4x8192x64 .f32) : IVec S2x4x3x64x8192 1 × IVec S2x4x8192x64 1 :=
  let main_v0 : FVec F S2x4x3x64x8192 .f32 := Host.absf main_arg0
  let main_cst : FVec F S_ .f32 := constant S_ .f32 0x7F800000#32
  let main_v1 : FVec F S2x4x3x64x8192 .f32 := broadcastInDim S2x4x3x64x8192 ![] bcast_S_S2x4x3x64x8192 main_cst
  let main_v2 : IVec S2x4x3x64x8192 1 := cmpf .olt main_v0 main_v1
  let main_v3 : FVec F S2x4x8192x64 .f32 := Host.absf main_arg1
  let main_cst_0 : FVec F S_ .f32 := constant S_ .f32 0x7F800000#32
  let main_v4 : FVec F S2x4x8192x64 .f32 := broadcastInDim S2x4x8192x64 ![] bcast_S_S2x4x8192x64 main_cst_0
  let main_v5 : IVec S2x4x8192x64 1 := cmpf .olt main_v3 main_v4
  (main_v2, main_v5)
-- ==== Kernel2.lean ====
abbrev S2x8192x1024 : Shape := ⟨3, ![2, 8192, 1024]⟩
abbrev S1024 : Shape := ⟨1, ![1024]⟩
abbrev S2x768x8192 : Shape := ⟨3, ![2, 768, 8192]⟩
abbrev S2x8192x256 : Shape := ⟨3, ![2, 8192, 256]⟩
abbrev S1024x2048 : Shape := ⟨2, ![1024, 2048]⟩
abbrev S2048 : Shape := ⟨1, ![2048]⟩
abbrev S768x1024 : Shape := ⟨2, ![768, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x2048 : Shape := ⟨2, ![1, 2048]⟩
abbrev S1x512x1024 : Shape := ⟨3, ![1, 512, 1024]⟩
abbrev S1x768x512 : Shape := ⟨3, ![1, 768, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S768x512 : Shape := ⟨2, ![768, 512]⟩
abbrev S512x256 : Shape := ⟨2, ![512, 256]⟩

abbrev nBuf : Space → Nat
  | .hbm => 24
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x768x8192, .bf16⟩
  | .hbm, ⟨3, _⟩ => ⟨S2x8192x256, .f32⟩
  | .hbm, ⟨4, _⟩ => ⟨S1024x2048, .f32⟩
  | .hbm, ⟨5, _⟩ => ⟨S2048, .f32⟩
  | .hbm, ⟨6, _⟩ => ⟨S768x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1x1024, .f32⟩
  | .hbm, ⟨14, _⟩ => ⟨S1024x2048, .bf16⟩
  | .hbm, ⟨15, _⟩ => ⟨S1x2048, .f32⟩
  | .hbm, ⟨16, _⟩ => ⟨S768x1024, .bf16⟩
  | .hbm, ⟨17, _⟩ => ⟨S256x1024, .bf16⟩
  | .hbm, ⟨18, _⟩ => ⟨S1024x1024, .bf16⟩
  | .hbm, ⟨19, _⟩ => ⟨S1x1024, .f32⟩
  | .hbm, ⟨20, _⟩ => ⟨S1024x4096, .bf16⟩
  | .hbm, ⟨21, _⟩ => ⟨S4096x1024, .bf16⟩
  | .hbm, ⟨22, _⟩ => ⟨S1x1024, .f32⟩
  | .hbm, ⟨23, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x768x512, .bf16⟩
  | .local _ .vmem, ⟨4, _⟩ => ⟨S1x768x512, .bf16⟩
  | .local _ .vmem, ⟨5, _⟩ => ⟨S1x512x256, .f32⟩
  | .local _ .vmem, ⟨6, _⟩ => ⟨S1x512x256, .f32⟩
  | .local _ .vmem, ⟨7, _⟩ => ⟨S1024x2048, .bf16⟩
  | .local _ .vmem, ⟨8, _⟩ => ⟨S1x2048, .f32⟩
  | .local _ .vmem, ⟨9, _⟩ => ⟨S768x1024, .bf16⟩
  | .local _ .vmem, ⟨10, _⟩ => ⟨S256x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x8192x1024 : Shape := ⟨3, ![2, 8192, 1024]⟩
abbrev S1024 : Shape := ⟨1, ![1024]⟩
abbrev S2x768x8192 : Shape := ⟨3, ![2, 768, 8192]⟩
abbrev S2x8192x256 : Shape := ⟨3, ![2, 8192, 256]⟩
abbrev S1024x2048 : Shape := ⟨2, ![1024, 2048]⟩
abbrev S2048 : Shape := ⟨1, ![2048]⟩
abbrev S768x1024 : Shape := ⟨2, ![768, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x768 : Shape := ⟨3, ![2, 8192, 768]⟩
abbrev S2x8192x2048 : Shape := ⟨3, ![2, 8192, 2048]⟩
abbrev S1x1x2048 : Shape := ⟨3, ![1, 1, 2048]⟩
abbrev S2x8192x4096 : Shape := ⟨3, ![2, 8192, 4096]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x768x8192, .bf16⟩
  | .hbm, ⟨3, _⟩ => ⟨S2x8192x256, .f32⟩
  | .hbm, ⟨4, _⟩ => ⟨S1024x2048, .f32⟩
  | .hbm, ⟨5, _⟩ => ⟨S2048, .f32⟩
  | .hbm, ⟨6, _⟩ => ⟨S768x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x768, .bf16⟩
  | .hbm, ⟨30, _⟩ => ⟨S2x8192x768, .f32⟩
  | .hbm, ⟨31, _⟩ => ⟨S2x8192x2048, .f32⟩
  | .hbm, ⟨32, _⟩ => ⟨S1x1x2048, .f32⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S_, .f32⟩
  | .hbm, ⟨38, _⟩ => ⟨S2x8192x2048, .f32⟩
  | .hbm, ⟨39, _⟩ => ⟨S2x8192x2048, .f32⟩
  | .hbm, ⟨40, _⟩ => ⟨S_, .f32⟩
  | .hbm, ⟨41, _⟩ => ⟨S2x8192x2048, .f32⟩
  | .hbm, ⟨42, _⟩ => ⟨S2x8192x2048, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S2x8192x4096, .f32⟩
  | .hbm, ⟨69, _⟩ => ⟨S_, .f32⟩
  | .hbm, ⟨70, _⟩ => ⟨S2x8192x4096, .f32⟩
  | .hbm, ⟨71, _⟩ => ⟨S2x8192x4096, .f32⟩
  | .hbm, ⟨72, _⟩ => ⟨S2x8192x4096, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1, .f32⟩
  | .hbm, ⟨86, _⟩ => ⟨S2x8192x1024, .f32⟩
  | .hbm, ⟨87, _⟩ => ⟨S2x8192x1024, .f32⟩
  | .hbm, ⟨88, _⟩ => ⟨S1x1x1024, .f32⟩
  | .hbm, ⟨89, _⟩ => ⟨S2x8192x1024, .f32⟩
  | .hbm, ⟨90, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel.lean ====
abbrev S2x4x3x64x8192 : Shape := ⟨5, ![2, 4, 3, 64, 8192]⟩
abbrev S2x4x8192x64 : Shape := ⟨4, ![2, 4, 8192, 64]⟩
abbrev S_ : Shape := ⟨0, ![]⟩
abbrev S2x4x3x256x8192 : Shape := ⟨5, ![2, 4, 3, 256, 8192]⟩
abbrev S2x4x8192x256 : Shape := ⟨4, ![2, 4, 8192, 256]⟩
abbrev S2x4x32x256x64 : Shape := ⟨5, ![2, 4, 32, 256, 64]⟩
abbrev S2x4x32x64x256 : Shape := ⟨5, ![2, 4, 32, 64, 256]⟩
abbrev S2x4x8192 : Shape := ⟨3, ![2, 4, 8192]⟩
abbrev S2x4x1x8192 : Shape := ⟨4, ![2, 4, 1, 8192]⟩
abbrev S2x4x2x8192 : Shape := ⟨4, ![2, 4, 2, 8192]⟩
abbrev S1x1x3x64x1024 : Shape := ⟨5, ![1, 1, 3, 64, 1024]⟩
abbrev S1x1x8192x64 : Shape := ⟨4, ![1, 1, 8192, 64]⟩
abbrev S1x1x3x256x1024 : Shape := ⟨5, ![1, 1, 3, 256, 1024]⟩
abbrev S1x1x8192x256 : Shape := ⟨4, ![1, 1, 8192, 256]⟩
abbrev S1x1x32x64x256 : Shape := ⟨5, ![1, 1, 32, 64, 256]⟩
abbrev S1x1x2x8192 : Shape := ⟨4, ![1, 1, 2, 8192]⟩
abbrev S2x256x3072 : Shape := ⟨3, ![2, 256, 3072]⟩
abbrev S2x1x3072 : Shape := ⟨3, ![2, 1, 3072]⟩
abbrev S1x3072 : Shape := ⟨2, ![1, 3072]⟩
abbrev S80x3072 : Shape := ⟨2, ![80, 3072]⟩
abbrev S1x1x1x64x1024 : Shape := ⟨5, ![1, 1, 1, 64, 1024]⟩
abbrev S64x1024 : Shape := ⟨2, ![64, 1024]⟩
abbrev S64x3072 : Shape := ⟨2, ![64, 3072]⟩
abbrev S16x256 : Shape := ⟨2, ![16, 256]⟩
abbrev S3072 : Shape := ⟨1, ![3072]⟩
abbrev S1x1x3072 : Shape := ⟨3, ![1, 1, 3072]⟩
abbrev S1 : Shape := ⟨1, ![1]⟩
abbrev S1x1x1 : Shape := ⟨3, ![1, 1, 1]⟩
abbrev S1x1x1x8192 : Shape := ⟨4, ![1, 1, 1, 8192]⟩
abbrev S1x8192 : Shape := ⟨2, ![1, 8192]⟩
abbrev S1x1x8192 : Shape := ⟨3, ![1, 1, 8192]⟩
abbrev S1x1x1x256x1024 : Shape := ⟨5, ![1, 1, 1, 256, 1024]⟩
abbrev S256x1024 : Shape := ⟨2, ![256, 1024]⟩
abbrev S256x3072 : Shape := ⟨2, ![256, 3072]⟩
abbrev S1x1x256x256 : Shape := ⟨4, ![1, 1, 256, 256]⟩
abbrev S256x256 : Shape := ⟨2, ![256, 256]⟩
abbrev S1x1x1x64x256 : Shape := ⟨5, ![1, 1, 1, 64, 256]⟩
abbrev S64x256 : Shape := ⟨2, ![64, 256]⟩
abbrev S80x256 : Shape := ⟨2, ![80, 256]⟩
abbrev S1x1x256x64 : Shape := ⟨4, ![1, 1, 256, 64]⟩
abbrev S256x64 : Shape := ⟨2, ![256, 64]⟩
abbrev S1x256x3072 : Shape := ⟨3, ![1, 256, 3072]⟩

abbrev nBuf : Space → Nat
  | .hbm => 99
  | .vmem => 18
  | .smem => 0
  | _ => 0

abbrev bufTy : (tb : Table) → Fin (tcTables nBuf tb) → BufTy
  | .hbm, ⟨0, _⟩ => ⟨S2x4x3x64x8192, .f32⟩
  | .hbm, ⟨1, _⟩ => ⟨S2x4x8192x64, .f32⟩
  | .hbm, ⟨2, _⟩ => ⟨S2x4x8192x64, .f32⟩
  | .hbm, ⟨3, _⟩ => ⟨S2x4x3x64x8192, .bf16⟩
  | .hbm, ⟨4, _⟩ => ⟨S_, .f32⟩
  | .hbm, ⟨5, _⟩ => ⟨S2x4x3x64x8192, .f32⟩
  | .hbm, ⟨6, _⟩ => ⟨S2x4x3x64x8192, .f32⟩
  | .hbm, ⟨7, _⟩ => ⟨S_, .f32⟩
  | .hbm, ⟨8, _⟩ => ⟨S2x4x3x64x8192, .f32⟩
  | .hbm, ⟨9, _⟩ => ⟨S2x4x3x64x8192, .f32⟩
  | .hbm, ⟨10, _⟩ => ⟨S_, .f32⟩
  | .hbm, ⟨11, _⟩ => ⟨S2x4x3x64x8192, .f32⟩
  | .hbm, ⟨12, _⟩ => ⟨S2x4x3x64x8192, .f32⟩
  | .hbm, ⟨13, _⟩ => ⟨S2x4x3x64x8192, .f32⟩
  | .hbm, ⟨14, _⟩ => ⟨S2x4x3x64x8192, .f32⟩
  | .hbm, ⟨15, _⟩ => ⟨S_, .f32⟩
  | .hbm, ⟨16, _⟩ => ⟨S2x4x3x64x8192, .f32⟩
  | .hbm, ⟨17, _⟩ => ⟨S2x4x3x64x8192, .f32⟩
  | .hbm, ⟨18, _⟩ => ⟨S_, .f32⟩
  | .hbm, ⟨19, _⟩ => ⟨S2x4x3x64x8192, .f32⟩
  | .hbm, ⟨20, _⟩ => ⟨S2x4x3x64x8192, .f32⟩
  | .hbm, ⟨21, _⟩ => ⟨S2x4x3x64x8192, .f32⟩
  | .hbm, ⟨22, _⟩ => ⟨S2x4x3x64x8192, .f32⟩
  | .hbm, ⟨23, _⟩ => ⟨S2x4x3x64x8192, .f32⟩
  | .hbm, ⟨24, _⟩ => ⟨S_, .f32⟩
  | .hbm, ⟨25, _⟩ => ⟨S2x4x3x64x8192, .f32⟩
  | .hbm, ⟨26, _⟩ => ⟨S2x4x3x64x8192, .f32⟩
  | .hbm, ⟨27, _⟩ => ⟨S_, .f32⟩
  | .hbm, ⟨28, _⟩ => ⟨S2x4x3x64x8192, .f32⟩
  | .hbm, ⟨29, _⟩ => ⟨S2x4x3x64x8192, .f32⟩
  | .hbm, ⟨30, _⟩ => ⟨S2x4x3x64x8192, .f32⟩
  | .hbm, ⟨31, _⟩ => ⟨S2x4x3x64x8192, .f32⟩
  | .hbm, ⟨32, _⟩ => ⟨S_, .f32⟩
  | .hbm, ⟨33, _⟩ => ⟨S2x4x3x64x8192, .f32⟩
  | .hbm, ⟨34, _⟩ => ⟨S2x4x3x64x8192, .f32⟩
  | .hbm, ⟨35, _⟩ => ⟨S_, .f32⟩
  | .hbm, ⟨36, _⟩ => ⟨S2x4x3x64x8192, .f32⟩
  | .hbm, ⟨37, _⟩ => ⟨S2x4x3x64x8192, .f32⟩
  | .hbm, ⟨38, _⟩ => ⟨S2x4x3x64x8192, .f32⟩
  | .hbm, ⟨39, _⟩ => ⟨S2x4x3x64x8192, .f32⟩
  | .hbm, ⟨40, _⟩ => ⟨S_, .f32⟩
  | .hbm, ⟨41, _⟩ => ⟨S2x4x3x64x8192, .f32⟩
  | .hbm, ⟨42, _⟩ => ⟨S2x4x3x256x8192, .f32⟩
  | .hbm, ⟨43, _⟩ => ⟨S2x4x3x256x8192, .fp8e4m3⟩
  | .hbm, ⟨44, _⟩ => ⟨S2x4x8192x64, .bf16⟩
  | .hbm, ⟨45, _⟩ => ⟨S2x4x8192x64, .f32⟩
  | .hbm, ⟨46, _⟩ => ⟨S_, .f32⟩
  | .hbm, ⟨47, _⟩ => ⟨S2x4x8192x64, .f32⟩
  | .hbm, ⟨48, _⟩ => ⟨S2x4x8192x64, .f32⟩
  | .hbm, ⟨49, _⟩ => ⟨S_, .f32⟩
  | .hbm, ⟨50, _⟩ => ⟨S2x4x8192x64, .f32⟩
  | .hbm, ⟨51, _⟩ => ⟨S2x4x8192x64, .f32⟩
  | .hbm, ⟨52, _⟩ => ⟨S2x4x8192x64, .f32⟩
  | .hbm, ⟨53, _⟩ => ⟨S2x4x8192x64, .f32⟩
  | .hbm, ⟨54, _⟩ => ⟨S_, .f32⟩
  | .hbm, ⟨55, _⟩ => ⟨S2x4x8192x64, .f32⟩
  | .hbm, ⟨56, _⟩ => ⟨S2x4x8192x64, .f32⟩
  | .hbm, ⟨57, _⟩ => ⟨S_, .f32⟩
  | .hbm, ⟨58, _⟩ => ⟨S2x4x8192x64, .f32⟩
  | .hbm, ⟨59, _⟩ => ⟨S2x4x8192x64, .f32⟩
  | .hbm, ⟨60, _⟩ => ⟨S2x4x8192x64, .f32⟩
  | .hbm, ⟨61, _⟩ => ⟨S2x4x8192x64, .f32⟩
  | .hbm, ⟨62, _⟩ => ⟨S2x4x8192x64, .f32⟩
  | .hbm, ⟨63, _⟩ => ⟨S_, .f32⟩
  | .hbm, ⟨64, _⟩ => ⟨S2x4x8192x64, .f32⟩
  | .hbm, ⟨65, _⟩ => ⟨S2x4x8192x64, .f32⟩
  | .hbm, ⟨66, _⟩ => ⟨S_, .f32⟩
  | .hbm, ⟨67, _⟩ => ⟨S2x4x8192x64, .f32⟩
  | .hbm, ⟨68, _⟩ => ⟨S2x4x8192x64, .f32⟩
  | .hbm, ⟨69, _⟩ => ⟨S2x4x8192x64, .f32⟩
  | .hbm, ⟨70, _⟩ => ⟨S2x4x8192x64, .f32⟩
  | .hbm, ⟨71, _⟩ => ⟨S_, .f32⟩
  | .hbm, ⟨72, _⟩ => ⟨S2x4x8192x64, .f32⟩
  | .hbm, ⟨73, _⟩ => ⟨S2x4x8192x64, .f32⟩
  | .hbm, ⟨74, _⟩ => ⟨S_, .f32⟩
  | .hbm, ⟨75, _⟩ => ⟨S2x4x8192x64, .f32⟩
  | .hbm, ⟨76, _⟩ => ⟨S2x4x8192x64, .f32⟩
  | .hbm, ⟨77, _⟩ => ⟨S2x4x8192x64, .f32⟩
  | .hbm, ⟨78, _⟩ => ⟨S2x4x8192x64, .f32⟩
  | .hbm, ⟨79, _⟩ => ⟨S_, .f32⟩
  | .hbm, ⟨80, _⟩ => ⟨S2x4x8192x64, .f32⟩
  | .hbm, ⟨81, _⟩ => ⟨S2x4x8192x256, .f32⟩
  | .hbm, ⟨82, _⟩ => ⟨S2x4x8192x256, .fp8e4m3⟩
  | .hbm, ⟨83, _⟩ => ⟨S2x4x8192x64, .bf16⟩
  | .hbm, ⟨84, _⟩ => ⟨S2x4x32x256x64, .bf16⟩
  | .hbm, ⟨85, _⟩ => ⟨S2x4x32x64x256, .bf16⟩
  | .hbm, ⟨86, _⟩ => ⟨S2x4x8192x64, .f32⟩
  | .hbm, ⟨87, _⟩ => ⟨S_, .f32⟩
  | .hbm, ⟨88, _⟩ => ⟨S2x4x8192, .f32⟩
  | .hbm, ⟨89, _⟩ => ⟨S2x4x8192x64, .bf16⟩
  | .hbm, ⟨90, _⟩ => ⟨S2x4x8192x64, .f32⟩
  | .hbm, ⟨91, _⟩ => ⟨S2x4x8192x64, .f32⟩
  | .hbm, ⟨92, _⟩ => ⟨S_, .f32⟩
  | .hbm, ⟨93, _⟩ => ⟨S2x4x8192, .f32⟩
  | .hbm, ⟨94, _⟩ => ⟨S2x4x1x8192, .f32⟩
  | .hbm, ⟨95, _⟩ => ⟨S2x4x1x8192, .f32⟩
  | .hbm, ⟨96, _⟩ => ⟨S2x4x2x8192, .f32⟩
  | .hbm, ⟨97, _⟩ => ⟨S2x4x8192x64, .bf16⟩
  | .hbm, ⟨98, _⟩ => ⟨S2x4x3x64x8192, .bf16⟩
  | .local _ .vmem, ⟨0, _⟩ => ⟨S1x1x3x64x1024, .bf16⟩
  | .local _ .vmem, ⟨1, _⟩ => ⟨S1x1x3x64x1024, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x3x256x1024, .fp8e4m3⟩
  | .local _ .vmem, ⟨5, _⟩ => ⟨S1x1x3x256x1024, .fp8e4m3⟩
  | .local _ .vmem, ⟨6, _⟩ => ⟨S1x1x8192x256, .fp8e4m3⟩
  | .local _ .vmem, ⟨7, _⟩ => ⟨S1x1x8192x256, .fp8e4m3⟩
  | .local _ .vmem, ⟨8, _⟩ => ⟨S1x1x32x64x256, .bf16⟩
  | .local _ .vmem, ⟨9, _⟩ => ⟨S1x1x32x64x256, .bf16⟩
  | .local _ .vmem, ⟨10, _⟩ => ⟨S1x1x2x8192, .f32⟩
  | .local _ .vmem, ⟨11, _⟩ => ⟨S1x1x2x8192, .f32⟩
  | .local _ .vmem, ⟨12, _⟩ => ⟨S1x1x3x64x1024, .bf16⟩
  | .local _ .vmem, ⟨13, _⟩ => ⟨S1x1x3x64x1024, .bf16⟩
  | .local _ .vmem, ⟨14, _⟩ => ⟨S2x256x3072, .f32⟩
  | .local _ .vmem, ⟨15, _⟩ => ⟨S2x1x3072, .f32⟩
  | .local _ .vmem, ⟨16, _⟩ => ⟨S1x3072, .f32⟩
  | .local _ .vmem, ⟨17, _⟩ => ⟨S80x3072, .f32⟩
  | _, _ => ⟨S2x4x3x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_v47 : Ref sig .tc := ⟨.hbm, 65, rfl⟩
abbrev main_cst_14 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_15 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_18 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_19 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_mult1 : BitVec 32 :=
  let c0_i32_63 : BitVec 32 := 0#32
  let c32_i32 : BitVec 32 := 32#32
  let v69 : BitVec 32 := Scalar.muli c0_i32_63 c32_i32
  let c0_i32_64 : BitVec 32 := 0#32
  let v70 : BitVec 32 := Scalar.addi v69 c0_i32_64
  let c256_i32 : BitVec 32 := 256#32
  let v71 : BitVec 32 := Scalar.muli v70 c256_i32
  v71
def k0_off1 (c0_i32_64 : BitVec 32) : Fin 4 → Nat :=
  let c0_65 : Index := 0#32
  let c0_66 : Index := 0#32
  let c0_i32_63 : BitVec 32 := 0#32
  let c32_i32 : BitVec 32 := 32#32
  let v69 : BitVec 32 := Scalar.muli c0_i32_63 c32_i32
  let v70 : BitVec 32 := Scalar.addi v69 c0_i32_64
  let c256_i32 : BitVec 32 := 256#32
  let v71 : BitVec 32 := Scalar.muli v70 c256_i32
  let v72 : BitVec 32 := v71
  let v73 : Index := Scalar.indexCast v72
  let c0_67 : Index := 0#32
  ![0, 0, v73.toNat, 0]
def k0_mult2 : BitVec 32 :=
  let c0_i32_63 : BitVec 32 := 0#32
  let c32_i32_70 : BitVec 32 := 32#32
  let v82 : BitVec 32 := Scalar.muli c0_i32_63 c32_i32_70
  let c0_i32_71 : BitVec 32 := 0#32
  let v83 : BitVec 32 := Scalar.addi v82 c0_i32_71
  let c256_i32_72 : BitVec 32 := 256#32
  let v84 : BitVec 32 := Scalar.muli v83 c256_i32_72
  v84
def k0_mult3 : BitVec 32 :=
  let c0_i32_63 : BitVec 32 := 0#32
  let c32_i32_78 : BitVec 32 := 32#32
  let v95 : BitVec 32 := Scalar.muli c0_i32_63 c32_i32_78
  let c0_i32_79 : BitVec 32 := 0#32
  let v96 : BitVec 32 := Scalar.addi v95 c0_i32_79
  let c256_i32_80 : BitVec 32 := 256#32
  let v97 : BitVec 32 := Scalar.muli v96 c256_i32_80
  v97
def k0_mult4 : BitVec 32 :=
  let c0_i32_63 : BitVec 32 := 0#32
  let c32_i32_86 : BitVec 32 := 32#32
  let v108 : BitVec 32 := Scalar.muli c0_i32_63 c32_i32_86
  let c0_i32_87 : BitVec 32 := 0#32
  let v109 : BitVec 32 := Scalar.addi v108 c0_i32_87
  let c256_i32_88 : BitVec 32 := 256#32
  let v110 : BitVec 32 := Scalar.muli v109 c256_i32_88
  v110
def k0_off2 (c0_i32_95 : BitVec 32) : Fin 5 → Nat :=
  let c0_96 : Index := 0#32
  let c0_97 : Index := 0#32
  let c0_i32_63 : BitVec 32 := 0#32
  let c32_i32_94 : BitVec 32 := 32#32
  let v121 : BitVec 32 := Scalar.muli c0_i32_63 c32_i32_94
  let v122 : BitVec 32 := Scalar.addi v121 c0_i32_95
  let v123 : Index := Scalar.indexCast v122
  let c0_98 : Index := 0#32
  let c0_99 : Index := 0#32
  ![0, 0, v123.toNat, 0, 0]
def k0_mult5 : BitVec 32 :=
  let c0_i32_63 : BitVec 32 := 0#32
  let c32_i32_105 : BitVec 32 := 32#32
  let v133 : BitVec 32 := Scalar.muli c0_i32_63 c32_i32_105
  let c0_i32_106 : BitVec 32 := 0#32
  let v134 : BitVec 32 := Scalar.addi v133 c0_i32_106
  let c256_i32_107 : BitVec 32 := 256#32
  let v135 : BitVec 32 := Scalar.muli v134 c256_i32_107
  v135
def k0_mult6 : BitVec 32 :=
  let c0_i32_63 : BitVec 32 := 0#32
  let c32_i32_123 : BitVec 32 := 32#32
  let v158 : BitVec 32 := Scalar.muli c0_i32_63 c32_i32_123
  let c0_i32_124 : BitVec 32 := 0#32
  let v159 : BitVec 32 := Scalar.addi v158 c0_i32_124
  let c256_i32_125 : BitVec 32 := 256#32
  let v160 : BitVec 32 := Scalar.muli v159 c256_i32_125
  v160
def k0_mult7 : BitVec 32 :=
  let c0_i32_63 : BitVec 32 := 0#32
  let c32_i32_141 : BitVec 32 := 32#32
  let v183 : BitVec 32 := Scalar.muli c0_i32_63 c32_i32_141
  let c0_i32_142 : BitVec 32 := 0#32
  let v184 : BitVec 32 := Scalar.addi v183 c0_i32_142
  let c256_i32_143 : BitVec 32 := 256#32
  let v185 : BitVec 32 := Scalar.muli v184 c256_i32_143
  v185
def k0_mult8 : BitVec 32 :=
  let c0_i32_63 : BitVec 32 := 0#32
  let c32_i32_159 : BitVec 32 := 32#32
  let v208 : BitVec 32 := Scalar.muli c0_i32_63 c32_i32_159
  let c0_i32_160 : BitVec 32 := 0#32
  let v209 : BitVec 32 := Scalar.addi v208 c0_i32_160
  let c256_i32_161 : BitVec 32 := 256#32
  let v210 : BitVec 32 := Scalar.muli v209 c256_i32_161
  v210
def k0_mult9 : BitVec 32 :=
  let c0_i32_63 : BitVec 32 := 0#32
  let c32_i32_177 : BitVec 32 := 32#32
  let v233 : BitVec 32 := Scalar.muli c0_i32_63 c32_i32_177
  let c0_i32_178 : BitVec 32 := 0#32
  let v234 : BitVec 32 := Scalar.addi v233 c0_i32_178
  let c256_i32_179 : BitVec 32 := 256#32
  let v235 : BitVec 32 := Scalar.muli v234 c256_i32_179
  v235
def k0_mult10 : BitVec 32 :=
  let c0_i32_63 : BitVec 32 := 0#32
  let c32_i32_195 : BitVec 32 := 32#32
  let v258 : BitVec 32 := Scalar.muli c0_i32_63 c32_i32_195
  let c0_i32_196 : BitVec 32 := 0#32
  let v259 : BitVec 32 := Scalar.addi v258 c0_i32_196
  let c256_i32_197 : BitVec 32 := 256#32
  let v260 : BitVec 32 := Scalar.muli v259 c256_i32_197
  v260
def k0_mult11 : BitVec 32 :=
  let c0_i32_63 : BitVec 32 := 0#32
  let c32_i32_213 : BitVec 32 := 32#32
  let v283 : BitVec 32 := Scalar.muli c0_i32_63 c32_i32_213
  let c0_i32_214 : BitVec 32 := 0#32
  let v284 : BitVec 32 := Scalar.addi v283 c0_i32_214
  let c256_i32_215 : BitVec 32 := 256#32
  let v285 : BitVec 32 := Scalar.muli v284 c256_i32_215
  v285
def k0_mult12 : BitVec 32 :=
  let c0_i32_63 : BitVec 32 := 0#32
  let c32_i32_231 : BitVec 32 := 32#32
  let v308 : BitVec 32 := Scalar.muli c0_i32_63 c32_i32_231
  let c0_i32_232 : BitVec 32 := 0#32
  let v309 : BitVec 32 := Scalar.addi v308 c0_i32_232
  let c256_i32_233 : BitVec 32 := 256#32
  let v310 : BitVec 32 := Scalar.muli v309 c256_i32_233
  v310
def k0_mult13 : BitVec 32 :=
  let c0_i32_63 : BitVec 32 := 0#32
  let c32_i32_249 : BitVec 32 := 32#32
  let v333 : BitVec 32 := Scalar.muli c0_i32_63 c32_i32_249
  let c1_i32 : BitVec 32 := 1#32
  let v334 : BitVec 32 := Scalar.addi v333 c1_i32
  let c256_i32_250 : BitVec 32 := 256#32
  let v335 : BitVec 32 := Scalar.muli v334 c256_i32_250
  v335
def k0_mult14 : BitVec 32 :=
  let c0_i32_63 : BitVec 32 := 0#32
  let c32_i32_266 : BitVec 32 := 32#32
  let v358 : BitVec 32 := Scalar.muli c0_i32_63 c32_i32_266
  let c1_i32_267 : BitVec 32 := 1#32
  let v359 : BitVec 32 := Scalar.addi v358 c1_i32_267
  let c256_i32_268 : BitVec 32 := 256#32
  let v360 : BitVec 32 := Scalar.muli v359 c256_i32_268
  v360
def k0_mult15 : BitVec 32 :=
  let c0_i32_63 : BitVec 32 := 0#32
  let c32_i32_284 : BitVec 32 := 32#32
  let v383 : BitVec 32 := Scalar.muli c0_i32_63 c32_i32_284
  let c1_i32_285 : BitVec 32 := 1#32
  let v384 : BitVec 32 := Scalar.addi v383 c1_i32_285
  let c256_i32_286 : BitVec 32 := 256#32
  let v385 : BitVec 32 := Scalar.muli v384 c256_i32_286
  v385
def k0_mult16 : BitVec 32 :=
  let c0_i32_63 : BitVec 32 := 0#32
  let c32_i32_302 : BitVec 32 := 32#32
  let v408 : BitVec 32 := Scalar.muli c0_i32_63 c32_i32_302
  let c1_i32_303 : BitVec 32 := 1#32
  let v409 : BitVec 32 := Scalar.addi v408 c1_i32_303
  let c256_i32_304 : BitVec 32 := 256#32
  let v410 : BitVec 32 := Scalar.muli v409 c256_i32_304
  v410
def k0_mult17 : BitVec 32 :=
  let c0_i32_63 : BitVec 32 := 0#32
  let c32_i32_321 : BitVec 32 := 32#32
  let v433 : BitVec 32 := Scalar.muli c0_i32_63 c32_i32_321
  let c1_i32_322 : BitVec 32 := 1#32
  let v434 : BitVec 32 := Scalar.addi v433 c1_i32_322
  let c256_i32_323 : BitVec 32 := 256#32
  let v435 : BitVec 32 := Scalar.muli v434 c256_i32_323
  v435
def k0_mult18 : BitVec 32 :=
  let c0_i32_63 : BitVec 32 := 0#32
  let c32_i32_340 : BitVec 32 := 32#32
  let v458 : BitVec 32 := Scalar.muli c0_i32_63 c32_i32_340
  let c1_i32_341 : BitVec 32 := 1#32
  let v459 : BitVec 32 := Scalar.addi v458 c1_i32_341
  let c256_i32_342 : BitVec 32 := 256#32
  let v460 : BitVec 32 := Scalar.muli v459 c256_i32_342
  v460
def k0_mult19 : BitVec 32 :=
  let c0_i32_63 : BitVec 32 := 0#32
  let c32_i32_359 : BitVec 32 := 32#32
  let v483 : BitVec 32 := Scalar.muli c0_i32_63 c32_i32_359
  let c1_i32_360 : BitVec 32 := 1#32
  let v484 : BitVec 32 := Scalar.addi v483 c1_i32_360
  let c256_i32_361 : BitVec 32 := 256#32
  let v485 : BitVec 32 := Scalar.muli v484 c256_i32_361
  v485
def k0_mult20 : BitVec 32 :=
  let c0_i32_63 : BitVec 32 := 0#32
  let c32_i32_378 : BitVec 32 := 32#32
  let v508 : BitVec 32 := Scalar.muli c0_i32_63 c32_i32_378
  let c1_i32_379 : BitVec 32 := 1#32
  let v509 : BitVec 32 := Scalar.addi v508 c1_i32_379
  let c256_i32_380 : BitVec 32 := 256#32
  let v510 : BitVec 32 := Scalar.muli v509 c256_i32_380
  v510
def k0_mult21 : BitVec 32 :=
  let c0_i32_63 : BitVec 32 := 0#32
  let c32_i32_397 : BitVec 32 := 32#32
  let v533 : BitVec 32 := Scalar.muli c0_i32_63 c32_i32_397
  let c1_i32_398 : BitVec 32 := 1#32
  let v534 : BitVec 32 := Scalar.addi v533 c1_i32_398
  let c256_i32_399 : BitVec 32 := 256#32
  let v535 : BitVec 32 := Scalar.muli v534 c256_i32_399
  v535
def k0_mult22 : BitVec 32 :=
  let c0_i32_63 : BitVec 32 := 0#32
  let c32_i32_416 : BitVec 32 := 32#32
  let v558 : BitVec 32 := Scalar.muli c0_i32_63 c32_i32_416
  let c1_i32_417 : BitVec 32 := 1#32
  let v559 : BitVec 32 := Scalar.addi v558 c1_i32_417
  let c256_i32_418 : BitVec 32 := 256#32
  let v560 : BitVec 32 := Scalar.muli v559 c256_i32_418
  v560
def k0_mult23 : BitVec 32 :=
  let c0_i32_63 : BitVec 32 := 0#32
  let c32_i32_435 : BitVec 32 := 32#32
  let v583 : BitVec 32 := Scalar.muli c0_i32_63 c32_i32_435
  let c1_i32_436 : BitVec 32 := 1#32
  let v584 : BitVec 32 := Scalar.addi v583 c1_i32_436
  let c256_i32_437 : BitVec 32 := 256#32
  let v585 : BitVec 32 := Scalar.muli v584 c256_i32_437
  v585
def k0_mult24 : BitVec 32 :=
  let c0_i32_63 : BitVec 32 := 0#32
  let c32_i32_454 : BitVec 32 := 32#32
  let v608 : BitVec 32 := Scalar.muli c0_i32_63 c32_i32_454
  let c1_i32_455 : BitVec 32 := 1#32
  let v609 : BitVec 32 := Scalar.addi v608 c1_i32_455
  let c256_i32_456 : BitVec 32 := 256#32
  let v610 : BitVec 32 := Scalar.muli v609 c256_i32_456
  v610
def k0_mult25 : BitVec 32 :=
  let c0_i32_63 : BitVec 32 := 0#32
  let c32_i32_473 : BitVec 32 := 32#32
  let v633 : BitVec 32 := Scalar.muli c0_i32_63 c32_i32_473
  let c2_i32 : BitVec 32 := 2#32
  let v634 : BitVec 32 := Scalar.addi v633 c2_i32
  let c256_i32_474 : BitVec 32 := 256#32
  let v635 : BitVec 32 := Scalar.muli v634 c256_i32_474
  v635
def k0_mult26 : BitVec 32 :=
  let c0_i32_63 : BitVec 32 := 0#32
  let c32_i32_491 : BitVec 32 := 32#32
  let v658 : BitVec 32 := Scalar.muli c0_i32_63 c32_i32_491
  let c2_i32_492 : BitVec 32 := 2#32
  let v659 : BitVec 32 := Scalar.addi v658 c2_i32_492
  let c256_i32_493 : BitVec 32 := 256#32
  let v660 : BitVec 32 := Scalar.muli v659 c256_i32_493
  v660
def k0_mult27 : BitVec 32 :=
  let c0_i32_63 : BitVec 32 := 0#32
  let c32_i32_510 : BitVec 32 := 32#32
  let v683 : BitVec 32 := Scalar.muli c0_i32_63 c32_i32_510
  let c2_i32_511 : BitVec 32 := 2#32
  let v684 : BitVec 32 := Scalar.addi v683 c2_i32_511
  let c256_i32_512 : BitVec 32 := 256#32
  let v685 : BitVec 32 := Scalar.muli v684 c256_i32_512
  v685
def k0_mult28 : BitVec 32 :=
  let c0_i32_63 : BitVec 32 := 0#32
  let c32_i32_529 : BitVec 32 := 32#32
  let v708 : BitVec 32 := Scalar.muli c0_i32_63 c32_i32_529
  let c2_i32_530 : BitVec 32 := 2#32
  let v709 : BitVec 32 := Scalar.addi v708 c2_i32_530
  let c256_i32_531 : BitVec 32 := 256#32
  let v710 : BitVec 32 := Scalar.muli v709 c256_i32_531
  v710
def k0_mult29 : BitVec 32 :=
  let c0_i32_63 : BitVec 32 := 0#32
  let c32_i32_548 : BitVec 32 := 32#32
  let v733 : BitVec 32 := Scalar.muli c0_i32_63 c32_i32_548
  let c2_i32_549 : BitVec 32 := 2#32
  let v734 : BitVec 32 := Scalar.addi v733 c2_i32_549
  let c256_i32_550 : BitVec 32 := 256#32
  let v735 : BitVec 32 := Scalar.muli v734 c256_i32_550
  v735
def k0_mult30 : BitVec 32 :=
  let c0_i32_63 : BitVec 32 := 0#32
  let c32_i32_567 : BitVec 32 := 32#32
  let v758 : BitVec 32 := Scalar.muli c0_i32_63 c32_i32_567
  let c2_i32_568 : BitVec 32 := 2#32
  let v759 : BitVec 32 := Scalar.addi v758 c2_i32_568
  let c256_i32_569 : BitVec 32 := 256#32
  let v760 : BitVec 32 := Scalar.muli v759 c256_i32_569
  v760
def k0_mult31 : BitVec 32 :=
  let c0_i32_63 : BitVec 32 := 0#32
  let c32_i32_586 : BitVec 32 := 32#32
  let v783 : BitVec 32 := Scalar.muli c0_i32_63 c32_i32_586
  let c2_i32_587 : BitVec 32 := 2#32
  let v784 : BitVec 32 := Scalar.addi v783 c2_i32_587
  let c256_i32_588 : BitVec 32 := 256#32
  let v785 : BitVec 32 := Scalar.muli v784 c256_i32_588
  v785
def k0_mult32 : BitVec 32 :=
  let c0_i32_63 : BitVec 32 := 0#32
  let c32_i32_605 : BitVec 32 := 32#32
  let v808 : BitVec 32 := Scalar.muli c0_i32_63 c32_i32_605
  let c2_i32_606 : BitVec 32 := 2#32
  let v809 : BitVec 32 := Scalar.addi v808 c2_i32_606
  let c256_i32_607 : BitVec 32 := 256#32
  let v810 : BitVec 32 := Scalar.muli v809 c256_i32_607
  v810
def k0_mult33 : BitVec 32 :=
  let c0_i32_63 : BitVec 32 := 0#32
  let c32_i32_624 : BitVec 32 := 32#32
  let v833 : BitVec 32 := Scalar.muli c0_i32_63 c32_i32_624
  let c2_i32_625 : BitVec 32 := 2#32
  let v834 : BitVec 32 := Scalar.addi v833 c2_i32_625
  let c256_i32_626 : BitVec 32 := 256#32
  let v835 : BitVec 32 := Scalar.muli v834 c256_i32_626
  v835
def k0_mult34 : BitVec 32 :=
  let c0_i32_63 : BitVec 32 := 0#32
  let c32_i32_643 : BitVec 32 := 32#32
  let v858 : BitVec 32 := Scalar.muli c0_i32_63 c32_i32_643
  let c2_i32_644 : BitVec 32 := 2#32
  let v859 : BitVec 32 := Scalar.addi v858 c2_i32_644
  let c256_i32_645 : BitVec 32 := 256#32
  let v860 : BitVec 32 := Scalar.muli v859 c256_i32_645
  v860
def k0_mult35 : BitVec 32 :=
  let c0_i32_63 : BitVec 32 := 0#32
  let c32_i32_662 : BitVec 32 := 32#32
  let v883 : BitVec 32 := Scalar.muli c0_i32_63 c32_i32_662
  let c2_i32_663 : BitVec 32 := 2#32
  let v884 : BitVec 32 := Scalar.addi v883 c2_i32_663
  let c256_i32_664 : BitVec 32 := 256#32
  let v885 : BitVec 32 := Scalar.muli v884 c256_i32_664
  v885
def k0_mult36 : BitVec 32 :=
  let c0_i32_63 : BitVec 32 := 0#32
  let c32_i32_681 : BitVec 32 := 32#32
  let v908 : BitVec 32 := Scalar.muli c0_i32_63 c32_i32_681
  let c2_i32_682 : BitVec 32 := 2#32
  let v909 : BitVec 32 := Scalar.addi v908 c2_i32_682
  let c256_i32_683 : BitVec 32 := 256#32
  let v910 : BitVec 32 := Scalar.muli v909 c256_i32_683
  v910
def k0_mult37 : BitVec 32 :=
  let c0_i32_63 : BitVec 32 := 0#32
  let c32_i32_700 : BitVec 32 := 32#32
  let v933 : BitVec 32 := Scalar.muli c0_i32_63 c32_i32_700
  let c3_i32 : BitVec 32 := 3#32
  let v934 : BitVec 32 := Scalar.addi v933 c3_i32
  let c256_i32_701 : BitVec 32 := 256#32
  let v935 : BitVec 32 := Scalar.muli v934 c256_i32_701
  v935
def k0_mult38 : BitVec 32 :=
  let c0_i32_63 : BitVec 32 := 0#32
  let c32_i32_718 : BitVec 32 := 32#32
  let v958 : BitVec 32 := Scalar.muli c0_i32_63 c32_i32_718
  let c3_i32_719 : BitVec 32 := 3#32
  let v959 : BitVec 32 := Scalar.addi v958 c3_i32_719
  let c256_i32_720 : BitVec 32 := 256#32
  let v960 : BitVec 32 := Scalar.muli v959 c256_i32_720
  v960
def k0_mult39 : BitVec 32 :=
  let c0_i32_63 : BitVec 32 := 0#32
  let c32_i32_737 : BitVec 32 := 32#32
  let v983 : BitVec 32 := Scalar.muli c0_i32_63 c32_i32_737
  let c3_i32_738 : BitVec 32 := 3#32
  let v984 : BitVec 32 := Scalar.addi v983 c3_i32_738
  let c256_i32_739 : BitVec 32 := 256#32
  let v985 : BitVec 32 := Scalar.muli v984 c256_i32_739
  v985
def k0_mult40 : BitVec 32 :=
  let c0_i32_63 : BitVec 32 := 0#32
  let c32_i32_756 : BitVec 32 := 32#32
  let v1008 : BitVec 32 := Scalar.muli c0_i32_63 c32_i32_756
  let c3_i32_757 : BitVec 32 := 3#32
  let v1009 : BitVec 32 := Scalar.addi v1008 c3_i32_757
  let c256_i32_758 : BitVec 32 := 256#32
  let v1010 : BitVec 32 := Scalar.muli v1009 c256_i32_758
  v1010
def k0_mult41 : BitVec 32 :=
  let c0_i32_63 : BitVec 32 := 0#32
  let c32_i32_775 : BitVec 32 := 32#32
  let v1033 : BitVec 32 := Scalar.muli c0_i32_63 c32_i32_775
  let c3_i32_776 : BitVec 32 := 3#32
  let v1034 : BitVec 32 := Scalar.addi v1033 c3_i32_776
  let c256_i32_777 : BitVec 32 := 256#32
  let v1035 : BitVec 32 := Scalar.muli v1034 c256_i32_777
  v1035
def k0_mult42 : BitVec 32 :=
  let c0_i32_63 : BitVec 32 := 0#32
  let c32_i32_794 : BitVec 32 := 32#32
  let v1058 : BitVec 32 := Scalar.muli c0_i32_63 c32_i32_794
  let c3_i32_795 : BitVec 32 := 3#32
  let v1059 : BitVec 32 := Scalar.addi v1058 c3_i32_795
  let c256_i32_796 : BitVec 32 := 256#32
  let v1060 : BitVec 32 := Scalar.muli v1059 c256_i32_796
  v1060
def k0_mult43 : BitVec 32 :=
  let c0_i32_63 : BitVec 32 := 0#32
  let c32_i32_813 : BitVec 32 := 32#32
  let v1083 : BitVec 32 := Scalar.muli c0_i32_63 c32_i32_813
  let c3_i32_814 : BitVec 32 := 3#32
  let v1084 : BitVec 32 := Scalar.addi v1083 c3_i32_814
  let c256_i32_815 : BitVec 32 := 256#32
  let v1085 : BitVec 32 := Scalar.muli v1084 c256_i32_815
  v1085
def k0_mult44 : BitVec 32 :=
  let c0_i32_63 : BitVec 32 := 0#32
  let c32_i32_832 : BitVec 32 := 32#32
  let v1108 : BitVec 32 := Scalar.muli c0_i32_63 c32_i32_832
  let c3_i32_833 : BitVec 32 := 3#32
  let v1109 : BitVec 32 := Scalar.addi v1108 c3_i32_833
  let c256_i32_834 : BitVec 32 := 256#32
  let v1110 : BitVec 32 := Scalar.muli v1109 c256_i32_834
  v1110
def k0_mult45 : BitVec 32 :=
  let c0_i32_63 : BitVec 32 := 0#32
  let c32_i32_851 : BitVec 32 := 32#32
  let v1133 : BitVec 32 := Scalar.muli c0_i32_63 c32_i32_851
  let c3_i32_852 : BitVec 32 := 3#32
  let v1134 : BitVec 32 := Scalar.addi v1133 c3_i32_852
  let c256_i32_853 : BitVec 32 := 256#32
  let v1135 : BitVec 32 := Scalar.muli v1134 c256_i32_853
  v1135
def k0_mult46 : BitVec 32 :=
  let c0_i32_63 : BitVec 32 := 0#32
  let c32_i32_870 : BitVec 32 := 32#32
  let v1158 : BitVec 32 := Scalar.muli c0_i32_63 c32_i32_870
  let c3_i32_871 : BitVec 32 := 3#32
  let v1159 : BitVec 32 := Scalar.addi v1158 c3_i32_871
  let c256_i32_872 : BitVec 32 := 256#32
  let v1160 : BitVec 32 := Scalar.muli v1159 c256_i32_872
  v1160
def k0_mult47 : BitVec 32 :=
  let c0_i32_63 : BitVec 32 := 0#32
  let c32_i32_889 : BitVec 32 := 32#32
  let v1183 : BitVec 32 := Scalar.muli c0_i32_63 c32_i32_889
  let c3_i32_890 : BitVec 32 := 3#32
  let v1184 : BitVec 32 := Scalar.addi v1183 c3_i32_890
  let c256_i32_891 : BitVec 32 := 256#32
  let v1185 : BitVec 32 := Scalar.muli v1184 c256_i32_891
  v1185
def k0_mult48 : BitVec 32 :=
  let c0_i32_63 : BitVec 32 := 0#32
  let c32_i32_908 : BitVec 32 := 32#32
  let v1208 : BitVec 32 := Scalar.muli c0_i32_63 c32_i32_908
  let c3_i32_909 : BitVec 32 := 3#32
  let v1209 : BitVec 32 := Scalar.addi v1208 c3_i32_909
  let c256_i32_910 : BitVec 32 := 256#32
  let v1210 : BitVec 32 := Scalar.muli v1209 c256_i32_910
  v1210
def k0_mult49 : BitVec 32 :=
  let c0_i32_63 : BitVec 32 := 0#32
  let c32_i32_927 : BitVec 32 := 32#32
  let v1233 : BitVec 32 := Scalar.muli c0_i32_63 c32_i32_927
  let c4_i32 : BitVec 32 := 4#32
  let v1234 : BitVec 32 := Scalar.addi v1233 c4_i32
  let c256_i32_928 : BitVec 32 := 256#32
  let v1235 : BitVec 32 := Scalar.muli v1234 c256_i32_928
  v1235
def k0_mult50 : BitVec 32 :=
  let c0_i32_63 : BitVec 32 := 0#32
  let c32_i32_945 : BitVec 32 := 32#32
  let v1258 : BitVec 32 := Scalar.muli c0_i32_63 c32_i32_945
  let c4_i32_946 : BitVec 32 := 4#32
  let v1259 : BitVec 32 := Scalar.addi v1258 c4_i32_946
  let c256_i32_947 : BitVec 32 := 256#32
  let v1260 : BitVec 32 := Scalar.muli v1259 c256_i32_947
  v1260
def k0_mult51 : BitVec 32 :=
  let c0_i32_63 : BitVec 32 := 0#32
  let c32_i32_964 : BitVec 32 := 32#32
  let v1283 : BitVec 32 := Scalar.muli c0_i32_63 c32_i32_964
  let c4_i32_965 : BitVec 32 := 4#32
  let v1284 : BitVec 32 := Scalar.addi v1283 c4_i32_965
  let c256_i32_966 : BitVec 32 := 256#32
  let v1285 : BitVec 32 := Scalar.muli v1284 c256_i32_966
  v1285
def k0_mult52 : BitVec 32 :=
  let c0_i32_63 : BitVec 32 := 0#32
  let c32_i32_983 : BitVec 32 := 32#32
  let v1308 : BitVec 32 := Scalar.muli c0_i32_63 c32_i32_983
  let c4_i32_984 : BitVec 32 := 4#32
  let v1309 : BitVec 32 := Scalar.addi v1308 c4_i32_984
  let c256_i32_985 : BitVec 32 := 256#32
  let v1310 : BitVec 32 := Scalar.muli v1309 c256_i32_985
  v1310
def k0_mult53 : BitVec 32 :=
  let c0_i32_63 : BitVec 32 := 0#32
  let c32_i32_1002 : BitVec 32 := 32#32
  let v1333 : BitVec 32 := Scalar.muli c0_i32_63 c32_i32_1002
  let c4_i32_1003 : BitVec 32 := 4#32
  let v1334 : BitVec 32 := Scalar.addi v1333 c4_i32_1003
  let c256_i32_1004 : BitVec 32 := 256#32
  let v1335 : BitVec 32 := Scalar.muli v1334 c256_i32_1004
  v1335
def k0_mult54 : BitVec 32 :=
  let c0_i32_63 : BitVec 32 := 0#32
  let c32_i32_1021 : BitVec 32 := 32#32
  let v1358 : BitVec 32 := Scalar.muli c0_i32_63 c32_i32_1021
  let c4_i32_1022 : BitVec 32 := 4#32
  let v1359 : BitVec 32 := Scalar.addi v1358 c4_i32_1022
  let c256_i32_1023 : BitVec 32 := 256#32
  let v1360 : BitVec 32 := Scalar.muli v1359 c256_i32_1023
  v1360
def k0_mult55 : BitVec 32 :=
  let c0_i32_63 : BitVec 32 := 0#32
  let c32_i32_1040 : BitVec 32 := 32#32
  let v1383 : BitVec 32 := Scalar.muli c0_i32_63 c32_i32_1040
  let c4_i32_1041 : BitVec 32 := 4#32
  let v1384 : BitVec 32 := Scalar.addi v1383 c4_i32_1041
  let c256_i32_1042 : BitVec 32 := 256#32
  let v1385 : BitVec 32 := Scalar.muli v1384 c256_i32_1042
  v1385
def k0_mult56 : BitVec 32 :=
  let c0_i32_63 : BitVec 32 := 0#32
  let c32_i32_1059 : BitVec 32 := 32#32
  let v1408 : BitVec 32 := Scalar.muli c0_i32_63 c32_i32_1059
  let c4_i32_1060 : BitVec 32 := 4#32
  let v1409 : BitVec 32 := Scalar.addi v1408 c4_i32_1060
  let c256_i32_1061 : BitVec 32 := 256#32
  let v1410 : BitVec 32 := Scalar.muli v1409 c256_i32_1061
  v1410
def k0_mult57 : BitVec 32 :=
  let c0_i32_63 : BitVec 32 := 0#32
  let c32_i32_1078 : BitVec 32 := 32#32
  let v1433 : BitVec 32 := Scalar.muli c0_i32_63 c32_i32_1078
  let c4_i32_1079 : BitVec 32 := 4#32
  let v1434 : BitVec 32 := Scalar.addi v1433 c4_i32_1079
  let c256_i32_1080 : BitVec 32 := 256#32
  let v1435 : BitVec 32 := Scalar.muli v1434 c256_i32_1080
  v1435
def k0_mult58 : BitVec 32 :=
  let c0_i32_63 : BitVec 32 := 0#32
  let c32_i32_1097 : BitVec 32 := 32#32
  let v1458 : BitVec 32 := Scalar.muli c0_i32_63 c32_i32_1097
  let c4_i32_1098 : BitVec 32 := 4#32
  let v1459 : BitVec 32 := Scalar.addi v1458 c4_i32_1098
  let c256_i32_1099 : BitVec 32 := 256#32
  let v1460 : BitVec 32 := Scalar.muli v1459 c256_i32_1099
  v1460
def k0_mult59 : BitVec 32 :=
  let c0_i32_63 : BitVec 32 := 0#32
  let c32_i32_1116 : BitVec 32 := 32#32
  let v1483 : BitVec 32 := Scalar.muli c0_i32_63 c32_i32_1116
  let c4_i32_1117 : BitVec 32 := 4#32
  let v1484 : BitVec 32 := Scalar.addi v1483 c4_i32_1117
  let c256_i32_1118 : BitVec 32 := 256#32
  let v1485 : BitVec 32 := Scalar.muli v1484 c256_i32_1118
  v1485
def k0_mult60 : BitVec 32 :=
  let c0_i32_63 : BitVec 32 := 0#32
  let c32_i32_1135 : BitVec 32 := 32#32
  let v1508 : BitVec 32 := Scalar.muli c0_i32_63 c32_i32_1135
  let c4_i32_1136 : BitVec 32 := 4#32
  let v1509 : BitVec 32 := Scalar.addi v1508 c4_i32_1136
  let c256_i32_1137 : BitVec 32 := 256#32
  let v1510 : BitVec 32 := Scalar.muli v1509 c256_i32_1137
  v1510
def k0_mult61 : BitVec 32 :=
  let c0_i32_63 : BitVec 32 := 0#32
  let c32_i32_1154 : BitVec 32 := 32#32
  let v1533 : BitVec 32 := Scalar.muli c0_i32_63 c32_i32_1154
  let c5_i32 : BitVec 32 := 5#32
  let v1534 : BitVec 32 := Scalar.addi v1533 c5_i32
  let c256_i32_1155 : BitVec 32 := 256#32
  let v1535 : BitVec 32 := Scalar.muli v1534 c256_i32_1155
  v1535
def k0_mult62 : BitVec 32 :=
  let c0_i32_63 : BitVec 32 := 0#32
  let c32_i32_1172 : BitVec 32 := 32#32
  let v1558 : BitVec 32 := Scalar.muli c0_i32_63 c32_i32_1172
  let c5_i32_1173 : BitVec 32 := 5#32
  let v1559 : BitVec 32 := Scalar.addi v1558 c5_i32_1173
  let c256_i32_1174 : BitVec 32 := 256#32
  let v1560 : BitVec 32 := Scalar.muli v1559 c256_i32_1174
  v1560
def k0_mult63 : BitVec 32 :=
  let c0_i32_63 : BitVec 32 := 0#32
  let c32_i32_1191 : BitVec 32 := 32#32
  let v1583 : BitVec 32 := Scalar.muli c0_i32_63 c32_i32_1191
  let c5_i32_1192 : BitVec 32 := 5#32
  let v1584 : BitVec 32 := Scalar.addi v1583 c5_i32_1192
  let c256_i32_1193 : BitVec 32 := 256#32
  let v1585 : BitVec 32 := Scalar.muli v1584 c256_i32_1193
  v1585
def k0_mult64 : BitVec 32 :=
  let c0_i32_63 : BitVec 32 := 0#32
  let c32_i32_1210 : BitVec 32 := 32#32
  let v1608 : BitVec 32 := Scalar.muli c0_i32_63 c32_i32_1210
  let c5_i32_1211 : BitVec 32 := 5#32
  let v1609 : BitVec 32 := Scalar.addi v1608 c5_i32_1211
  let c256_i32_1212 : BitVec 32 := 256#32
  let v1610 : BitVec 32 := Scalar.muli v1609 c256_i32_1212
  v1610
def k0_mult65 : BitVec 32 :=
  let c0_i32_63 : BitVec 32 := 0#32
  let c32_i32_1229 : BitVec 32 := 32#32
  let v1633 : BitVec 32 := Scalar.muli c0_i32_63 c32_i32_1229
  let c5_i32_1230 : BitVec 32 := 5#32
  let v1634 : BitVec 32 := Scalar.addi v1633 c5_i32_1230
  let c256_i32_1231 : BitVec 32 := 256#32
  let v1635 : BitVec 32 := Scalar.muli v1634 c256_i32_1231
  v1635
def k0_mult66 : BitVec 32 :=
  let c0_i32_63 : BitVec 32 := 0#32
  let c32_i32_1248 : BitVec 32 := 32#32
  let v1658 : BitVec 32 := Scalar.muli c0_i32_63 c32_i32_1248
  let c5_i32_1249 : BitVec 32 := 5#32
  let v1659 : BitVec 32 := Scalar.addi v1658 c5_i32_1249
  let c256_i32_1250 : BitVec 32 := 256#32
  let v1660 : BitVec 32 := Scalar.muli v1659 c256_i32_1250
  v1660
def k0_mult67 : BitVec 32 :=
  let c0_i32_63 : BitVec 32 := 0#32
  let c32_i32_1267 : BitVec 32 := 32#32
  let v1683 : BitVec 32 := Scalar.muli c0_i32_63 c32_i32_1267
  let c5_i32_1268 : BitVec 32 := 5#32
  let v1684 : BitVec 32 := Scalar.addi v1683 c5_i32_1268
  let c256_i32_1269 : BitVec 32 := 256#32
  let v1685 : BitVec 32 := Scalar.muli v1684 c256_i32_1269
  v1685
def k0_mult68 : BitVec 32 :=
  let c0_i32_63 : BitVec 32 := 0#32
  let c32_i32_1286 : BitVec 32 := 32#32
  let v1708 : BitVec 32 := Scalar.muli c0_i32_63 c32_i32_1286
  let c5_i32_1287 : BitVec 32 := 5#32
  let v1709 : BitVec 32 := Scalar.addi v1708 c5_i32_1287
  let c256_i32_1288 : BitVec 32 := 256#32
  let v1710 : BitVec 32 := Scalar.muli v1709 c256_i32_1288
  v1710
def k0_mult69 : BitVec 32 :=
  let c0_i32_63 : BitVec 32 := 0#32
  let c32_i32_1305 : BitVec 32 := 32#32
  let v1733 : BitVec 32 := Scalar.muli c0_i32_63 c32_i32_1305
  let c5_i32_1306 : BitVec 32 := 5#32
  let v1734 : BitVec 32 := Scalar.addi v1733 c5_i32_1306
  let c256_i32_1307 : BitVec 32 := 256#32
  let v1735 : BitVec 32 := Scalar.muli v1734 c256_i32_1307
  v1735
def k0_mult70 : BitVec 32 :=
  let c0_i32_63 : BitVec 32 := 0#32
  let c32_i32_1324 : BitVec 32 := 32#32
  let v1758 : BitVec 32 := Scalar.muli c0_i32_63 c32_i32_1324
  let c5_i32_1325 : BitVec 32 := 5#32
  let v1759 : BitVec 32 := Scalar.addi v1758 c5_i32_1325
  let c256_i32_1326 : BitVec 32 := 256#32
  let v1760 : BitVec 32 := Scalar.muli v1759 c256_i32_1326
  v1760
def k0_mult71 : BitVec 32 :=
  let c0_i32_63 : BitVec 32 := 0#32
  let c32_i32_1343 : BitVec 32 := 32#32
  let v1783 : BitVec 32 := Scalar.muli c0_i32_63 c32_i32_1343
  let c5_i32_1344 : BitVec 32 := 5#32
  let v1784 : BitVec 32 := Scalar.addi v1783 c5_i32_1344
  let c256_i32_1345 : BitVec 32 := 256#32
  let v1785 : BitVec 32 := Scalar.muli v1784 c256_i32_1345
  v1785
def k0_mult72 : BitVec 32 :=
  let c0_i32_63 : BitVec 32 := 0#32
  let c32_i32_1362 : BitVec 32 := 32#32
  let v1808 : BitVec 32 := Scalar.muli c0_i32_63 c32_i32_1362
  let c5_i32_1363 : BitVec 32 := 5#32
  let v1809 : BitVec 32 := Scalar.addi v1808 c5_i32_1363
  let c256_i32_1364 : BitVec 32 := 256#32
  let v1810 : BitVec 32 := Scalar.muli v1809 c256_i32_1364
  v1810
def k0_mult73 : BitVec 32 :=
  let c0_i32_63 : BitVec 32 := 0#32
  let c32_i32_1381 : BitVec 32 := 32#32
  let v1833 : BitVec 32 := Scalar.muli c0_i32_63 c32_i32_1381
  let c6_i32 : BitVec 32 := 6#32
  let v1834 : BitVec 32 := Scalar.addi v1833 c6_i32
  let c256_i32_1382 : BitVec 32 := 256#32
  let v1835 : BitVec 32 := Scalar.muli v1834 c256_i32_1382
  v1835
def k0_mult74 : BitVec 32 :=
  let c0_i32_63 : BitVec 32 := 0#32
  let c32_i32_1399 : BitVec 32 := 32#32
  let v1858 : BitVec 32 := Scalar.muli c0_i32_63 c32_i32_1399
  let c6_i32_1400 : BitVec 32 := 6#32
  let v1859 : BitVec 32 := Scalar.addi v1858 c6_i32_1400
  let c256_i32_1401 : BitVec 32 := 256#32
  let v1860 : BitVec 32 := Scalar.muli v1859 c256_i32_1401
  v1860
def k0_mult75 : BitVec 32 :=
  let c0_i32_63 : BitVec 32 := 0#32
  let c32_i32_1418 : BitVec 32 := 32#32
  let v1883 : BitVec 32 := Scalar.muli c0_i32_63 c32_i32_1418
  let c6_i32_1419 : BitVec 32 := 6#32
  let v1884 : BitVec 32 := Scalar.addi v1883 c6_i32_1419
  let c256_i32_1420 : BitVec 32 := 256#32
  let v1885 : BitVec 32 := Scalar.muli v1884 c256_i32_1420
  v1885
def k0_mult76 : BitVec 32 :=
  let c0_i32_63 : BitVec 32 := 0#32
  let c32_i32_1437 : BitVec 32 := 32#32
  let v1908 : BitVec 32 := Scalar.muli c0_i32_63 c32_i32_1437
  let c6_i32_1438 : BitVec 32 := 6#32
  let v1909 : BitVec 32 := Scalar.addi v1908 c6_i32_1438
  let c256_i32_1439 : BitVec 32 := 256#32
  let v1910 : BitVec 32 := Scalar.muli v1909 c256_i32_1439
  v1910
def k0_mult77 : BitVec 32 :=
  let c0_i32_63 : BitVec 32 := 0#32
  let c32_i32_1456 : BitVec 32 := 32#32
  let v1933 : BitVec 32 := Scalar.muli c0_i32_63 c32_i32_1456
  let c6_i32_1457 : BitVec 32 := 6#32
  let v1934 : BitVec 32 := Scalar.addi v1933 c6_i32_1457
  let c256_i32_1458 : BitVec 32 := 256#32
  let v1935 : BitVec 32 := Scalar.muli v1934 c256_i32_1458
  v1935
def k0_mult78 : BitVec 32 :=
  let c0_i32_63 : BitVec 32 := 0#32
  let c32_i32_1475 : BitVec 32 := 32#32
  let v1958 : BitVec 32 := Scalar.muli c0_i32_63 c32_i32_1475
  let c6_i32_1476 : BitVec 32 := 6#32
  let v1959 : BitVec 32 := Scalar.addi v1958 c6_i32_1476
  let c256_i32_1477 : BitVec 32 := 256#32
  let v1960 : BitVec 32 := Scalar.muli v1959 c256_i32_1477
  v1960
def k0_mult79 : BitVec 32 :=
  let c0_i32_63 : BitVec 32 := 0#32
  let c32_i32_1494 : BitVec 32 := 32#32
  let v1983 : BitVec 32 := Scalar.muli c0_i32_63 c32_i32_1494
  let c6_i32_1495 : BitVec 32 := 6#32
  let v1984 : BitVec 32 := Scalar.addi v1983 c6_i32_1495
  let c256_i32_1496 : BitVec 32 := 256#32
  let v1985 : BitVec 32 := Scalar.muli v1984 c256_i32_1496
  v1985
def k0_mult80 : BitVec 32 :=
  let c0_i32_63 : BitVec 32 := 0#32
  let c32_i32_1513 : BitVec 32 := 32#32
  let v2008 : BitVec 32 := Scalar.muli c0_i32_63 c32_i32_1513
  let c6_i32_1514 : BitVec 32 := 6#32
  let v2009 : BitVec 32 := Scalar.addi v2008 c6_i32_1514
  let c256_i32_1515 : BitVec 32 := 256#32
  let v2010 : BitVec 32 := Scalar.muli v2009 c256_i32_1515
  v2010
def k0_mult81 : BitVec 32 :=
  let c0_i32_63 : BitVec 32 := 0#32
  let c32_i32_1532 : BitVec 32 := 32#32
  let v2033 : BitVec 32 := Scalar.muli c0_i32_63 c32_i32_1532
  let c6_i32_1533 : BitVec 32 := 6#32
  let v2034 : BitVec 32 := Scalar.addi v2033 c6_i32_1533
  let c256_i32_1534 : BitVec 32 := 256#32
  let v2035 : BitVec 32 := Scalar.muli v2034 c256_i32_1534
  v2035
def k0_mult82 : BitVec 32 :=
  let c0_i32_63 : BitVec 32 := 0#32
  let c32_i32_1551 : BitVec 32 := 32#32
  let v2058 : BitVec 32 := Scalar.muli c0_i32_63 c32_i32_1551
  let c6_i32_1552 : BitVec 32 := 6#32
  let v2059 : BitVec 32 := Scalar.addi v2058 c6_i32_1552
  let c256_i32_1553 : BitVec 32 := 256#32
  let v2060 : BitVec 32 := Scalar.muli v2059 c256_i32_1553
  v2060
def k0_mult83 : BitVec 32 :=
  let c0_i32_63 : BitVec 32 := 0#32
  let c32_i32_1570 : BitVec 32 := 32#32
  let v2083 : BitVec 32 := Scalar.muli c0_i32_63 c32_i32_1570
  let c6_i32_1571 : BitVec 32 := 6#32
  let v2084 : BitVec 32 := Scalar.addi v2083 c6_i32_1571
  let c256_i32_1572 : BitVec 32 := 256#32
  let v2085 : BitVec 32 := Scalar.muli v2084 c256_i32_1572
  v2085
def k0_mult84 : BitVec 32 :=
  let c0_i32_63 : BitVec 32 := 0#32
  let c32_i32_1589 : BitVec 32 := 32#32
  let v2108 : BitVec 32 := Scalar.muli c0_i32_63 c32_i32_1589
  let c6_i32_1590 : BitVec 32 := 6#32
  let v2109 : BitVec 32 := Scalar.addi v2108 c6_i32_1590
  let c256_i32_1591 : BitVec 32 := 256#32
  let v2110 : BitVec 32 := Scalar.muli v2109 c256_i32_1591
  v2110
def k0_mult85 : BitVec 32 :=
  let c0_i32_63 : BitVec 32 := 0#32
  let c32_i32_1608 : BitVec 32 := 32#32
  let v2133 : BitVec 32 := Scalar.muli c0_i32_63 c32_i32_1608
  let c7_i32 : BitVec 32 := 7#32
  let v2134 : BitVec 32 := Scalar.addi v2133 c7_i32
  let c256_i32_1609 : BitVec 32 := 256#32
  let v2135 : BitVec 32 := Scalar.muli v2134 c256_i32_1609
  v2135
def k0_mult86 : BitVec 32 :=
  let c0_i32_63 : BitVec 32 := 0#32
  let c32_i32_1626 : BitVec 32 := 32#32
  let v2158 : BitVec 32 := Scalar.muli c0_i32_63 c32_i32_1626
  let c7_i32_1627 : BitVec 32 := 7#32
  let v2159 : BitVec 32 := Scalar.addi v2158 c7_i32_1627
  let c256_i32_1628 : BitVec 32 := 256#32
  let v2160 : BitVec 32 := Scalar.muli v2159 c256_i32_1628
  v2160
def k0_mult87 : BitVec 32 :=
  let c0_i32_63 : BitVec 32 := 0#32
  let c32_i32_1645 : BitVec 32 := 32#32
  let v2183 : BitVec 32 := Scalar.muli c0_i32_63 c32_i32_1645
  let c7_i32_1646 : BitVec 32 := 7#32
  let v2184 : BitVec 32 := Scalar.addi v2183 c7_i32_1646
  let c256_i32_1647 : BitVec 32 := 256#32
  let v2185 : BitVec 32 := Scalar.muli v2184 c256_i32_1647
  v2185
def k0_mult88 : BitVec 32 :=
  let c0_i32_63 : BitVec 32 := 0#32
  let c32_i32_1664 : BitVec 32 := 32#32
  let v2208 : BitVec 32 := Scalar.muli c0_i32_63 c32_i32_1664
  let c7_i32_1665 : BitVec 32 := 7#32
  let v2209 : BitVec 32 := Scalar.addi v2208 c7_i32_1665
  let c256_i32_1666 : BitVec 32 := 256#32
  let v2210 : BitVec 32 := Scalar.muli v2209 c256_i32_1666
  v2210
def k0_mult89 : BitVec 32 :=
  let c0_i32_63 : BitVec 32 := 0#32
  let c32_i32_1683 : BitVec 32 := 32#32
  let v2233 : BitVec 32 := Scalar.muli c0_i32_63 c32_i32_1683
  let c7_i32_1684 : BitVec 32 := 7#32
  let v2234 : BitVec 32 := Scalar.addi v2233 c7_i32_1684
  let c256_i32_1685 : BitVec 32 := 256#32
  let v2235 : BitVec 32 := Scalar.muli v2234 c256_i32_1685
  v2235
def k0_mult90 : BitVec 32 :=
  let c0_i32_63 : BitVec 32 := 0#32
  let c32_i32_1702 : BitVec 32 := 32#32
  let v2258 : BitVec 32 := Scalar.muli c0_i32_63 c32_i32_1702
  let c7_i32_1703 : BitVec 32 := 7#32
  let v2259 : BitVec 32 := Scalar.addi v2258 c7_i32_1703
  let c256_i32_1704 : BitVec 32 := 256#32
  let v2260 : BitVec 32 := Scalar.muli v2259 c256_i32_1704
  v2260
def k0_mult91 : BitVec 32 :=
  let c0_i32_63 : BitVec 32 := 0#32
  let c32_i32_1721 : BitVec 32 := 32#32
  let v2283 : BitVec 32 := Scalar.muli c0_i32_63 c32_i32_1721
  let c7_i32_1722 : BitVec 32 := 7#32
  let v2284 : BitVec 32 := Scalar.addi v2283 c7_i32_1722
  let c256_i32_1723 : BitVec 32 := 256#32
  let v2285 : BitVec 32 := Scalar.muli v2284 c256_i32_1723
  v2285
def k0_mult92 : BitVec 32 :=
  let c0_i32_63 : BitVec 32 := 0#32
  let c32_i32_1740 : BitVec 32 := 32#32
  let v2308 : BitVec 32 := Scalar.muli c0_i32_63 c32_i32_1740
  let c7_i32_1741 : BitVec 32 := 7#32
  let v2309 : BitVec 32 := Scalar.addi v2308 c7_i32_1741
  let c256_i32_1742 : BitVec 32 := 256#32
  let v2310 : BitVec 32 := Scalar.muli v2309 c256_i32_1742
  v2310
def k0_mult93 : BitVec 32 :=
  let c0_i32_63 : BitVec 32 := 0#32
  let c32_i32_1759 : BitVec 32 := 32#32
  let v2333 : BitVec 32 := Scalar.muli c0_i32_63 c32_i32_1759
  let c7_i32_1760 : BitVec 32 := 7#32
  let v2334 : BitVec 32 := Scalar.addi v2333 c7_i32_1760
  let c256_i32_1761 : BitVec 32 := 256#32
  let v2335 : BitVec 32 := Scalar.muli v2334 c256_i32_1761
  v2335
def k0_mult94 : BitVec 32 :=
  let c0_i32_63 : BitVec 32 := 0#32
  let c32_i32_1778 : BitVec 32 := 32#32
  let v2358 : BitVec 32 := Scalar.muli c0_i32_63 c32_i32_1778
  let c7_i32_1779 : BitVec 32 := 7#32
  let v2359 : BitVec 32 := Scalar.addi v2358 c7_i32_1779
  let c256_i32_1780 : BitVec 32 := 256#32
  let v2360 : BitVec 32 := Scalar.muli v2359 c256_i32_1780
  v2360
def k0_mult95 : BitVec 32 :=
  let c0_i32_63 : BitVec 32 := 0#32
  let c32_i32_1797 : BitVec 32 := 32#32
  let v2383 : BitVec 32 := Scalar.muli c0_i32_63 c32_i32_1797
  let c7_i32_1798 : BitVec 32 := 7#32
  let v2384 : BitVec 32 := Scalar.addi v2383 c7_i32_1798
  let c256_i32_1799 : BitVec 32 := 256#32
  let v2385 : BitVec 32 := Scalar.muli v2384 c256_i32_1799
  v2385
def k0_mult96 : BitVec 32 :=
  let c0_i32_63 : BitVec 32 := 0#32
  let c32_i32_1816 : BitVec 32 := 32#32
  let v2408 : BitVec 32 := Scalar.muli c0_i32_63 c32_i32_1816
  let c7_i32_1817 : BitVec 32 := 7#32
  let v2409 : BitVec 32 := Scalar.addi v2408 c7_i32_1817
  let c256_i32_1818 : BitVec 32 := 256#32
  let v2410 : BitVec 32 := Scalar.muli v2409 c256_i32_1818
  v2410
def k0_mult97 : BitVec 32 :=
  let c0_i32_63 : BitVec 32 := 0#32
  let c32_i32_1835 : BitVec 32 := 32#32
  let v2433 : BitVec 32 := Scalar.muli c0_i32_63 c32_i32_1835
  let c8_i32 : BitVec 32 := 8#32
  let v2434 : BitVec 32 := Scalar.addi v2433 c8_i32
  let c256_i32_1836 : BitVec 32 := 256#32
  let v2435 : BitVec 32 := Scalar.muli v2434 c256_i32_1836
  v2435
def k0_mult98 : BitVec 32 :=
  let c0_i32_63 : BitVec 32 := 0#32
  let c32_i32_1853 : BitVec 32 := 32#32
  let v2458 : BitVec 32 := Scalar.muli c0_i32_63 c32_i32_1853
  let c8_i32_1854 : BitVec 32 := 8#32
  let v2459 : BitVec 32 := Scalar.addi v2458 c8_i32_1854
  let c256_i32_1855 : BitVec 32 := 256#32
  let v2460 : BitVec 32 := Scalar.muli v2459 c256_i32_1855
  v2460
def k0_mult99 : BitVec 32 :=
  let c0_i32_63 : BitVec 32 := 0#32
  let c32_i32_1872 : BitVec 32 := 32#32
  let v2483 : BitVec 32 := Scalar.muli c0_i32_63 c32_i32_1872
  let c8_i32_1873 : BitVec 32 := 8#32
  let v2484 : BitVec 32 := Scalar.addi v2483 c8_i32_1873
  let c256_i32_1874 : BitVec 32 := 256#32
  let v2485 : BitVec 32 := Scalar.muli v2484 c256_i32_1874
  v2485
def k0_mult100 : BitVec 32 :=
  let c0_i32_63 : BitVec 32 := 0#32
  let c32_i32_1891 : BitVec 32 := 32#32
  let v2508 : BitVec 32 := Scalar.muli c0_i32_63 c32_i32_1891
  let c8_i32_1892 : BitVec 32 := 8#32
  let v2509 : BitVec 32 := Scalar.addi v2508 c8_i32_1892
  let c256_i32_1893 : BitVec 32 := 256#32
  let v2510 : BitVec 32 := Scalar.muli v2509 c256_i32_1893
  v2510
def k0_mult101 : BitVec 32 :=
  let c0_i32_63 : BitVec 32 := 0#32
  let c32_i32_1910 : BitVec 32 := 32#32
  let v2533 : BitVec 32 := Scalar.muli c0_i32_63 c32_i32_1910
  let c8_i32_1911 : BitVec 32 := 8#32
  let v2534 : BitVec 32 := Scalar.addi v2533 c8_i32_1911
  let c256_i32_1912 : BitVec 32 := 256#32
  let v2535 : BitVec 32 := Scalar.muli v2534 c256_i32_1912
  v2535
def k0_mult102 : BitVec 32 :=
  let c0_i32_63 : BitVec 32 := 0#32
  let c32_i32_1929 : BitVec 32 := 32#32
  let v2558 : BitVec 32 := Scalar.muli c0_i32_63 c32_i32_1929
  let c8_i32_1930 : BitVec 32 := 8#32
  let v2559 : BitVec 32 := Scalar.addi v2558 c8_i32_1930
  let c256_i32_1931 : BitVec 32 := 256#32
  let v2560 : BitVec 32 := Scalar.muli v2559 c256_i32_1931
  v2560
def k0_mult103 : BitVec 32 :=
  let c0_i32_63 : BitVec 32 := 0#32
  let c32_i32_1948 : BitVec 32 := 32#32
  let v2583 : BitVec 32 := Scalar.muli c0_i32_63 c32_i32_1948
  let c8_i32_1949 : BitVec 32 := 8#32
  let v2584 : BitVec 32 := Scalar.addi v2583 c8_i32_1949
  let c256_i32_1950 : BitVec 32 := 256#32
  let v2585 : BitVec 32 := Scalar.muli v2584 c256_i32_1950
  v2585
def k0_mult104 : BitVec 32 :=
  let c0_i32_63 : BitVec 32 := 0#32
  let c32_i32_1967 : BitVec 32 := 32#32
  let v2608 : BitVec 32 := Scalar.muli c0_i32_63 c32_i32_1967
  let c8_i32_1968 : BitVec 32 := 8#32
  let v2609 : BitVec 32 := Scalar.addi v2608 c8_i32_1968
  let c256_i32_1969 : BitVec 32 := 256#32
  let v2610 : BitVec 32 := Scalar.muli v2609 c256_i32_1969
  v2610
def k0_mult105 : BitVec 32 :=
  let c0_i32_63 : BitVec 32 := 0#32
  let c32_i32_1986 : BitVec 32 := 32#32
  let v2633 : BitVec 32 := Scalar.muli c0_i32_63 c32_i32_1986
  let c8_i32_1987 : BitVec 32 := 8#32
  let v2634 : BitVec 32 := Scalar.addi v2633 c8_i32_1987
  let c256_i32_1988 : BitVec 32 := 256#32
  let v2635 : BitVec 32 := Scalar.muli v2634 c256_i32_1988
  v2635
def k0_mult106 : BitVec 32 :=
  let c0_i32_63 : BitVec 32 := 0#32
  let c32_i32_2005 : BitVec 32 := 32#32
  let v2658 : BitVec 32 := Scalar.muli c0_i32_63 c32_i32_2005
  let c8_i32_2006 : BitVec 32 := 8#32
  let v2659 : BitVec 32 := Scalar.addi v2658 c8_i32_2006
  let c256_i32_2007 : BitVec 32 := 256#32
  let v2660 : BitVec 32 := Scalar.muli v2659 c256_i32_2007
  v2660
def k0_mult107 : BitVec 32 :=
  let c0_i32_63 : BitVec 32 := 0#32
  let c32_i32_2024 : BitVec 32 := 32#32
  let v2683 : BitVec 32 := Scalar.muli c0_i32_63 c32_i32_2024
  let c8_i32_2025 : BitVec 32 := 8#32
  let v2684 : BitVec 32 := Scalar.addi v2683 c8_i32_2025
  let c256_i32_2026 : BitVec 32 := 256#32
  let v2685 : BitVec 32 := Scalar.muli v2684 c256_i32_2026
  v2685
def k0_mult108 : BitVec 32 :=
  let c0_i32_63 : BitVec 32 := 0#32
  let c32_i32_2043 : BitVec 32 := 32#32
  let v2708 : BitVec 32 := Scalar.muli c0_i32_63 c32_i32_2043
  let c8_i32_2044 : BitVec 32 := 8#32
  let v2709 : BitVec 32 := Scalar.addi v2708 c8_i32_2044
  let c256_i32_2045 : BitVec 32 := 256#32
  let v2710 : BitVec 32 := Scalar.muli v2709 c256_i32_2045
  v2710
def k0_mult109 : BitVec 32 :=
  let c0_i32_63 : BitVec 32 := 0#32
  let c32_i32_2062 : BitVec 32 := 32#32
  let v2733 : BitVec 32 := Scalar.muli c0_i32_63 c32_i32_2062
  let c9_i32 : BitVec 32 := 9#32
  let v2734 : BitVec 32 := Scalar.addi v2733 c9_i32
  let c256_i32_2063 : BitVec 32 := 256#32
  let v2735 : BitVec 32 := Scalar.muli v2734 c256_i32_2063
  v2735
def k0_mult110 : BitVec 32 :=
  let c0_i32_63 : BitVec 32 := 0#32
  let c32_i32_2080 : BitVec 32 := 32#32
  let v2758 : BitVec 32 := Scalar.muli c0_i32_63 c32_i32_2080
  let c9_i32_2081 : BitVec 32 := 9#32
  let v2759 : BitVec 32 := Scalar.addi v2758 c9_i32_2081
  let c256_i32_2082 : BitVec 32 := 256#32
  let v2760 : BitVec 32 := Scalar.muli v2759 c256_i32_2082
  v2760
def k0_mult111 : BitVec 32 :=
  let c0_i32_63 : BitVec 32 := 0#32
  let c32_i32_2099 : BitVec 32 := 32#32
  let v2783 : BitVec 32 := Scalar.muli c0_i32_63 c32_i32_2099
  let c9_i32_2100 : BitVec 32 := 9#32
  let v2784 : BitVec 32 := Scalar.addi v2783 c9_i32_2100
  let c256_i32_2101 : BitVec 32 := 256#32
  let v2785 : BitVec 32 := Scalar.muli v2784 c256_i32_2101
  v2785
def k0_mult112 : BitVec 32 :=
  let c0_i32_63 : BitVec 32 := 0#32
  let c32_i32_2118 : BitVec 32 := 32#32
  let v2808 : BitVec 32 := Scalar.muli c0_i32_63 c32_i32_2118
  let c9_i32_2119 : BitVec 32 := 9#32
  let v2809 : BitVec 32 := Scalar.addi v2808 c9_i32_2119
  let c256_i32_2120 : BitVec 32 := 256#32
  let v2810 : BitVec 32 := Scalar.muli v2809 c256_i32_2120
  v2810
def k0_mult113 : BitVec 32 :=
  let c0_i32_63 : BitVec 32 := 0#32
  let c32_i32_2137 : BitVec 32 := 32#32
  let v2833 : BitVec 32 := Scalar.muli c0_i32_63 c32_i32_2137
  let c9_i32_2138 : BitVec 32 := 9#32
  let v2834 : BitVec 32 := Scalar.addi v2833 c9_i32_2138
  let c256_i32_2139 : BitVec 32 := 256#32
  let v2835 : BitVec 32 := Scalar.muli v2834 c256_i32_2139
  v2835
def k0_mult114 : BitVec 32 :=
  let c0_i32_63 : BitVec 32 := 0#32
  let c32_i32_2156 : BitVec 32 := 32#32
  let v2858 : BitVec 32 := Scalar.muli c0_i32_63 c32_i32_2156
  let c9_i32_2157 : BitVec 32 := 9#32
  let v2859 : BitVec 32 := Scalar.addi v2858 c9_i32_2157
  let c256_i32_2158 : BitVec 32 := 256#32
  let v2860 : BitVec 32 := Scalar.muli v2859 c256_i32_2158
  v2860
def k0_mult115 : BitVec 32 :=
  let c0_i32_63 : BitVec 32 := 0#32
  let c32_i32_2175 : BitVec 32 := 32#32
  let v2883 : BitVec 32 := Scalar.muli c0_i32_63 c32_i32_2175
  let c9_i32_2176 : BitVec 32 := 9#32
  let v2884 : BitVec 32 := Scalar.addi v2883 c9_i32_2176
  let c256_i32_2177 : BitVec 32 := 256#32
  let v2885 : BitVec 32 := Scalar.muli v2884 c256_i32_2177
  v2885
def k0_mult116 : BitVec 32 :=
  let c0_i32_63 : BitVec 32 := 0#32
  let c32_i32_2194 : BitVec 32 := 32#32
  let v2908 : BitVec 32 := Scalar.muli c0_i32_63 c32_i32_2194
  let c9_i32_2195 : BitVec 32 := 9#32
  let v2909 : BitVec 32 := Scalar.addi v2908 c9_i32_2195
  let c256_i32_2196 : BitVec 32 := 256#32
  let v2910 : BitVec 32 := Scalar.muli v2909 c256_i32_2196
  v2910
def k0_mult117 : BitVec 32 :=
  let c0_i32_63 : BitVec 32 := 0#32
  let c32_i32_2213 : BitVec 32 := 32#32
  let v2933 : BitVec 32 := Scalar.muli c0_i32_63 c32_i32_2213
  let c9_i32_2214 : BitVec 32 := 9#32
  let v2934 : BitVec 32 := Scalar.addi v2933 c9_i32_2214
  let c256_i32_2215 : BitVec 32 := 256#32
  let v2935 : BitVec 32 := Scalar.muli v2934 c256_i32_2215
  v2935
def k0_mult118 : BitVec 32 :=
  let c0_i32_63 : BitVec 32 := 0#32
  let c32_i32_2232 : BitVec 32 := 32#32
  let v2958 : BitVec 32 := Scalar.muli c0_i32_63 c32_i32_2232
  let c9_i32_2233 : BitVec 32 := 9#32
  let v2959 : BitVec 32 := Scalar.addi v2958 c9_i32_2233
  let c256_i32_2234 : BitVec 32 := 256#32
  let v2960 : BitVec 32 := Scalar.muli v2959 c256_i32_2234
  v2960
def k0_mult119 : BitVec 32 :=
  let c0_i32_63 : BitVec 32 := 0#32
  let c32_i32_2251 : BitVec 32 := 32#32
  let v2983 : BitVec 32 := Scalar.muli c0_i32_63 c32_i32_2251
  let c9_i32_2252 : BitVec 32 := 9#32
  let v2984 : BitVec 32 := Scalar.addi v2983 c9_i32_2252
  let c256_i32_2253 : BitVec 32 := 256#32
  let v2985 : BitVec 32 := Scalar.muli v2984 c256_i32_2253
  v2985
def k0_mult120 : BitVec 32 :=
  let c0_i32_63 : BitVec 32 := 0#32
  let c32_i32_2270 : BitVec 32 := 32#32
  let v3008 : BitVec 32 := Scalar.muli c0_i32_63 c32_i32_2270
  let c9_i32_2271 : BitVec 32 := 9#32
  let v3009 : BitVec 32 := Scalar.addi v3008 c9_i32_2271
  let c256_i32_2272 : BitVec 32 := 256#32
  let v3010 : BitVec 32 := Scalar.muli v3009 c256_i32_2272
  v3010
def k0_mult121 : BitVec 32 :=
  let c0_i32_63 : BitVec 32 := 0#32
  let c32_i32_2289 : BitVec 32 := 32#32
  let v3033 : BitVec 32 := Scalar.muli c0_i32_63 c32_i32_2289
  let c10_i32 : BitVec 32 := 10#32
  let v3034 : BitVec 32 := Scalar.addi v3033 c10_i32
  let c256_i32_2290 : BitVec 32 := 256#32
  let v3035 : BitVec 32 := Scalar.muli v3034 c256_i32_2290
  v3035
def k0_mult122 : BitVec 32 :=
  let c0_i32_63 : BitVec 32 := 0#32
  let c32_i32_2307 : BitVec 32 := 32#32
  let v3058 : BitVec 32 := Scalar.muli c0_i32_63 c32_i32_2307
  let c10_i32_2308 : BitVec 32 := 10#32
  let v3059 : BitVec 32 := Scalar.addi v3058 c10_i32_2308
  let c256_i32_2309 : BitVec 32 := 256#32
  let v3060 : BitVec 32 := Scalar.muli v3059 c256_i32_2309
  v3060
def k0_mult123 : BitVec 32 :=
  let c0_i32_63 : BitVec 32 := 0#32
  let c32_i32_2326 : BitVec 32 := 32#32
  let v3083 : BitVec 32 := Scalar.muli c0_i32_63 c32_i32_2326
  let c10_i32_2327 : BitVec 32 := 10#32
  let v3084 : BitVec 32 := Scalar.addi v3083 c10_i32_2327
  let c256_i32_2328 : BitVec 32 := 256#32
  let v3085 : BitVec 32 := Scalar.muli v3084 c256_i32_2328
  v3085
def k0_mult124 : BitVec 32 :=
  let c0_i32_63 : BitVec 32 := 0#32
  let c32_i32_2345 : BitVec 32 := 32#32
  let v3108 : BitVec 32 := Scalar.muli c0_i32_63 c32_i32_2345
  let c10_i32_2346 : BitVec 32 := 10#32
  let v3109 : BitVec 32 := Scalar.addi v3108 c10_i32_2346
  let c256_i32_2347 : BitVec 32 := 256#32
  let v3110 : BitVec 32 := Scalar.muli v3109 c256_i32_2347
  v3110
def k0_mult125 : BitVec 32 :=
  let c0_i32_63 : BitVec 32 := 0#32
  let c32_i32_2364 : BitVec 32 := 32#32
  let v3133 : BitVec 32 := Scalar.muli c0_i32_63 c32_i32_2364
  let c10_i32_2365 : BitVec 32 := 10#32
  let v3134 : BitVec 32 := Scalar.addi v3133 c10_i32_2365
  let c256_i32_2366 : BitVec 32 := 256#32
  let v3135 : BitVec 32 := Scalar.muli v3134 c256_i32_2366
  v3135
def k0_mult126 : BitVec 32 :=
  let c0_i32_63 : BitVec 32 := 0#32
  let c32_i32_2383 : BitVec 32 := 32#32
  let v3158 : BitVec 32 := Scalar.muli c0_i32_63 c32_i32_2383
  let c10_i32_2384 : BitVec 32 := 10#32
  let v3159 : BitVec 32 := Scalar.addi v3158 c10_i32_2384
  let c256_i32_2385 : BitVec 32 := 256#32
  let v3160 : BitVec 32 := Scalar.muli v3159 c256_i32_2385
  v3160
def k0_mult127 : BitVec 32 :=
  let c0_i32_63 : BitVec 32 := 0#32
  let c32_i32_2402 : BitVec 32 := 32#32
  let v3183 : BitVec 32 := Scalar.muli c0_i32_63 c32_i32_2402
  let c10_i32_2403 : BitVec 32 := 10#32
  let v3184 : BitVec 32 := Scalar.addi v3183 c10_i32_2403
  let c256_i32_2404 : BitVec 32 := 256#32
  let v3185 : BitVec 32 := Scalar.muli v3184 c256_i32_2404
  v3185
def k0_mult128 : BitVec 32 :=
  let c0_i32_63 : BitVec 32 := 0#32
  let c32_i32_2421 : BitVec 32 := 32#32
  let v3208 : BitVec 32 := Scalar.muli c0_i32_63 c32_i32_2421
  let c10_i32_2422 : BitVec 32 := 10#32
  let v3209 : BitVec 32 := Scalar.addi v3208 c10_i32_2422
  let c256_i32_2423 : BitVec 32 := 256#32
  let v3210 : BitVec 32 := Scalar.muli v3209 c256_i32_2423
  v3210
def k0_mult129 : BitVec 32 :=
  let c0_i32_63 : BitVec 32 := 0#32
  let c32_i32_2440 : BitVec 32 := 32#32
  let v3233 : BitVec 32 := Scalar.muli c0_i32_63 c32_i32_2440
  let c10_i32_2441 : BitVec 32 := 10#32
  let v3234 : BitVec 32 := Scalar.addi v3233 c10_i32_2441
  let c256_i32_2442 : BitVec 32 := 256#32
  let v3235 : BitVec 32 := Scalar.muli v3234 c256_i32_2442
  v3235
def k0_mult130 : BitVec 32 :=
  let c0_i32_63 : BitVec 32 := 0#32
  let c32_i32_2459 : BitVec 32 := 32#32
  let v3258 : BitVec 32 := Scalar.muli c0_i32_63 c32_i32_2459
  let c10_i32_2460 : BitVec 32 := 10#32
  let v3259 : BitVec 32 := Scalar.addi v3258 c10_i32_2460
  let c256_i32_2461 : BitVec 32 := 256#32
  let v3260 : BitVec 32 := Scalar.muli v3259 c256_i32_2461
  v3260
def k0_mult131 : BitVec 32 :=
  let c0_i32_63 : BitVec 32 := 0#32
  let c32_i32_2478 : BitVec 32 := 32#32
  let v3283 : BitVec 32 := Scalar.muli c0_i32_63 c32_i32_2478
  let c10_i32_2479 : BitVec 32 := 10#32
  let v3284 : BitVec 32 := Scalar.addi v3283 c10_i32_2479
  let c256_i32_2480 : BitVec 32 := 256#32
  let v3285 : BitVec 32 := Scalar.muli v3284 c256_i32_2480
  v3285
def k0_mult132 : BitVec 32 :=
  let c0_i32_63 : BitVec 32 := 0#32
  let c32_i32_2497 : BitVec 32 := 32#32
  let v3308 : BitVec 32 := Scalar.muli c0_i32_63 c32_i32_2497
  let c10_i32_2498 : BitVec 32 := 10#32
  let v3309 : BitVec 32 := Scalar.addi v3308 c10_i32_2498
  let c256_i32_2499 : BitVec 32 := 256#32
  let v3310 : BitVec 32 := Scalar.muli v3309 c256_i32_2499
  v3310
def k0_mult133 : BitVec 32 :=
  let c0_i32_63 : BitVec 32 := 0#32
  let c32_i32_2516 : BitVec 32 := 32#32
  let v3333 : BitVec 32 := Scalar.muli c0_i32_63 c32_i32_2516
  let c11_i32 : BitVec 32 := 11#32
  let v3334 : BitVec 32 := Scalar.addi v3333 c11_i32
  let c256_i32_2517 : BitVec 32 := 256#32
  let v3335 : BitVec 32 := Scalar.muli v3334 c256_i32_2517
  v3335
def k0_mult134 : BitVec 32 :=
  let c0_i32_63 : BitVec 32 := 0#32
  let c32_i32_2534 : BitVec 32 := 32#32
  let v3358 : BitVec 32 := Scalar.muli c0_i32_63 c32_i32_2534
  let c11_i32_2535 : BitVec 32 := 11#32
  let v3359 : BitVec 32 := Scalar.addi v3358 c11_i32_2535
  let c256_i32_2536 : BitVec 32 := 256#32
  let v3360 : BitVec 32 := Scalar.muli v3359 c256_i32_2536
  v3360
def k0_mult135 : BitVec 32 :=
  let c0_i32_63 : BitVec 32 := 0#32
  let c32_i32_2553 : BitVec 32 := 32#32
  let v3383 : BitVec 32 := Scalar.muli c0_i32_63 c32_i32_2553
  let c11_i32_2554 : BitVec 32 := 11#32
  let v3384 : BitVec 32 := Scalar.addi v3383 c11_i32_2554
  let c256_i32_2555 : BitVec 32 := 256#32
  let v3385 : BitVec 32 := Scalar.muli v3384 c256_i32_2555
  v3385
def k0_mult136 : BitVec 32 :=
  let c0_i32_63 : BitVec 32 := 0#32
  let c32_i32_2572 : BitVec 32 := 32#32
  let v3408 : BitVec 32 := Scalar.muli c0_i32_63 c32_i32_2572
  let c11_i32_2573 : BitVec 32 := 11#32
  let v3409 : BitVec 32 := Scalar.addi v3408 c11_i32_2573
  let c256_i32_2574 : BitVec 32 := 256#32
  let v3410 : BitVec 32 := Scalar.muli v3409 c256_i32_2574
  v3410
def k0_mult137 : BitVec 32 :=
  let c0_i32_63 : BitVec 32 := 0#32
  let c32_i32_2591 : BitVec 32 := 32#32
  let v3433 : BitVec 32 := Scalar.muli c0_i32_63 c32_i32_2591
  let c11_i32_2592 : BitVec 32 := 11#32
  let v3434 : BitVec 32 := Scalar.addi v3433 c11_i32_2592
  let c256_i32_2593 : BitVec 32 := 256#32
  let v3435 : BitVec 32 := Scalar.muli v3434 c256_i32_2593
  v3435
def k0_mult138 : BitVec 32 :=
  let c0_i32_63 : BitVec 32 := 0#32
  let c32_i32_2610 : BitVec 32 := 32#32
  let v3458 : BitVec 32 := Scalar.muli c0_i32_63 c32_i32_2610
  let c11_i32_2611 : BitVec 32 := 11#32
  let v3459 : BitVec 32 := Scalar.addi v3458 c11_i32_2611
  let c256_i32_2612 : BitVec 32 := 256#32
  let v3460 : BitVec 32 := Scalar.muli v3459 c256_i32_2612
  v3460
def k0_mult139 : BitVec 32 :=
  let c0_i32_63 : BitVec 32 := 0#32
  let c32_i32_2629 : BitVec 32 := 32#32
  let v3483 : BitVec 32 := Scalar.muli c0_i32_63 c32_i32_2629
  let c11_i32_2630 : BitVec 32 := 11#32
  let v3484 : BitVec 32 := Scalar.addi v3483 c11_i32_2630
  let c256_i32_2631 : BitVec 32 := 256#32
  let v3485 : BitVec 32 := Scalar.muli v3484 c256_i32_2631
  v3485
def k0_mult140 : BitVec 32 :=
  let c0_i32_63 : BitVec 32 := 0#32
  let c32_i32_2648 : BitVec 32 := 32#32
  let v3508 : BitVec 32 := Scalar.muli c0_i32_63 c32_i32_2648
  let c11_i32_2649 : BitVec 32 := 11#32
  let v3509 : BitVec 32 := Scalar.addi v3508 c11_i32_2649
  let c256_i32_2650 : BitVec 32 := 256#32
  let v3510 : BitVec 32 := Scalar.muli v3509 c256_i32_2650
  v3510
def k0_mult141 : BitVec 32 :=
  let c0_i32_63 : BitVec 32 := 0#32
  let c32_i32_2667 : BitVec 32 := 32#32
  let v3533 : BitVec 32 := Scalar.muli c0_i32_63 c32_i32_2667
  let c11_i32_2668 : BitVec 32 := 11#32
  let v3534 : BitVec 32 := Scalar.addi v3533 c11_i32_2668
  let c256_i32_2669 : BitVec 32 := 256#32
  let v3535 : BitVec 32 := Scalar.muli v3534 c256_i32_2669
  v3535
def k0_mult142 : BitVec 32 :=
  let c0_i32_63 : BitVec 32 := 0#32
  let c32_i32_2686 : BitVec 32 := 32#32
  let v3558 : BitVec 32 := Scalar.muli c0_i32_63 c32_i32_2686
  let c11_i32_2687 : BitVec 32 := 11#32
  let v3559 : BitVec 32 := Scalar.addi v3558 c11_i32_2687
  let c256_i32_2688 : BitVec 32 := 256#32
  let v3560 : BitVec 32 := Scalar.muli v3559 c256_i32_2688
  v3560
def k0_mult143 : BitVec 32 :=
  let c0_i32_63 : BitVec 32 := 0#32
  let c32_i32_2705 : BitVec 32 := 32#32
  let v3583 : BitVec 32 := Scalar.muli c0_i32_63 c32_i32_2705
  let c11_i32_2706 : BitVec 32 := 11#32
  let v3584 : BitVec 32 := Scalar.addi v3583 c11_i32_2706
  let c256_i32_2707 : BitVec 32 := 256#32
  let v3585 : BitVec 32 := Scalar.muli v3584 c256_i32_2707
  v3585
def k0_mult144 : BitVec 32 :=
  let c0_i32_63 : BitVec 32 := 0#32
  let c32_i32_2724 : BitVec 32 := 32#32
  let v3608 : BitVec 32 := Scalar.muli c0_i32_63 c32_i32_2724
  let c11_i32_2725 : BitVec 32 := 11#32
  let v3609 : BitVec 32 := Scalar.addi v3608 c11_i32_2725
  let c256_i32_2726 : BitVec 32 := 256#32
  let v3610 : BitVec 32 := Scalar.muli v3609 c256_i32_2726
  v3610
def k0_mult145 : BitVec 32 :=
  let c0_i32_63 : BitVec 32 := 0#32
  let c32_i32_2743 : BitVec 32 := 32#32
  let v3633 : BitVec 32 := Scalar.muli c0_i32_63 c32_i32_2743
  let c12_i32 : BitVec 32 := 12#32
  let v3634 : BitVec 32 := Scalar.addi v3633 c12_i32
  let c256_i32_2744 : BitVec 32 := 256#32
  let v3635 : BitVec 32 := Scalar.muli v3634 c256_i32_2744
  v3635
def k0_mult146 : BitVec 32 :=
  let c0_i32_63 : BitVec 32 := 0#32
  let c32_i32_2761 : BitVec 32 := 32#32
  let v3658 : BitVec 32 := Scalar.muli c0_i32_63 c32_i32_2761
  let c12_i32_2762 : BitVec 32 := 12#32
  let v3659 : BitVec 32 := Scalar.addi v3658 c12_i32_2762
  let c256_i32_2763 : BitVec 32 := 256#32
  let v3660 : BitVec 32 := Scalar.muli v3659 c256_i32_2763
  v3660
def k0_mult147 : BitVec 32 :=
  let c0_i32_63 : BitVec 32 := 0#32
  let c32_i32_2780 : BitVec 32 := 32#32
  let v3683 : BitVec 32 := Scalar.muli c0_i32_63 c32_i32_2780
  let c12_i32_2781 : BitVec 32 := 12#32
  let v3684 : BitVec 32 := Scalar.addi v3683 c12_i32_2781
  let c256_i32_2782 : BitVec 32 := 256#32
  let v3685 : BitVec 32 := Scalar.muli v3684 c256_i32_2782
  v3685
def k0_mult148 : BitVec 32 :=
  let c0_i32_63 : BitVec 32 := 0#32
  let c32_i32_2799 : BitVec 32 := 32#32
  let v3708 : BitVec 32 := Scalar.muli c0_i32_63 c32_i32_2799
  let c12_i32_2800 : BitVec 32 := 12#32
  let v3709 : BitVec 32 := Scalar.addi v3708 c12_i32_2800
  let c256_i32_2801 : BitVec 32 := 256#32
  let v3710 : BitVec 32 := Scalar.muli v3709 c256_i32_2801
  v3710
def k0_mult149 : BitVec 32 :=
  let c0_i32_63 : BitVec 32 := 0#32
  let c32_i32_2818 : BitVec 32 := 32#32
  let v3733 : BitVec 32 := Scalar.muli c0_i32_63 c32_i32_2818
  let c12_i32_2819 : BitVec 32 := 12#32
  let v3734 : BitVec 32 := Scalar.addi v3733 c12_i32_2819
  let c256_i32_2820 : BitVec 32 := 256#32
  let v3735 : BitVec 32 := Scalar.muli v3734 c256_i32_2820
  v3735
def k0_mult150 : BitVec 32 :=
  let c0_i32_63 : BitVec 32 := 0#32
  let c32_i32_2837 : BitVec 32 := 32#32
  let v3758 : BitVec 32 := Scalar.muli c0_i32_63 c32_i32_2837
  let c12_i32_2838 : BitVec 32 := 12#32
  let v3759 : BitVec 32 := Scalar.addi v3758 c12_i32_2838
  let c256_i32_2839 : BitVec 32 := 256#32
  let v3760 : BitVec 32 := Scalar.muli v3759 c256_i32_2839
  v3760
def k0_mult151 : BitVec 32 :=
  let c0_i32_63 : BitVec 32 := 0#32
  let c32_i32_2856 : BitVec 32 := 32#32
  let v3783 : BitVec 32 := Scalar.muli c0_i32_63 c32_i32_2856
  let c12_i32_2857 : BitVec 32 := 12#32
  let v3784 : BitVec 32 := Scalar.addi v3783 c12_i32_2857
  let c256_i32_2858 : BitVec 32 := 256#32
  let v3785 : BitVec 32 := Scalar.muli v3784 c256_i32_2858
  v3785
def k0_mult152 : BitVec 32 :=
  let c0_i32_63 : BitVec 32 := 0#32
  let c32_i32_2875 : BitVec 32 := 32#32
  let v3808 : BitVec 32 := Scalar.muli c0_i32_63 c32_i32_2875
  let c12_i32_2876 : BitVec 32 := 12#32
  let v3809 : BitVec 32 := Scalar.addi v3808 c12_i32_2876
  let c256_i32_2877 : BitVec 32 := 256#32
  let v3810 : BitVec 32 := Scalar.muli v3809 c256_i32_2877
  v3810
def k0_mult153 : BitVec 32 :=
  let c0_i32_63 : BitVec 32 := 0#32
  let c32_i32_2894 : BitVec 32 := 32#32
  let v3833 : BitVec 32 := Scalar.muli c0_i32_63 c32_i32_2894
  let c12_i32_2895 : BitVec 32 := 12#32
  let v3834 : BitVec 32 := Scalar.addi v3833 c12_i32_2895
  let c256_i32_2896 : BitVec 32 := 256#32
  let v3835 : BitVec 32 := Scalar.muli v3834 c256_i32_2896
  v3835
def k0_mult154 : BitVec 32 :=
  let c0_i32_63 : BitVec 32 := 0#32
  let c32_i32_2913 : BitVec 32 := 32#32
  let v3858 : BitVec 32 := Scalar.muli c0_i32_63 c32_i32_2913
  let c12_i32_2914 : BitVec 32 := 12#32
  let v3859 : BitVec 32 := Scalar.addi v3858 c12_i32_2914
  let c256_i32_2915 : BitVec 32 := 256#32
  let v3860 : BitVec 32 := Scalar.muli v3859 c256_i32_2915
  v3860
def k0_mult155 : BitVec 32 :=
  let c0_i32_63 : BitVec 32 := 0#32
  let c32_i32_2932 : BitVec 32 := 32#32
  let v3883 : BitVec 32 := Scalar.muli c0_i32_63 c32_i32_2932
  let c12_i32_2933 : BitVec 32 := 12#32
  let v3884 : BitVec 32 := Scalar.addi v3883 c12_i32_2933
  let c256_i32_2934 : BitVec 32 := 256#32
  let v3885 : BitVec 32 := Scalar.muli v3884 c256_i32_2934
  v3885
def k0_mult156 : BitVec 32 :=
  let c0_i32_63 : BitVec 32 := 0#32
  let c32_i32_2951 : BitVec 32 := 32#32
  let v3908 : BitVec 32 := Scalar.muli c0_i32_63 c32_i32_2951
  let c12_i32_2952 : BitVec 32 := 12#32
  let v3909 : BitVec 32 := Scalar.addi v3908 c12_i32_2952
  let c256_i32_2953 : BitVec 32 := 256#32
  let v3910 : BitVec 32 := Scalar.muli v3909 c256_i32_2953
  v3910
def k0_mult157 : BitVec 32 :=
  let c0_i32_63 : BitVec 32 := 0#32
  let c32_i32_2970 : BitVec 32 := 32#32
  let v3933 : BitVec 32 := Scalar.muli c0_i32_63 c32_i32_2970
  let c13_i32 : BitVec 32 := 13#32
  let v3934 : BitVec 32 := Scalar.addi v3933 c13_i32
  let c256_i32_2971 : BitVec 32 := 256#32
  let v3935 : BitVec 32 := Scalar.muli v3934 c256_i32_2971
  v3935
def k0_mult158 : BitVec 32 :=
  let c0_i32_63 : BitVec 32 := 0#32
  let c32_i32_2988 : BitVec 32 := 32#32
  let v3958 : BitVec 32 := Scalar.muli c0_i32_63 c32_i32_2988
  let c13_i32_2989 : BitVec 32 := 13#32
  let v3959 : BitVec 32 := Scalar.addi v3958 c13_i32_2989
  let c256_i32_2990 : BitVec 32 := 256#32
  let v3960 : BitVec 32 := Scalar.muli v3959 c256_i32_2990
  v3960
def k0_mult159 : BitVec 32 :=
  let c0_i32_63 : BitVec 32 := 0#32
  let c32_i32_3007 : BitVec 32 := 32#32
  let v3983 : BitVec 32 := Scalar.muli c0_i32_63 c32_i32_3007
  let c13_i32_3008 : BitVec 32 := 13#32
  let v3984 : BitVec 32 := Scalar.addi v3983 c13_i32_3008
  let c256_i32_3009 : BitVec 32 := 256#32
  let v3985 : BitVec 32 := Scalar.muli v3984 c256_i32_3009
  v3985
def k0_mult160 : BitVec 32 :=
  let c0_i32_63 : BitVec 32 := 0#32
  let c32_i32_3026 : BitVec 32 := 32#32
  let v4008 : BitVec 32 := Scalar.muli c0_i32_63 c32_i32_3026
  let c13_i32_3027 : BitVec 32 := 13#32
  let v4009 : BitVec 32 := Scalar.addi v4008 c13_i32_3027
  let c256_i32_3028 : BitVec 32 := 256#32
  let v4010 : BitVec 32 := Scalar.muli v4009 c256_i32_3028
  v4010
def k0_mult161 : BitVec 32 :=
  let c0_i32_63 : BitVec 32 := 0#32
  let c32_i32_3045 : BitVec 32 := 32#32
  let v4033 : BitVec 32 := Scalar.muli c0_i32_63 c32_i32_3045
  let c13_i32_3046 : BitVec 32 := 13#32
  let v4034 : BitVec 32 := Scalar.addi v4033 c13_i32_3046
  let c256_i32_3047 : BitVec 32 := 256#32
  let v4035 : BitVec 32 := Scalar.muli v4034 c256_i32_3047
  v4035
def k0_mult162 : BitVec 32 :=
  let c0_i32_63 : BitVec 32 := 0#32
  let c32_i32_3064 : BitVec 32 := 32#32
  let v4058 : BitVec 32 := Scalar.muli c0_i32_63 c32_i32_3064
  let c13_i32_3065 : BitVec 32 := 13#32
  let v4059 : BitVec 32 := Scalar.addi v4058 c13_i32_3065
  let c256_i32_3066 : BitVec 32 := 256#32
  let v4060 : BitVec 32 := Scalar.muli v4059 c256_i32_3066
  v4060
def k0_mult163 : BitVec 32 :=
  let c0_i32_63 : BitVec 32 := 0#32
  let c32_i32_3083 : BitVec 32 := 32#32
  let v4083 : BitVec 32 := Scalar.muli c0_i32_63 c32_i32_3083
  let c13_i32_3084 : BitVec 32 := 13#32
  let v4084 : BitVec 32 := Scalar.addi v4083 c13_i32_3084
  let c256_i32_3085 : BitVec 32 := 256#32
  let v4085 : BitVec 32 := Scalar.muli v4084 c256_i32_3085
  v4085
def k0_mult164 : BitVec 32 :=
  let c0_i32_63 : BitVec 32 := 0#32
  let c32_i32_3102 : BitVec 32 := 32#32
  let v4108 : BitVec 32 := Scalar.muli c0_i32_63 c32_i32_3102
  let c13_i32_3103 : BitVec 32 := 13#32
  let v4109 : BitVec 32 := Scalar.addi v4108 c13_i32_3103
  let c256_i32_3104 : BitVec 32 := 256#32
  let v4110 : BitVec 32 := Scalar.muli v4109 c256_i32_3104
  v4110
def k0_mult165 : BitVec 32 :=
  let c0_i32_63 : BitVec 32 := 0#32
  let c32_i32_3121 : BitVec 32 := 32#32
  let v4133 : BitVec 32 := Scalar.muli c0_i32_63 c32_i32_3121
  let c13_i32_3122 : BitVec 32 := 13#32
  let v4134 : BitVec 32 := Scalar.addi v4133 c13_i32_3122
  let c256_i32_3123 : BitVec 32 := 256#32
  let v4135 : BitVec 32 := Scalar.muli v4134 c256_i32_3123
  v4135
def k0_mult166 : BitVec 32 :=
  let c0_i32_63 : BitVec 32 := 0#32
  let c32_i32_3140 : BitVec 32 := 32#32
  let v4158 : BitVec 32 := Scalar.muli c0_i32_63 c32_i32_3140
  let c13_i32_3141 : BitVec 32 := 13#32
  let v4159 : BitVec 32 := Scalar.addi v4158 c13_i32_3141
  let c256_i32_3142 : BitVec 32 := 256#32
  let v4160 : BitVec 32 := Scalar.muli v4159 c256_i32_3142
  v4160
def k0_mult167 : BitVec 32 :=
  let c0_i32_63 : BitVec 32 := 0#32
  let c32_i32_3159 : BitVec 32 := 32#32
  let v4183 : BitVec 32 := Scalar.muli c0_i32_63 c32_i32_3159
  let c13_i32_3160 : BitVec 32 := 13#32
  let v4184 : BitVec 32 := Scalar.addi v4183 c13_i32_3160
  let c256_i32_3161 : BitVec 32 := 256#32
  let v4185 : BitVec 32 := Scalar.muli v4184 c256_i32_3161
  v4185
def k0_mult168 : BitVec 32 :=
  let c0_i32_63 : BitVec 32 := 0#32
  let c32_i32_3178 : BitVec 32 := 32#32
  let v4208 : BitVec 32 := Scalar.muli c0_i32_63 c32_i32_3178
  let c13_i32_3179 : BitVec 32 := 13#32
  let v4209 : BitVec 32 := Scalar.addi v4208 c13_i32_3179
  let c256_i32_3180 : BitVec 32 := 256#32
  let v4210 : BitVec 32 := Scalar.muli v4209 c256_i32_3180
  v4210
def k0_mult169 : BitVec 32 :=
  let c0_i32_63 : BitVec 32 := 0#32
  let c32_i32_3197 : BitVec 32 := 32#32
  let v4233 : BitVec 32 := Scalar.muli c0_i32_63 c32_i32_3197
  let c14_i32 : BitVec 32 := 14#32
  let v4234 : BitVec 32 := Scalar.addi v4233 c14_i32
  let c256_i32_3198 : BitVec 32 := 256#32
  let v4235 : BitVec 32 := Scalar.muli v4234 c256_i32_3198
  v4235
def k0_mult170 : BitVec 32 :=
  let c0_i32_63 : BitVec 32 := 0#32
  let c32_i32_3215 : BitVec 32 := 32#32
  let v4258 : BitVec 32 := Scalar.muli c0_i32_63 c32_i32_3215
  let c14_i32_3216 : BitVec 32 := 14#32
  let v4259 : BitVec 32 := Scalar.addi v4258 c14_i32_3216
  let c256_i32_3217 : BitVec 32 := 256#32
  let v4260 : BitVec 32 := Scalar.muli v4259 c256_i32_3217
  v4260
def k0_mult171 : BitVec 32 :=
  let c0_i32_63 : BitVec 32 := 0#32
  let c32_i32_3234 : BitVec 32 := 32#32
  let v4283 : BitVec 32 := Scalar.muli c0_i32_63 c32_i32_3234
  let c14_i32_3235 : BitVec 32 := 14#32
  let v4284 : BitVec 32 := Scalar.addi v4283 c14_i32_3235
  let c256_i32_3236 : BitVec 32 := 256#32
  let v4285 : BitVec 32 := Scalar.muli v4284 c256_i32_3236
  v4285
def k0_mult172 : BitVec 32 :=
  let c0_i32_63 : BitVec 32 := 0#32
  let c32_i32_3253 : BitVec 32 := 32#32
  let v4308 : BitVec 32 := Scalar.muli c0_i32_63 c32_i32_3253
  let c14_i32_3254 : BitVec 32 := 14#32
  let v4309 : BitVec 32 := Scalar.addi v4308 c14_i32_3254
  let c256_i32_3255 : BitVec 32 := 256#32
  let v4310 : BitVec 32 := Scalar.muli v4309 c256_i32_3255
  v4310
def k0_mult173 : BitVec 32 :=
  let c0_i32_63 : BitVec 32 := 0#32
  let c32_i32_3272 : BitVec 32 := 32#32
  let v4333 : BitVec 32 := Scalar.muli c0_i32_63 c32_i32_3272
  let c14_i32_3273 : BitVec 32 := 14#32
  let v4334 : BitVec 32 := Scalar.addi v4333 c14_i32_3273
  let c256_i32_3274 : BitVec 32 := 256#32
  let v4335 : BitVec 32 := Scalar.muli v4334 c256_i32_3274
  v4335
def k0_mult174 : BitVec 32 :=
  let c0_i32_63 : BitVec 32 := 0#32
  let c32_i32_3291 : BitVec 32 := 32#32
  let v4358 : BitVec 32 := Scalar.muli c0_i32_63 c32_i32_3291
  let c14_i32_3292 : BitVec 32 := 14#32
  let v4359 : BitVec 32 := Scalar.addi v4358 c14_i32_3292
  let c256_i32_3293 : BitVec 32 := 256#32
  let v4360 : BitVec 32 := Scalar.muli v4359 c256_i32_3293
  v4360
def k0_mult175 : BitVec 32 :=
  let c0_i32_63 : BitVec 32 := 0#32
  let c32_i32_3310 : BitVec 32 := 32#32
  let v4383 : BitVec 32 := Scalar.muli c0_i32_63 c32_i32_3310
  let c14_i32_3311 : BitVec 32 := 14#32
  let v4384 : BitVec 32 := Scalar.addi v4383 c14_i32_3311
  let c256_i32_3312 : BitVec 32 := 256#32
  let v4385 : BitVec 32 := Scalar.muli v4384 c256_i32_3312
  v4385
def k0_mult176 : BitVec 32 :=
  let c0_i32_63 : BitVec 32 := 0#32
  let c32_i32_3329 : BitVec 32 := 32#32
  let v4408 : BitVec 32 := Scalar.muli c0_i32_63 c32_i32_3329
  let c14_i32_3330 : BitVec 32 := 14#32
  let v4409 : BitVec 32 := Scalar.addi v4408 c14_i32_3330
  let c256_i32_3331 : BitVec 32 := 256#32
  let v4410 : BitVec 32 := Scalar.muli v4409 c256_i32_3331
  v4410
def k0_mult177 : BitVec 32 :=
  let c0_i32_63 : BitVec 32 := 0#32
  let c32_i32_3348 : BitVec 32 := 32#32
  let v4433 : BitVec 32 := Scalar.muli c0_i32_63 c32_i32_3348
  let c14_i32_3349 : BitVec 32 := 14#32
  let v4434 : BitVec 32 := Scalar.addi v4433 c14_i32_3349
  let c256_i32_3350 : BitVec 32 := 256#32
  let v4435 : BitVec 32 := Scalar.muli v4434 c256_i32_3350
  v4435
def k0_mult178 : BitVec 32 :=
  let c0_i32_63 : BitVec 32 := 0#32
  let c32_i32_3367 : BitVec 32 := 32#32
  let v4458 : BitVec 32 := Scalar.muli c0_i32_63 c32_i32_3367
  let c14_i32_3368 : BitVec 32 := 14#32
  let v4459 : BitVec 32 := Scalar.addi v4458 c14_i32_3368
  let c256_i32_3369 : BitVec 32 := 256#32
  let v4460 : BitVec 32 := Scalar.muli v4459 c256_i32_3369
  v4460
def k0_mult179 : BitVec 32 :=
  let c0_i32_63 : BitVec 32 := 0#32
  let c32_i32_3386 : BitVec 32 := 32#32
  let v4483 : BitVec 32 := Scalar.muli c0_i32_63 c32_i32_3386
  let c14_i32_3387 : BitVec 32 := 14#32
  let v4484 : BitVec 32 := Scalar.addi v4483 c14_i32_3387
  let c256_i32_3388 : BitVec 32 := 256#32
  let v4485 : BitVec 32 := Scalar.muli v4484 c256_i32_3388
  v4485
def k0_mult180 : BitVec 32 :=
  let c0_i32_63 : BitVec 32 := 0#32
  let c32_i32_3405 : BitVec 32 := 32#32
  let v4508 : BitVec 32 := Scalar.muli c0_i32_63 c32_i32_3405
  let c14_i32_3406 : BitVec 32 := 14#32
  let v4509 : BitVec 32 := Scalar.addi v4508 c14_i32_3406
  let c256_i32_3407 : BitVec 32 := 256#32
  let v4510 : BitVec 32 := Scalar.muli v4509 c256_i32_3407
  v4510
def k0_mult181 : BitVec 32 :=
  let c0_i32_63 : BitVec 32 := 0#32
  let c32_i32_3424 : BitVec 32 := 32#32
  let v4533 : BitVec 32 := Scalar.muli c0_i32_63 c32_i32_3424
  let c15_i32 : BitVec 32 := 15#32
  let v4534 : BitVec 32 := Scalar.addi v4533 c15_i32
  let c256_i32_3425 : BitVec 32 := 256#32
  let v4535 : BitVec 32 := Scalar.muli v4534 c256_i32_3425
  v4535
def k0_mult182 : BitVec 32 :=
  let c0_i32_63 : BitVec 32 := 0#32
  let c32_i32_3442 : BitVec 32 := 32#32
  let v4558 : BitVec 32 := Scalar.muli c0_i32_63 c32_i32_3442
  let c15_i32_3443 : BitVec 32 := 15#32
  let v4559 : BitVec 32 := Scalar.addi v4558 c15_i32_3443
  let c256_i32_3444 : BitVec 32 := 256#32
  let v4560 : BitVec 32 := Scalar.muli v4559 c256_i32_3444
  v4560
def k0_mult183 : BitVec 32 :=
  let c0_i32_63 : BitVec 32 := 0#32
  let c32_i32_3461 : BitVec 32 := 32#32
  let v4583 : BitVec 32 := Scalar.muli c0_i32_63 c32_i32_3461
  let c15_i32_3462 : BitVec 32 := 15#32
  let v4584 : BitVec 32 := Scalar.addi v4583 c15_i32_3462
  let c256_i32_3463 : BitVec 32 := 256#32
  let v4585 : BitVec 32 := Scalar.muli v4584 c256_i32_3463
  v4585
def k0_mult184 : BitVec 32 :=
  let c0_i32_63 : BitVec 32 := 0#32
  let c32_i32_3480 : BitVec 32 := 32#32
  let v4608 : BitVec 32 := Scalar.muli c0_i32_63 c32_i32_3480
  let c15_i32_3481 : BitVec 32 := 15#32
  let v4609 : BitVec 32 := Scalar.addi v4608 c15_i32_3481
  let c256_i32_3482 : BitVec 32 := 256#32
  let v4610 : BitVec 32 := Scalar.muli v4609 c256_i32_3482
  v4610
def k0_mult185 : BitVec 32 :=
  let c0_i32_63 : BitVec 32 := 0#32
  let c32_i32_3499 : BitVec 32 := 32#32
  let v4633 : BitVec 32 := Scalar.muli c0_i32_63 c32_i32_3499
  let c15_i32_3500 : BitVec 32 := 15#32
  let v4634 : BitVec 32 := Scalar.addi v4633 c15_i32_3500
  let c256_i32_3501 : BitVec 32 := 256#32
  let v4635 : BitVec 32 := Scalar.muli v4634 c256_i32_3501
  v4635
def k0_mult186 : BitVec 32 :=
  let c0_i32_63 : BitVec 32 := 0#32
  let c32_i32_3518 : BitVec 32 := 32#32
  let v4658 : BitVec 32 := Scalar.muli c0_i32_63 c32_i32_3518
  let c15_i32_3519 : BitVec 32 := 15#32
  let v4659 : BitVec 32 := Scalar.addi v4658 c15_i32_3519
  let c256_i32_3520 : BitVec 32 := 256#32
  let v4660 : BitVec 32 := Scalar.muli v4659 c256_i32_3520
  v4660
def k0_mult187 : BitVec 32 :=
  let c0_i32_63 : BitVec 32 := 0#32
  let c32_i32_3537 : BitVec 32 := 32#32
  let v4683 : BitVec 32 := Scalar.muli c0_i32_63 c32_i32_3537
  let c15_i32_3538 : BitVec 32 := 15#32
  let v4684 : BitVec 32 := Scalar.addi v4683 c15_i32_3538
  let c256_i32_3539 : BitVec 32 := 256#32
  let v4685 : BitVec 32 := Scalar.muli v4684 c256_i32_3539
  v4685
def k0_mult188 : BitVec 32 :=
  let c0_i32_63 : BitVec 32 := 0#32
  let c32_i32_3556 : BitVec 32 := 32#32
  let v4708 : BitVec 32 := Scalar.muli c0_i32_63 c32_i32_3556
  let c15_i32_3557 : BitVec 32 := 15#32
  let v4709 : BitVec 32 := Scalar.addi v4708 c15_i32_3557
  let c256_i32_3558 : BitVec 32 := 256#32
  let v4710 : BitVec 32 := Scalar.muli v4709 c256_i32_3558
  v4710
def k0_mult189 : BitVec 32 :=
  let c0_i32_63 : BitVec 32 := 0#32
  let c32_i32_3575 : BitVec 32 := 32#32
  let v4733 : BitVec 32 := Scalar.muli c0_i32_63 c32_i32_3575
  let c15_i32_3576 : BitVec 32 := 15#32
  let v4734 : BitVec 32 := Scalar.addi v4733 c15_i32_3576
  let c256_i32_3577 : BitVec 32 := 256#32
  let v4735 : BitVec 32 := Scalar.muli v4734 c256_i32_3577
  v4735
def k0_mult190 : BitVec 32 :=
  let c0_i32_63 : BitVec 32 := 0#32
  let c32_i32_3594 : BitVec 32 := 32#32
  let v4758 : BitVec 32 := Scalar.muli c0_i32_63 c32_i32_3594
  let c15_i32_3595 : BitVec 32 := 15#32
  let v4759 : BitVec 32 := Scalar.addi v4758 c15_i32_3595
  let c256_i32_3596 : BitVec 32 := 256#32
  let v4760 : BitVec 32 := Scalar.muli v4759 c256_i32_3596
  v4760
def k0_mult191 : BitVec 32 :=
  let c0_i32_63 : BitVec 32 := 0#32
  let c32_i32_3613 : BitVec 32 := 32#32
  let v4783 : BitVec 32 := Scalar.muli c0_i32_63 c32_i32_3613
  let c15_i32_3614 : BitVec 32 := 15#32
  let v4784 : BitVec 32 := Scalar.addi v4783 c15_i32_3614
  let c256_i32_3615 : BitVec 32 := 256#32
  let v4785 : BitVec 32 := Scalar.muli v4784 c256_i32_3615
  v4785
def k0_mult192 : BitVec 32 :=
  let c0_i32_63 : BitVec 32 := 0#32
  let c32_i32_3632 : BitVec 32 := 32#32
  let v4808 : BitVec 32 := Scalar.muli c0_i32_63 c32_i32_3632
  let c15_i32_3633 : BitVec 32 := 15#32
  let v4809 : BitVec 32 := Scalar.addi v4808 c15_i32_3633
  let c256_i32_3634 : BitVec 32 := 256#32
  let v4810 : BitVec 32 := Scalar.muli v4809 c256_i32_3634
  v4810
def k0_mult193 : BitVec 32 :=
  let c0_i32_63 : BitVec 32 := 0#32
  let c32_i32_3651 : BitVec 32 := 32#32
  let v4833 : BitVec 32 := Scalar.muli c0_i32_63 c32_i32_3651
  let c16_i32 : BitVec 32 := 16#32
  let v4834 : BitVec 32 := Scalar.addi v4833 c16_i32
  let c256_i32_3652 : BitVec 32 := 256#32
  let v4835 : BitVec 32 := Scalar.muli v4834 c256_i32_3652
  v4835
def k0_mult194 : BitVec 32 :=
  let c0_i32_63 : BitVec 32 := 0#32
  let c32_i32_3669 : BitVec 32 := 32#32
  let v4858 : BitVec 32 := Scalar.muli c0_i32_63 c32_i32_3669
  let c16_i32_3670 : BitVec 32 := 16#32
  let v4859 : BitVec 32 := Scalar.addi v4858 c16_i32_3670
  let c256_i32_3671 : BitVec 32 := 256#32
  let v4860 : BitVec 32 := Scalar.muli v4859 c256_i32_3671
  v4860
def k0_mult195 : BitVec 32 :=
  let c0_i32_63 : BitVec 32 := 0#32
  let c32_i32_3688 : BitVec 32 := 32#32
  let v4883 : BitVec 32 := Scalar.muli c0_i32_63 c32_i32_3688
  let c16_i32_3689 : BitVec 32 := 16#32
  let v4884 : BitVec 32 := Scalar.addi v4883 c16_i32_3689
  let c256_i32_3690 : BitVec 32 := 256#32
  let v4885 : BitVec 32 := Scalar.muli v4884 c256_i32_3690
  v4885
def k0_mult196 : BitVec 32 :=
  let c0_i32_63 : BitVec 32 := 0#32
  let c32_i32_3707 : BitVec 32 := 32#32
  let v4908 : BitVec 32 := Scalar.muli c0_i32_63 c32_i32_3707
  let c16_i32_3708 : BitVec 32 := 16#32
  let v4909 : BitVec 32 := Scalar.addi v4908 c16_i32_3708
  let c256_i32_3709 : BitVec 32 := 256#32
  let v4910 : BitVec 32 := Scalar.muli v4909 c256_i32_3709
  v4910
def k0_mult197 : BitVec 32 :=
  let c0_i32_63 : BitVec 32 := 0#32
  let c32_i32_3726 : BitVec 32 := 32#32
  let v4933 : BitVec 32 := Scalar.muli c0_i32_63 c32_i32_3726
  let c16_i32_3727 : BitVec 32 := 16#32
  let v4934 : BitVec 32 := Scalar.addi v4933 c16_i32_3727
  let c256_i32_3728 : BitVec 32 := 256#32
  let v4935 : BitVec 32 := Scalar.muli v4934 c256_i32_3728
  v4935
def k0_mult198 : BitVec 32 :=
  let c0_i32_63 : BitVec 32 := 0#32
  let c32_i32_3745 : BitVec 32 := 32#32
  let v4958 : BitVec 32 := Scalar.muli c0_i32_63 c32_i32_3745
  let c16_i32_3746 : BitVec 32 := 16#32
  let v4959 : BitVec 32 := Scalar.addi v4958 c16_i32_3746
  let c256_i32_3747 : BitVec 32 := 256#32
  let v4960 : BitVec 32 := Scalar.muli v4959 c256_i32_3747
  v4960
def k0_mult199 : BitVec 32 :=
  let c0_i32_63 : BitVec 32 := 0#32
  let c32_i32_3764 : BitVec 32 := 32#32
  let v4983 : BitVec 32 := Scalar.muli c0_i32_63 c32_i32_3764
  let c16_i32_3765 : BitVec 32 := 16#32
  let v4984 : BitVec 32 := Scalar.addi v4983 c16_i32_3765
  let c256_i32_3766 : BitVec 32 := 256#32
  let v4985 : BitVec 32 := Scalar.muli v4984 c256_i32_3766
  v4985
def k0_mult200 : BitVec 32 :=
  let c0_i32_63 : BitVec 32 := 0#32
  let c32_i32_3783 : BitVec 32 := 32#32
  let v5008 : BitVec 32 := Scalar.muli c0_i32_63 c32_i32_3783
  let c16_i32_3784 : BitVec 32 := 16#32
  let v5009 : BitVec 32 := Scalar.addi v5008 c16_i32_3784
  let c256_i32_3785 : BitVec 32 := 256#32
  let v5010 : BitVec 32 := Scalar.muli v5009 c256_i32_3785
  v5010
def k0_mult201 : BitVec 32 :=
  let c0_i32_63 : BitVec 32 := 0#32
  let c32_i32_3802 : BitVec 32 := 32#32
  let v5033 : BitVec 32 := Scalar.muli c0_i32_63 c32_i32_3802
  let c16_i32_3803 : BitVec 32 := 16#32
  let v5034 : BitVec 32 := Scalar.addi v5033 c16_i32_3803
  let c256_i32_3804 : BitVec 32 := 256#32
  let v5035 : BitVec 32 := Scalar.muli v5034 c256_i32_3804
  v5035
def k0_mult202 : BitVec 32 :=
  let c0_i32_63 : BitVec 32 := 0#32
  let c32_i32_3821 : BitVec 32 := 32#32
  let v5058 : BitVec 32 := Scalar.muli c0_i32_63 c32_i32_3821
  let c16_i32_3822 : BitVec 32 := 16#32
  let v5059 : BitVec 32 := Scalar.addi v5058 c16_i32_3822
  let c256_i32_3823 : BitVec 32 := 256#32
  let v5060 : BitVec 32 := Scalar.muli v5059 c256_i32_3823
  v5060
def k0_mult203 : BitVec 32 :=
  let c0_i32_63 : BitVec 32 := 0#32
  let c32_i32_3840 : BitVec 32 := 32#32
  let v5083 : BitVec 32 := Scalar.muli c0_i32_63 c32_i32_3840
  let c16_i32_3841 : BitVec 32 := 16#32
  let v5084 : BitVec 32 := Scalar.addi v5083 c16_i32_3841
  let c256_i32_3842 : BitVec 32 := 256#32
  let v5085 : BitVec 32 := Scalar.muli v5084 c256_i32_3842
  v5085
def k0_mult204 : BitVec 32 :=
  let c0_i32_63 : BitVec 32 := 0#32
  let c32_i32_3859 : BitVec 32 := 32#32
  let v5108 : BitVec 32 := Scalar.muli c0_i32_63 c32_i32_3859
  let c16_i32_3860 : BitVec 32 := 16#32
  let v5109 : BitVec 32 := Scalar.addi v5108 c16_i32_3860
  let c256_i32_3861 : BitVec 32 := 256#32
  let v5110 : BitVec 32 := Scalar.muli v5109 c256_i32_3861
  v5110
def k0_mult205 : BitVec 32 :=
  let c0_i32_63 : BitVec 32 := 0#32
  let c32_i32_3878 : BitVec 32 := 32#32
  let v5133 : BitVec 32 := Scalar.muli c0_i32_63 c32_i32_3878
  let c17_i32 : BitVec 32 := 17#32
  let v5134 : BitVec 32 := Scalar.addi v5133 c17_i32
  let c256_i32_3879 : BitVec 32 := 256#32
  let v5135 : BitVec 32 := Scalar.muli v5134 c256_i32_3879
  v5135
def k0_mult206 : BitVec 32 :=
  let c0_i32_63 : BitVec 32 := 0#32
  let c32_i32_3896 : BitVec 32 := 32#32
  let v5158 : BitVec 32 := Scalar.muli c0_i32_63 c32_i32_3896
  let c17_i32_3897 : BitVec 32 := 17#32
  let v5159 : BitVec 32 := Scalar.addi v5158 c17_i32_3897
  let c256_i32_3898 : BitVec 32 := 256#32
  let v5160 : BitVec 32 := Scalar.muli v5159 c256_i32_3898
  v5160
def k0_mult207 : BitVec 32 :=
  let c0_i32_63 : BitVec 32 := 0#32
  let c32_i32_3915 : BitVec 32 := 32#32
  let v5183 : BitVec 32 := Scalar.muli c0_i32_63 c32_i32_3915
  let c17_i32_3916 : BitVec 32 := 17#32
  let v5184 : BitVec 32 := Scalar.addi v5183 c17_i32_3916
  let c256_i32_3917 : BitVec 32 := 256#32
  let v5185 : BitVec 32 := Scalar.muli v5184 c256_i32_3917
  v5185
def k0_mult208 : BitVec 32 :=
  let c0_i32_63 : BitVec 32 := 0#32
  let c32_i32_3934 : BitVec 32 := 32#32
  let v5208 : BitVec 32 := Scalar.muli c0_i32_63 c32_i32_3934
  let c17_i32_3935 : BitVec 32 := 17#32
  let v5209 : BitVec 32 := Scalar.addi v5208 c17_i32_3935
  let c256_i32_3936 : BitVec 32 := 256#32
  let v5210 : BitVec 32 := Scalar.muli v5209 c256_i32_3936
  v5210
def k0_mult209 : BitVec 32 :=
  let c0_i32_63 : BitVec 32 := 0#32
  let c32_i32_3953 : BitVec 32 := 32#32
  let v5233 : BitVec 32 := Scalar.muli c0_i32_63 c32_i32_3953
  let c17_i32_3954 : BitVec 32 := 17#32
  let v5234 : BitVec 32 := Scalar.addi v5233 c17_i32_3954
  let c256_i32_3955 : BitVec 32 := 256#32
  let v5235 : BitVec 32 := Scalar.muli v5234 c256_i32_3955
  v5235
def k0_mult210 : BitVec 32 :=
  let c0_i32_63 : BitVec 32 := 0#32
  let c32_i32_3972 : BitVec 32 := 32#32
  let v5258 : BitVec 32 := Scalar.muli c0_i32_63 c32_i32_3972
  let c17_i32_3973 : BitVec 32 := 17#32
  let v5259 : BitVec 32 := Scalar.addi v5258 c17_i32_3973
  let c256_i32_3974 : BitVec 32 := 256#32
  let v5260 : BitVec 32 := Scalar.muli v5259 c256_i32_3974
  v5260
def k0_mult211 : BitVec 32 :=
  let c0_i32_63 : BitVec 32 := 0#32
  let c32_i32_3991 : BitVec 32 := 32#32
  let v5283 : BitVec 32 := Scalar.muli c0_i32_63 c32_i32_3991
  let c17_i32_3992 : BitVec 32 := 17#32
  let v5284 : BitVec 32 := Scalar.addi v5283 c17_i32_3992
  let c256_i32_3993 : BitVec 32 := 256#32
  let v5285 : BitVec 32 := Scalar.muli v5284 c256_i32_3993
  v5285
def k0_mult212 : BitVec 32 :=
  let c0_i32_63 : BitVec 32 := 0#32
  let c32_i32_4010 : BitVec 32 := 32#32
  let v5308 : BitVec 32 := Scalar.muli c0_i32_63 c32_i32_4010
  let c17_i32_4011 : BitVec 32 := 17#32
  let v5309 : BitVec 32 := Scalar.addi v5308 c17_i32_4011
  let c256_i32_4012 : BitVec 32 := 256#32
  let v5310 : BitVec 32 := Scalar.muli v5309 c256_i32_4012
  v5310
def k0_mult213 : BitVec 32 :=
  let c0_i32_63 : BitVec 32 := 0#32
  let c32_i32_4029 : BitVec 32 := 32#32
  let v5333 : BitVec 32 := Scalar.muli c0_i32_63 c32_i32_4029
  let c17_i32_4030 : BitVec 32 := 17#32
  let v5334 : BitVec 32 := Scalar.addi v5333 c17_i32_4030
  let c256_i32_4031 : BitVec 32 := 256#32
  let v5335 : BitVec 32 := Scalar.muli v5334 c256_i32_4031
  v5335
def k0_mult214 : BitVec 32 :=
  let c0_i32_63 : BitVec 32 := 0#32
  let c32_i32_4048 : BitVec 32 := 32#32
  let v5358 : BitVec 32 := Scalar.muli c0_i32_63 c32_i32_4048
  let c17_i32_4049 : BitVec 32 := 17#32
  let v5359 : BitVec 32 := Scalar.addi v5358 c17_i32_4049
  let c256_i32_4050 : BitVec 32 := 256#32
  let v5360 : BitVec 32 := Scalar.muli v5359 c256_i32_4050
  v5360
def k0_mult215 : BitVec 32 :=
  let c0_i32_63 : BitVec 32 := 0#32
  let c32_i32_4067 : BitVec 32 := 32#32
  let v5383 : BitVec 32 := Scalar.muli c0_i32_63 c32_i32_4067
  let c17_i32_4068 : BitVec 32 := 17#32
  let v5384 : BitVec 32 := Scalar.addi v5383 c17_i32_4068
  let c256_i32_4069 : BitVec 32 := 256#32
  let v5385 : BitVec 32 := Scalar.muli v5384 c256_i32_4069
  v5385
def k0_mult216 : BitVec 32 :=
  let c0_i32_63 : BitVec 32 := 0#32
  let c32_i32_4086 : BitVec 32 := 32#32
  let v5408 : BitVec 32 := Scalar.muli c0_i32_63 c32_i32_4086
  let c17_i32_4087 : BitVec 32 := 17#32
  let v5409 : BitVec 32 := Scalar.addi v5408 c17_i32_4087
  let c256_i32_4088 : BitVec 32 := 256#32
  let v5410 : BitVec 32 := Scalar.muli v5409 c256_i32_4088
  v5410
def k0_mult217 : BitVec 32 :=
  let c0_i32_63 : BitVec 32 := 0#32
  let c32_i32_4105 : BitVec 32 := 32#32
  let v5433 : BitVec 32 := Scalar.muli c0_i32_63 c32_i32_4105
  let c18_i32 : BitVec 32 := 18#32
  let v5434 : BitVec 32 := Scalar.addi v5433 c18_i32
  let c256_i32_4106 : BitVec 32 := 256#32
  let v5435 : BitVec 32 := Scalar.muli v5434 c256_i32_4106
  v5435
def k0_mult218 : BitVec 32 :=
  let c0_i32_63 : BitVec 32 := 0#32
  let c32_i32_4123 : BitVec 32 := 32#32
  let v5458 : BitVec 32 := Scalar.muli c0_i32_63 c32_i32_4123
  let c18_i32_4124 : BitVec 32 := 18#32
  let v5459 : BitVec 32 := Scalar.addi v5458 c18_i32_4124
  let c256_i32_4125 : BitVec 32 := 256#32
  let v5460 : BitVec 32 := Scalar.muli v5459 c256_i32_4125
  v5460
def k0_mult219 : BitVec 32 :=
  let c0_i32_63 : BitVec 32 := 0#32
  let c32_i32_4142 : BitVec 32 := 32#32
  let v5483 : BitVec 32 := Scalar.muli c0_i32_63 c32_i32_4142
  let c18_i32_4143 : BitVec 32 := 18#32
  let v5484 : BitVec 32 := Scalar.addi v5483 c18_i32_4143
  let c256_i32_4144 : BitVec 32 := 256#32
  let v5485 : BitVec 32 := Scalar.muli v5484 c256_i32_4144
  v5485
def k0_mult220 : BitVec 32 :=
  let c0_i32_63 : BitVec 32 := 0#32
  let c32_i32_4161 : BitVec 32 := 32#32
  let v5508 : BitVec 32 := Scalar.muli c0_i32_63 c32_i32_4161
  let c18_i32_4162 : BitVec 32 := 18#32
  let v5509 : BitVec 32 := Scalar.addi v5508 c18_i32_4162
  let c256_i32_4163 : BitVec 32 := 256#32
  let v5510 : BitVec 32 := Scalar.muli v5509 c256_i32_4163
  v5510
def k0_mult221 : BitVec 32 :=
  let c0_i32_63 : BitVec 32 := 0#32
  let c32_i32_4180 : BitVec 32 := 32#32
  let v5533 : BitVec 32 := Scalar.muli c0_i32_63 c32_i32_4180
  let c18_i32_4181 : BitVec 32 := 18#32
  let v5534 : BitVec 32 := Scalar.addi v5533 c18_i32_4181
  let c256_i32_4182 : BitVec 32 := 256#32
  let v5535 : BitVec 32 := Scalar.muli v5534 c256_i32_4182
  v5535
def k0_mult222 : BitVec 32 :=
  let c0_i32_63 : BitVec 32 := 0#32
  let c32_i32_4199 : BitVec 32 := 32#32
  let v5558 : BitVec 32 := Scalar.muli c0_i32_63 c32_i32_4199
  let c18_i32_4200 : BitVec 32 := 18#32
  let v5559 : BitVec 32 := Scalar.addi v5558 c18_i32_4200
  let c256_i32_4201 : BitVec 32 := 256#32
  let v5560 : BitVec 32 := Scalar.muli v5559 c256_i32_4201
  v5560
def k0_mult223 : BitVec 32 :=
  let c0_i32_63 : BitVec 32 := 0#32
  let c32_i32_4218 : BitVec 32 := 32#32
  let v5583 : BitVec 32 := Scalar.muli c0_i32_63 c32_i32_4218
  let c18_i32_4219 : BitVec 32 := 18#32
  let v5584 : BitVec 32 := Scalar.addi v5583 c18_i32_4219
  let c256_i32_4220 : BitVec 32 := 256#32
  let v5585 : BitVec 32 := Scalar.muli v5584 c256_i32_4220
  v5585
def k0_mult224 : BitVec 32 :=
  let c0_i32_63 : BitVec 32 := 0#32
  let c32_i32_4237 : BitVec 32 := 32#32
  let v5608 : BitVec 32 := Scalar.muli c0_i32_63 c32_i32_4237
  let c18_i32_4238 : BitVec 32 := 18#32
  let v5609 : BitVec 32 := Scalar.addi v5608 c18_i32_4238
  let c256_i32_4239 : BitVec 32 := 256#32
  let v5610 : BitVec 32 := Scalar.muli v5609 c256_i32_4239
  v5610
def k0_mult225 : BitVec 32 :=
  let c0_i32_63 : BitVec 32 := 0#32
  let c32_i32_4256 : BitVec 32 := 32#32
  let v5633 : BitVec 32 := Scalar.muli c0_i32_63 c32_i32_4256
  let c18_i32_4257 : BitVec 32 := 18#32
  let v5634 : BitVec 32 := Scalar.addi v5633 c18_i32_4257
  let c256_i32_4258 : BitVec 32 := 256#32
  let v5635 : BitVec 32 := Scalar.muli v5634 c256_i32_4258
  v5635
def k0_mult226 : BitVec 32 :=
  let c0_i32_63 : BitVec 32 := 0#32
  let c32_i32_4275 : BitVec 32 := 32#32
  let v5658 : BitVec 32 := Scalar.muli c0_i32_63 c32_i32_4275
  let c18_i32_4276 : BitVec 32 := 18#32
  let v5659 : BitVec 32 := Scalar.addi v5658 c18_i32_4276
  let c256_i32_4277 : BitVec 32 := 256#32
  let v5660 : BitVec 32 := Scalar.muli v5659 c256_i32_4277
  v5660
def k0_mult227 : BitVec 32 :=
  let c0_i32_63 : BitVec 32 := 0#32
  let c32_i32_4294 : BitVec 32 := 32#32
  let v5683 : BitVec 32 := Scalar.muli c0_i32_63 c32_i32_4294
  let c18_i32_4295 : BitVec 32 := 18#32
  let v5684 : BitVec 32 := Scalar.addi v5683 c18_i32_4295
  let c256_i32_4296 : BitVec 32 := 256#32
  let v5685 : BitVec 32 := Scalar.muli v5684 c256_i32_4296
  v5685
def k0_mult228 : BitVec 32 :=
  let c0_i32_63 : BitVec 32 := 0#32
  let c32_i32_4313 : BitVec 32 := 32#32
  let v5708 : BitVec 32 := Scalar.muli c0_i32_63 c32_i32_4313
  let c18_i32_4314 : BitVec 32 := 18#32
  let v5709 : BitVec 32 := Scalar.addi v5708 c18_i32_4314
  let c256_i32_4315 : BitVec 32 := 256#32
  let v5710 : BitVec 32 := Scalar.muli v5709 c256_i32_4315
  v5710
def k0_mult229 : BitVec 32 :=
  let c0_i32_63 : BitVec 32 := 0#32
  let c32_i32_4332 : BitVec 32 := 32#32
  let v5733 : BitVec 32 := Scalar.muli c0_i32_63 c32_i32_4332
  let c19_i32 : BitVec 32 := 19#32
  let v5734 : BitVec 32 := Scalar.addi v5733 c19_i32
  let c256_i32_4333 : BitVec 32 := 256#32
  let v5735 : BitVec 32 := Scalar.muli v5734 c256_i32_4333
  v5735
def k0_mult230 : BitVec 32 :=
  let c0_i32_63 : BitVec 32 := 0#32
  let c32_i32_4350 : BitVec 32 := 32#32
  let v5758 : BitVec 32 := Scalar.muli c0_i32_63 c32_i32_4350
  let c19_i32_4351 : BitVec 32 := 19#32
  let v5759 : BitVec 32 := Scalar.addi v5758 c19_i32_4351
  let c256_i32_4352 : BitVec 32 := 256#32
  let v5760 : BitVec 32 := Scalar.muli v5759 c256_i32_4352
  v5760
def k0_mult231 : BitVec 32 :=
  let c0_i32_63 : BitVec 32 := 0#32
  let c32_i32_4369 : BitVec 32 := 32#32
  let v5783 : BitVec 32 := Scalar.muli c0_i32_63 c32_i32_4369
  let c19_i32_4370 : BitVec 32 := 19#32
  let v5784 : BitVec 32 := Scalar.addi v5783 c19_i32_4370
  let c256_i32_4371 : BitVec 32 := 256#32
  let v5785 : BitVec 32 := Scalar.muli v5784 c256_i32_4371
  v5785
def k0_mult232 : BitVec 32 :=
  let c0_i32_63 : BitVec 32 := 0#32
  let c32_i32_4388 : BitVec 32 := 32#32
  let v5808 : BitVec 32 := Scalar.muli c0_i32_63 c32_i32_4388
  let c19_i32_4389 : BitVec 32 := 19#32
  let v5809 : BitVec 32 := Scalar.addi v5808 c19_i32_4389
  let c256_i32_4390 : BitVec 32 := 256#32
  let v5810 : BitVec 32 := Scalar.muli v5809 c256_i32_4390
  v5810
def k0_mult233 : BitVec 32 :=
  let c0_i32_63 : BitVec 32 := 0#32
  let c32_i32_4407 : BitVec 32 := 32#32
  let v5833 : BitVec 32 := Scalar.muli c0_i32_63 c32_i32_4407
  let c19_i32_4408 : BitVec 32 := 19#32
  let v5834 : BitVec 32 := Scalar.addi v5833 c19_i32_4408
  let c256_i32_4409 : BitVec 32 := 256#32
  let v5835 : BitVec 32 := Scalar.muli v5834 c256_i32_4409
  v5835
def k0_mult234 : BitVec 32 :=
  let c0_i32_63 : BitVec 32 := 0#32
  let c32_i32_4426 : BitVec 32 := 32#32
  let v5858 : BitVec 32 := Scalar.muli c0_i32_63 c32_i32_4426
  let c19_i32_4427 : BitVec 32 := 19#32
  let v5859 : BitVec 32 := Scalar.addi v5858 c19_i32_4427
  let c256_i32_4428 : BitVec 32 := 256#32
  let v5860 : BitVec 32 := Scalar.muli v5859 c256_i32_4428
  v5860
def k0_mult235 : BitVec 32 :=
  let c0_i32_63 : BitVec 32 := 0#32
  let c32_i32_4445 : BitVec 32 := 32#32
  let v5883 : BitVec 32 := Scalar.muli c0_i32_63 c32_i32_4445
  let c19_i32_4446 : BitVec 32 := 19#32
  let v5884 : BitVec 32 := Scalar.addi v5883 c19_i32_4446
  let c256_i32_4447 : BitVec 32 := 256#32
  let v5885 : BitVec 32 := Scalar.muli v5884 c256_i32_4447
  v5885
def k0_mult236 : BitVec 32 :=
  let c0_i32_63 : BitVec 32 := 0#32
  let c32_i32_4464 : BitVec 32 := 32#32
  let v5908 : BitVec 32 := Scalar.muli c0_i32_63 c32_i32_4464
  let c19_i32_4465 : BitVec 32 := 19#32
  let v5909 : BitVec 32 := Scalar.addi v5908 c19_i32_4465
  let c256_i32_4466 : BitVec 32 := 256#32
  let v5910 : BitVec 32 := Scalar.muli v5909 c256_i32_4466
  v5910
def k0_mult237 : BitVec 32 :=
  let c0_i32_63 : BitVec 32 := 0#32
  let c32_i32_4483 : BitVec 32 := 32#32
  let v5933 : BitVec 32 := Scalar.muli c0_i32_63 c32_i32_4483
  let c19_i32_4484 : BitVec 32 := 19#32
  let v5934 : BitVec 32 := Scalar.addi v5933 c19_i32_4484
  let c256_i32_4485 : BitVec 32 := 256#32
  let v5935 : BitVec 32 := Scalar.muli v5934 c256_i32_4485
  v5935
def k0_mult238 : BitVec 32 :=
  let c0_i32_63 : BitVec 32 := 0#32
  let c32_i32_4502 : BitVec 32 := 32#32
  let v5958 : BitVec 32 := Scalar.muli c0_i32_63 c32_i32_4502
  let c19_i32_4503 : BitVec 32 := 19#32
  let v5959 : BitVec 32 := Scalar.addi v5958 c19_i32_4503
  let c256_i32_4504 : BitVec 32 := 256#32
  let v5960 : BitVec 32 := Scalar.muli v5959 c256_i32_4504
  v5960
def k0_mult239 : BitVec 32 :=
  let c0_i32_63 : BitVec 32 := 0#32
  let c32_i32_4521 : BitVec 32 := 32#32
  let v5983 : BitVec 32 := Scalar.muli c0_i32_63 c32_i32_4521
  let c19_i32_4522 : BitVec 32 := 19#32
  let v5984 : BitVec 32 := Scalar.addi v5983 c19_i32_4522
  let c256_i32_4523 : BitVec 32 := 256#32
  let v5985 : BitVec 32 := Scalar.muli v5984 c256_i32_4523
  v5985
def k0_mult240 : BitVec 32 :=
  let c0_i32_63 : BitVec 32 := 0#32
  let c32_i32_4540 : BitVec 32 := 32#32
  let v6008 : BitVec 32 := Scalar.muli c0_i32_63 c32_i32_4540
  let c19_i32_4541 : BitVec 32 := 19#32
  let v6009 : BitVec 32 := Scalar.addi v6008 c19_i32_4541
  let c256_i32_4542 : BitVec 32 := 256#32
  let v6010 : BitVec 32 := Scalar.muli v6009 c256_i32_4542
  v6010
def k0_mult241 : BitVec 32 :=
  let c0_i32_63 : BitVec 32 := 0#32
  let c32_i32_4559 : BitVec 32 := 32#32
  let v6033 : BitVec 32 := Scalar.muli c0_i32_63 c32_i32_4559
  let c20_i32 : BitVec 32 := 20#32
  let v6034 : BitVec 32 := Scalar.addi v6033 c20_i32
  let c256_i32_4560 : BitVec 32 := 256#32
  let v6035 : BitVec 32 := Scalar.muli v6034 c256_i32_4560
  v6035
def k0_mult242 : BitVec 32 :=
  let c0_i32_63 : BitVec 32 := 0#32
  let c32_i32_4577 : BitVec 32 := 32#32
  let v6058 : BitVec 32 := Scalar.muli c0_i32_63 c32_i32_4577
  let c20_i32_4578 : BitVec 32 := 20#32
  let v6059 : BitVec 32 := Scalar.addi v6058 c20_i32_4578
  let c256_i32_4579 : BitVec 32 := 256#32
  let v6060 : BitVec 32 := Scalar.muli v6059 c256_i32_4579
  v6060
def k0_mult243 : BitVec 32 :=
  let c0_i32_63 : BitVec 32 := 0#32
  let c32_i32_4596 : BitVec 32 := 32#32
  let v6083 : BitVec 32 := Scalar.muli c0_i32_63 c32_i32_4596
  let c20_i32_4597 : BitVec 32 := 20#32
  let v6084 : BitVec 32 := Scalar.addi v6083 c20_i32_4597
  let c256_i32_4598 : BitVec 32 := 256#32
  let v6085 : BitVec 32 := Scalar.muli v6084 c256_i32_4598
  v6085
def k0_mult244 : BitVec 32 :=
  let c0_i32_63 : BitVec 32 := 0#32
  let c32_i32_4615 : BitVec 32 := 32#32
  let v6108 : BitVec 32 := Scalar.muli c0_i32_63 c32_i32_4615
  let c20_i32_4616 : BitVec 32 := 20#32
  let v6109 : BitVec 32 := Scalar.addi v6108 c20_i32_4616
  let c256_i32_4617 : BitVec 32 := 256#32
  let v6110 : BitVec 32 := Scalar.muli v6109 c256_i32_4617
  v6110
def k0_mult245 : BitVec 32 :=
  let c0_i32_63 : BitVec 32 := 0#32
  let c32_i32_4634 : BitVec 32 := 32#32
  let v6133 : BitVec 32 := Scalar.muli c0_i32_63 c32_i32_4634
  let c20_i32_4635 : BitVec 32 := 20#32
  let v6134 : BitVec 32 := Scalar.addi v6133 c20_i32_4635
  let c256_i32_4636 : BitVec 32 := 256#32
  let v6135 : BitVec 32 := Scalar.muli v6134 c256_i32_4636
  v6135
def k0_mult246 : BitVec 32 :=
  let c0_i32_63 : BitVec 32 := 0#32
  let c32_i32_4653 : BitVec 32 := 32#32
  let v6158 : BitVec 32 := Scalar.muli c0_i32_63 c32_i32_4653
  let c20_i32_4654 : BitVec 32 := 20#32
  let v6159 : BitVec 32 := Scalar.addi v6158 c20_i32_4654
  let c256_i32_4655 : BitVec 32 := 256#32
  let v6160 : BitVec 32 := Scalar.muli v6159 c256_i32_4655
  v6160
def k0_mult247 : BitVec 32 :=
  let c0_i32_63 : BitVec 32 := 0#32
  let c32_i32_4672 : BitVec 32 := 32#32
  let v6183 : BitVec 32 := Scalar.muli c0_i32_63 c32_i32_4672
  let c20_i32_4673 : BitVec 32 := 20#32
  let v6184 : BitVec 32 := Scalar.addi v6183 c20_i32_4673
  let c256_i32_4674 : BitVec 32 := 256#32
  let v6185 : BitVec 32 := Scalar.muli v6184 c256_i32_4674
  v6185
def k0_mult248 : BitVec 32 :=
  let c0_i32_63 : BitVec 32 := 0#32
  let c32_i32_4691 : BitVec 32 := 32#32
  let v6208 : BitVec 32 := Scalar.muli c0_i32_63 c32_i32_4691
  let c20_i32_4692 : BitVec 32 := 20#32
  let v6209 : BitVec 32 := Scalar.addi v6208 c20_i32_4692
  let c256_i32_4693 : BitVec 32 := 256#32
  let v6210 : BitVec 32 := Scalar.muli v6209 c256_i32_4693
  v6210
def k0_mult249 : BitVec 32 :=
  let c0_i32_63 : BitVec 32 := 0#32
  let c32_i32_4710 : BitVec 32 := 32#32
  let v6233 : BitVec 32 := Scalar.muli c0_i32_63 c32_i32_4710
  let c20_i32_4711 : BitVec 32 := 20#32
  let v6234 : BitVec 32 := Scalar.addi v6233 c20_i32_4711
  let c256_i32_4712 : BitVec 32 := 256#32
  let v6235 : BitVec 32 := Scalar.muli v6234 c256_i32_4712
  v6235
def k0_mult250 : BitVec 32 :=
  let c0_i32_63 : BitVec 32 := 0#32
  let c32_i32_4729 : BitVec 32 := 32#32
  let v6258 : BitVec 32 := Scalar.muli c0_i32_63 c32_i32_4729
  let c20_i32_4730 : BitVec 32 := 20#32
  let v6259 : BitVec 32 := Scalar.addi v6258 c20_i32_4730
  let c256_i32_4731 : BitVec 32 := 256#32
  let v6260 : BitVec 32 := Scalar.muli v6259 c256_i32_4731
  v6260
def k0_mult251 : BitVec 32 :=
  let c0_i32_63 : BitVec 32 := 0#32
  let c32_i32_4748 : BitVec 32 := 32#32
  let v6283 : BitVec 32 := Scalar.muli c0_i32_63 c32_i32_4748
  let c20_i32_4749 : BitVec 32 := 20#32
  let v6284 : BitVec 32 := Scalar.addi v6283 c20_i32_4749
  let c256_i32_4750 : BitVec 32 := 256#32
  let v6285 : BitVec 32 := Scalar.muli v6284 c256_i32_4750
  v6285
def k0_mult252 : BitVec 32 :=
  let c0_i32_63 : BitVec 32 := 0#32
  let c32_i32_4767 : BitVec 32 := 32#32
  let v6308 : BitVec 32 := Scalar.muli c0_i32_63 c32_i32_4767
  let c20_i32_4768 : BitVec 32 := 20#32
  let v6309 : BitVec 32 := Scalar.addi v6308 c20_i32_4768
  let c256_i32_4769 : BitVec 32 := 256#32
  let v6310 : BitVec 32 := Scalar.muli v6309 c256_i32_4769
  v6310
def k0_mult253 : BitVec 32 :=
  let c0_i32_63 : BitVec 32 := 0#32
  let c32_i32_4786 : BitVec 32 := 32#32
  let v6333 : BitVec 32 := Scalar.muli c0_i32_63 c32_i32_4786
  let c21_i32 : BitVec 32 := 21#32
  let v6334 : BitVec 32 := Scalar.addi v6333 c21_i32
  let c256_i32_4787 : BitVec 32 := 256#32
  let v6335 : BitVec 32 := Scalar.muli v6334 c256_i32_4787
  v6335
def k0_mult254 : BitVec 32 :=
  let c0_i32_63 : BitVec 32 := 0#32
  let c32_i32_4804 : BitVec 32 := 32#32
  let v6358 : BitVec 32 := Scalar.muli c0_i32_63 c32_i32_4804
  let c21_i32_4805 : BitVec 32 := 21#32
  let v6359 : BitVec 32 := Scalar.addi v6358 c21_i32_4805
  let c256_i32_4806 : BitVec 32 := 256#32
  let v6360 : BitVec 32 := Scalar.muli v6359 c256_i32_4806
  v6360
def k0_mult255 : BitVec 32 :=
  let c0_i32_63 : BitVec 32 := 0#32
  let c32_i32_4823 : BitVec 32 := 32#32
  let v6383 : BitVec 32 := Scalar.muli c0_i32_63 c32_i32_4823
  let c21_i32_4824 : BitVec 32 := 21#32
  let v6384 : BitVec 32 := Scalar.addi v6383 c21_i32_4824
  let c256_i32_4825 : BitVec 32 := 256#32
  let v6385 : BitVec 32 := Scalar.muli v6384 c256_i32_4825
  v6385
def k0_mult256 : BitVec 32 :=
  let c0_i32_63 : BitVec 32 := 0#32
  let c32_i32_4842 : BitVec 32 := 32#32
  let v6408 : BitVec 32 := Scalar.muli c0_i32_63 c32_i32_4842
  let c21_i32_4843 : BitVec 32 := 21#32
  let v6409 : BitVec 32 := Scalar.addi v6408 c21_i32_4843
  let c256_i32_4844 : BitVec 32 := 256#32
  let v6410 : BitVec 32 := Scalar.muli v6409 c256_i32_4844
  v6410
def k0_mult257 : BitVec 32 :=
  let c0_i32_63 : BitVec 32 := 0#32
  let c32_i32_4861 : BitVec 32 := 32#32
  let v6433 : BitVec 32 := Scalar.muli c0_i32_63 c32_i32_4861
  let c21_i32_4862 : BitVec 32 := 21#32
  let v6434 : BitVec 32 := Scalar.addi v6433 c21_i32_4862
  let c256_i32_4863 : BitVec 32 := 256#32
  let v6435 : BitVec 32 := Scalar.muli v6434 c256_i32_4863
  v6435
def k0_mult258 : BitVec 32 :=
  let c0_i32_63 : BitVec 32 := 0#32
  let c32_i32_4880 : BitVec 32 := 32#32
  let v6458 : BitVec 32 := Scalar.muli c0_i32_63 c32_i32_4880
  let c21_i32_4881 : BitVec 32 := 21#32
  let v6459 : BitVec 32 := Scalar.addi v6458 c21_i32_4881
  let c256_i32_4882 : BitVec 32 := 256#32
  let v6460 : BitVec 32 := Scalar.muli v6459 c256_i32_4882
  v6460
def k0_mult259 : BitVec 32 :=
  let c0_i32_63 : BitVec 32 := 0#32
  let c32_i32_4899 : BitVec 32 := 32#32
  let v6483 : BitVec 32 := Scalar.muli c0_i32_63 c32_i32_4899
  let c21_i32_4900 : BitVec 32 := 21#32
  let v6484 : BitVec 32 := Scalar.addi v6483 c21_i32_4900
  let c256_i32_4901 : BitVec 32 := 256#32
  let v6485 : BitVec 32 := Scalar.muli v6484 c256_i32_4901
  v6485
def k0_mult260 : BitVec 32 :=
  let c0_i32_63 : BitVec 32 := 0#32
  let c32_i32_4918 : BitVec 32 := 32#32
  let v6508 : BitVec 32 := Scalar.muli c0_i32_63 c32_i32_4918
  let c21_i32_4919 : BitVec 32 := 21#32
  let v6509 : BitVec 32 := Scalar.addi v6508 c21_i32_4919
  let c256_i32_4920 : BitVec 32 := 256#32
  let v6510 : BitVec 32 := Scalar.muli v6509 c256_i32_4920
  v6510
def k0_mult261 : BitVec 32 :=
  let c0_i32_63 : BitVec 32 := 0#32
  let c32_i32_4937 : BitVec 32 := 32#32
  let v6533 : BitVec 32 := Scalar.muli c0_i32_63 c32_i32_4937
  let c21_i32_4938 : BitVec 32 := 21#32
  let v6534 : BitVec 32 := Scalar.addi v6533 c21_i32_4938
  let c256_i32_4939 : BitVec 32 := 256#32
  let v6535 : BitVec 32 := Scalar.muli v6534 c256_i32_4939
  v6535
def k0_mult262 : BitVec 32 :=
  let c0_i32_63 : BitVec 32 := 0#32
  let c32_i32_4956 : BitVec 32 := 32#32
  let v6558 : BitVec 32 := Scalar.muli c0_i32_63 c32_i32_4956
  let c21_i32_4957 : BitVec 32 := 21#32
  let v6559 : BitVec 32 := Scalar.addi v6558 c21_i32_4957
  let c256_i32_4958 : BitVec 32 := 256#32
  let v6560 : BitVec 32 := Scalar.muli v6559 c256_i32_4958
  v6560
def k0_mult263 : BitVec 32 :=
  let c0_i32_63 : BitVec 32 := 0#32
  let c32_i32_4975 : BitVec 32 := 32#32
  let v6583 : BitVec 32 := Scalar.muli c0_i32_63 c32_i32_4975
  let c21_i32_4976 : BitVec 32 := 21#32
  let v6584 : BitVec 32 := Scalar.addi v6583 c21_i32_4976
  let c256_i32_4977 : BitVec 32 := 256#32
  let v6585 : BitVec 32 := Scalar.muli v6584 c256_i32_4977
  v6585
def k0_mult264 : BitVec 32 :=
  let c0_i32_63 : BitVec 32 := 0#32
  let c32_i32_4994 : BitVec 32 := 32#32
  let v6608 : BitVec 32 := Scalar.muli c0_i32_63 c32_i32_4994
  let c21_i32_4995 : BitVec 32 := 21#32
  let v6609 : BitVec 32 := Scalar.addi v6608 c21_i32_4995
  let c256_i32_4996 : BitVec 32 := 256#32
  let v6610 : BitVec 32 := Scalar.muli v6609 c256_i32_4996
  v6610
def k0_mult265 : BitVec 32 :=
  let c0_i32_63 : BitVec 32 := 0#32
  let c32_i32_5013 : BitVec 32 := 32#32
  let v6633 : BitVec 32 := Scalar.muli c0_i32_63 c32_i32_5013
  let c22_i32 : BitVec 32 := 22#32
  let v6634 : BitVec 32 := Scalar.addi v6633 c22_i32
  let c256_i32_5014 : BitVec 32 := 256#32
  let v6635 : BitVec 32 := Scalar.muli v6634 c256_i32_5014
  v6635
def k0_mult266 : BitVec 32 :=
  let c0_i32_63 : BitVec 32 := 0#32
  let c32_i32_5031 : BitVec 32 := 32#32
  let v6658 : BitVec 32 := Scalar.muli c0_i32_63 c32_i32_5031
  let c22_i32_5032 : BitVec 32 := 22#32
  let v6659 : BitVec 32 := Scalar.addi v6658 c22_i32_5032
  let c256_i32_5033 : BitVec 32 := 256#32
  let v6660 : BitVec 32 := Scalar.muli v6659 c256_i32_5033
  v6660
def k0_mult267 : BitVec 32 :=
  let c0_i32_63 : BitVec 32 := 0#32
  let c32_i32_5050 : BitVec 32 := 32#32
  let v6683 : BitVec 32 := Scalar.muli c0_i32_63 c32_i32_5050
  let c22_i32_5051 : BitVec 32 := 22#32
  let v6684 : BitVec 32 := Scalar.addi v6683 c22_i32_5051
  let c256_i32_5052 : BitVec 32 := 256#32
  let v6685 : BitVec 32 := Scalar.muli v6684 c256_i32_5052
  v6685
def k0_mult268 : BitVec 32 :=
  let c0_i32_63 : BitVec 32 := 0#32
  let c32_i32_5069 : BitVec 32 := 32#32
  let v6708 : BitVec 32 := Scalar.muli c0_i32_63 c32_i32_5069
  let c22_i32_5070 : BitVec 32 := 22#32
  let v6709 : BitVec 32 := Scalar.addi v6708 c22_i32_5070
  let c256_i32_5071 : BitVec 32 := 256#32
  let v6710 : BitVec 32 := Scalar.muli v6709 c256_i32_5071
  v6710
def k0_mult269 : BitVec 32 :=
  let c0_i32_63 : BitVec 32 := 0#32
  let c32_i32_5088 : BitVec 32 := 32#32
  let v6733 : BitVec 32 := Scalar.muli c0_i32_63 c32_i32_5088
  let c22_i32_5089 : BitVec 32 := 22#32
  let v6734 : BitVec 32 := Scalar.addi v6733 c22_i32_5089
  let c256_i32_5090 : BitVec 32 := 256#32
  let v6735 : BitVec 32 := Scalar.muli v6734 c256_i32_5090
  v6735
def k0_mult270 : BitVec 32 :=
  let c0_i32_63 : BitVec 32 := 0#32
  let c32_i32_5107 : BitVec 32 := 32#32
  let v6758 : BitVec 32 := Scalar.muli c0_i32_63 c32_i32_5107
  let c22_i32_5108 : BitVec 32 := 22#32
  let v6759 : BitVec 32 := Scalar.addi v6758 c22_i32_5108
  let c256_i32_5109 : BitVec 32 := 256#32
  let v6760 : BitVec 32 := Scalar.muli v6759 c256_i32_5109
  v6760
def k0_mult271 : BitVec 32 :=
  let c0_i32_63 : BitVec 32 := 0#32
  let c32_i32_5126 : BitVec 32 := 32#32
  let v6783 : BitVec 32 := Scalar.muli c0_i32_63 c32_i32_5126
  let c22_i32_5127 : BitVec 32 := 22#32
  let v6784 : BitVec 32 := Scalar.addi v6783 c22_i32_5127
  let c256_i32_5128 : BitVec 32 := 256#32
  let v6785 : BitVec 32 := Scalar.muli v6784 c256_i32_5128
  v6785
def k0_mult272 : BitVec 32 :=
  let c0_i32_63 : BitVec 32 := 0#32
  let c32_i32_5145 : BitVec 32 := 32#32
  let v6808 : BitVec 32 := Scalar.muli c0_i32_63 c32_i32_5145
  let c22_i32_5146 : BitVec 32 := 22#32
  let v6809 : BitVec 32 := Scalar.addi v6808 c22_i32_5146
  let c256_i32_5147 : BitVec 32 := 256#32
  let v6810 : BitVec 32 := Scalar.muli v6809 c256_i32_5147
  v6810
def k0_mult273 : BitVec 32 :=
  let c0_i32_63 : BitVec 32 := 0#32
  let c32_i32_5164 : BitVec 32 := 32#32
  let v6833 : BitVec 32 := Scalar.muli c0_i32_63 c32_i32_5164
  let c22_i32_5165 : BitVec 32 := 22#32
  let v6834 : BitVec 32 := Scalar.addi v6833 c22_i32_5165
  let c256_i32_5166 : BitVec 32 := 256#32
  let v6835 : BitVec 32 := Scalar.muli v6834 c256_i32_5166
  v6835
def k0_mult274 : BitVec 32 :=
  let c0_i32_63 : BitVec 32 := 0#32
  let c32_i32_5183 : BitVec 32 := 32#32
  let v6858 : BitVec 32 := Scalar.muli c0_i32_63 c32_i32_5183
  let c22_i32_5184 : BitVec 32 := 22#32
  let v6859 : BitVec 32 := Scalar.addi v6858 c22_i32_5184
  let c256_i32_5185 : BitVec 32 := 256#32
  let v6860 : BitVec 32 := Scalar.muli v6859 c256_i32_5185
  v6860
def k0_mult275 : BitVec 32 :=
  let c0_i32_63 : BitVec 32 := 0#32
  let c32_i32_5202 : BitVec 32 := 32#32
  let v6883 : BitVec 32 := Scalar.muli c0_i32_63 c32_i32_5202
  let c22_i32_5203 : BitVec 32 := 22#32
  let v6884 : BitVec 32 := Scalar.addi v6883 c22_i32_5203
  let c256_i32_5204 : BitVec 32 := 256#32
  let v6885 : BitVec 32 := Scalar.muli v6884 c256_i32_5204
  v6885
def k0_mult276 : BitVec 32 :=
  let c0_i32_63 : BitVec 32 := 0#32
  let c32_i32_5221 : BitVec 32 := 32#32
  let v6908 : BitVec 32 := Scalar.muli c0_i32_63 c32_i32_5221
  let c22_i32_5222 : BitVec 32 := 22#32
  let v6909 : BitVec 32 := Scalar.addi v6908 c22_i32_5222
  let c256_i32_5223 : BitVec 32 := 256#32
  let v6910 : BitVec 32 := Scalar.muli v6909 c256_i32_5223
  v6910
def k0_mult277 : BitVec 32 :=
  let c0_i32_63 : BitVec 32 := 0#32
  let c32_i32_5240 : BitVec 32 := 32#32
  let v6933 : BitVec 32 := Scalar.muli c0_i32_63 c32_i32_5240
  let c23_i32 : BitVec 32 := 23#32
  let v6934 : BitVec 32 := Scalar.addi v6933 c23_i32
  let c256_i32_5241 : BitVec 32 := 256#32
  let v6935 : BitVec 32 := Scalar.muli v6934 c256_i32_5241
  v6935
def k0_mult278 : BitVec 32 :=
  let c0_i32_63 : BitVec 32 := 0#32
  let c32_i32_5258 : BitVec 32 := 32#32
  let v6958 : BitVec 32 := Scalar.muli c0_i32_63 c32_i32_5258
  let c23_i32_5259 : BitVec 32 := 23#32
  let v6959 : BitVec 32 := Scalar.addi v6958 c23_i32_5259
  let c256_i32_5260 : BitVec 32 := 256#32
  let v6960 : BitVec 32 := Scalar.muli v6959 c256_i32_5260
  v6960
def k0_mult279 : BitVec 32 :=
  let c0_i32_63 : BitVec 32 := 0#32
  let c32_i32_5277 : BitVec 32 := 32#32
  let v6983 : BitVec 32 := Scalar.muli c0_i32_63 c32_i32_5277
  let c23_i32_5278 : BitVec 32 := 23#32
  let v6984 : BitVec 32 := Scalar.addi v6983 c23_i32_5278
  let c256_i32_5279 : BitVec 32 := 256#32
  let v6985 : BitVec 32 := Scalar.muli v6984 c256_i32_5279
  v6985
def k0_mult280 : BitVec 32 :=
  let c0_i32_63 : BitVec 32 := 0#32
  let c32_i32_5296 : BitVec 32 := 32#32
  let v7008 : BitVec 32 := Scalar.muli c0_i32_63 c32_i32_5296
  let c23_i32_5297 : BitVec 32 := 23#32
  let v7009 : BitVec 32 := Scalar.addi v7008 c23_i32_5297
  let c256_i32_5298 : BitVec 32 := 256#32
  let v7010 : BitVec 32 := Scalar.muli v7009 c256_i32_5298
  v7010
def k0_mult281 : BitVec 32 :=
  let c0_i32_63 : BitVec 32 := 0#32
  let c32_i32_5315 : BitVec 32 := 32#32
  let v7033 : BitVec 32 := Scalar.muli c0_i32_63 c32_i32_5315
  let c23_i32_5316 : BitVec 32 := 23#32
  let v7034 : BitVec 32 := Scalar.addi v7033 c23_i32_5316
  let c256_i32_5317 : BitVec 32 := 256#32
  let v7035 : BitVec 32 := Scalar.muli v7034 c256_i32_5317
  v7035
def k0_mult282 : BitVec 32 :=
  let c0_i32_63 : BitVec 32 := 0#32
  let c32_i32_5334 : BitVec 32 := 32#32
  let v7058 : BitVec 32 := Scalar.muli c0_i32_63 c32_i32_5334
  let c23_i32_5335 : BitVec 32 := 23#32
  let v7059 : BitVec 32 := Scalar.addi v7058 c23_i32_5335
  let c256_i32_5336 : BitVec 32 := 256#32
  let v7060 : BitVec 32 := Scalar.muli v7059 c256_i32_5336
  v7060
def k0_mult283 : BitVec 32 :=
  let c0_i32_63 : BitVec 32 := 0#32
  let c32_i32_5353 : BitVec 32 := 32#32
  let v7083 : BitVec 32 := Scalar.muli c0_i32_63 c32_i32_5353
  let c23_i32_5354 : BitVec 32 := 23#32
  let v7084 : BitVec 32 := Scalar.addi v7083 c23_i32_5354
  let c256_i32_5355 : BitVec 32 := 256#32
  let v7085 : BitVec 32 := Scalar.muli v7084 c256_i32_5355
  v7085
def k0_mult284 : BitVec 32 :=
  let c0_i32_63 : BitVec 32 := 0#32
  let c32_i32_5372 : BitVec 32 := 32#32
  let v7108 : BitVec 32 := Scalar.muli c0_i32_63 c32_i32_5372
  let c23_i32_5373 : BitVec 32 := 23#32
  let v7109 : BitVec 32 := Scalar.addi v7108 c23_i32_5373
  let c256_i32_5374 : BitVec 32 := 256#32
  let v7110 : BitVec 32 := Scalar.muli v7109 c256_i32_5374
  v7110
def k0_mult285 : BitVec 32 :=
  let c0_i32_63 : BitVec 32 := 0#32
  let c32_i32_5391 : BitVec 32 := 32#32
  let v7133 : BitVec 32 := Scalar.muli c0_i32_63 c32_i32_5391
  let c23_i32_5392 : BitVec 32 := 23#32
  let v7134 : BitVec 32 := Scalar.addi v7133 c23_i32_5392
  let c256_i32_5393 : BitVec 32 := 256#32
  let v7135 : BitVec 32 := Scalar.muli v7134 c256_i32_5393
  v7135
def k0_mult286 : BitVec 32 :=
  let c0_i32_63 : BitVec 32 := 0#32
  let c32_i32_5410 : BitVec 32 := 32#32
  let v7158 : BitVec 32 := Scalar.muli c0_i32_63 c32_i32_5410
  let c23_i32_5411 : BitVec 32 := 23#32
  let v7159 : BitVec 32 := Scalar.addi v7158 c23_i32_5411
  let c256_i32_5412 : BitVec 32 := 256#32
  let v7160 : BitVec 32 := Scalar.muli v7159 c256_i32_5412
  v7160
def k0_mult287 : BitVec 32 :=
  let c0_i32_63 : BitVec 32 := 0#32
  let c32_i32_5429 : BitVec 32 := 32#32
  let v7183 : BitVec 32 := Scalar.muli c0_i32_63 c32_i32_5429
  let c23_i32_5430 : BitVec 32 := 23#32
  let v7184 : BitVec 32 := Scalar.addi v7183 c23_i32_5430
  let c256_i32_5431 : BitVec 32 := 256#32
  let v7185 : BitVec 32 := Scalar.muli v7184 c256_i32_5431
  v7185
def k0_mult288 : BitVec 32 :=
  let c0_i32_63 : BitVec 32 := 0#32
  let c32_i32_5448 : BitVec 32 := 32#32
  let v7208 : BitVec 32 := Scalar.muli c0_i32_63 c32_i32_5448
  let c23_i32_5449 : BitVec 32 := 23#32
  let v7209 : BitVec 32 := Scalar.addi v7208 c23_i32_5449
  let c256_i32_5450 : BitVec 32 := 256#32
  let v7210 : BitVec 32 := Scalar.muli v7209 c256_i32_5450
  v7210
def k0_mult289 : BitVec 32 :=
  let c0_i32_63 : BitVec 32 := 0#32
  let c32_i32_5467 : BitVec 32 := 32#32
  let v7233 : BitVec 32 := Scalar.muli c0_i32_63 c32_i32_5467
  let c24_i32 : BitVec 32 := 24#32
  let v7234 : BitVec 32 := Scalar.addi v7233 c24_i32
  let c256_i32_5468 : BitVec 32 := 256#32
  let v7235 : BitVec 32 := Scalar.muli v7234 c256_i32_5468
  v7235
def k0_mult290 : BitVec 32 :=
  let c0_i32_63 : BitVec 32 := 0#32
  let c32_i32_5485 : BitVec 32 := 32#32
  let v7258 : BitVec 32 := Scalar.muli c0_i32_63 c32_i32_5485
  let c24_i32_5486 : BitVec 32 := 24#32
  let v7259 : BitVec 32 := Scalar.addi v7258 c24_i32_5486
  let c256_i32_5487 : BitVec 32 := 256#32
  let v7260 : BitVec 32 := Scalar.muli v7259 c256_i32_5487
  v7260
def k0_mult291 : BitVec 32 :=
  let c0_i32_63 : BitVec 32 := 0#32
  let c32_i32_5504 : BitVec 32 := 32#32
  let v7283 : BitVec 32 := Scalar.muli c0_i32_63 c32_i32_5504
  let c24_i32_5505 : BitVec 32 := 24#32
  let v7284 : BitVec 32 := Scalar.addi v7283 c24_i32_5505
  let c256_i32_5506 : BitVec 32 := 256#32
  let v7285 : BitVec 32 := Scalar.muli v7284 c256_i32_5506
  v7285
def k0_mult292 : BitVec 32 :=
  let c0_i32_63 : BitVec 32 := 0#32
  let c32_i32_5523 : BitVec 32 := 32#32
  let v7308 : BitVec 32 := Scalar.muli c0_i32_63 c32_i32_5523
  let c24_i32_5524 : BitVec 32 := 24#32
  let v7309 : BitVec 32 := Scalar.addi v7308 c24_i32_5524
  let c256_i32_5525 : BitVec 32 := 256#32
  let v7310 : BitVec 32 := Scalar.muli v7309 c256_i32_5525
  v7310
def k0_mult293 : BitVec 32 :=
  let c0_i32_63 : BitVec 32 := 0#32
  let c32_i32_5542 : BitVec 32 := 32#32
  let v7333 : BitVec 32 := Scalar.muli c0_i32_63 c32_i32_5542
  let c24_i32_5543 : BitVec 32 := 24#32
  let v7334 : BitVec 32 := Scalar.addi v7333 c24_i32_5543
  let c256_i32_5544 : BitVec 32 := 256#32
  let v7335 : BitVec 32 := Scalar.muli v7334 c256_i32_5544
  v7335
def k0_mult294 : BitVec 32 :=
  let c0_i32_63 : BitVec 32 := 0#32
  let c32_i32_5561 : BitVec 32 := 32#32
  let v7358 : BitVec 32 := Scalar.muli c0_i32_63 c32_i32_5561
  let c24_i32_5562 : BitVec 32 := 24#32
  let v7359 : BitVec 32 := Scalar.addi v7358 c24_i32_5562
  let c256_i32_5563 : BitVec 32 := 256#32
  let v7360 : BitVec 32 := Scalar.muli v7359 c256_i32_5563
  v7360
def k0_mult295 : BitVec 32 :=
  let c0_i32_63 : BitVec 32 := 0#32
  let c32_i32_5580 : BitVec 32 := 32#32
  let v7383 : BitVec 32 := Scalar.muli c0_i32_63 c32_i32_5580
  let c24_i32_5581 : BitVec 32 := 24#32
  let v7384 : BitVec 32 := Scalar.addi v7383 c24_i32_5581
  let c256_i32_5582 : BitVec 32 := 256#32
  let v7385 : BitVec 32 := Scalar.muli v7384 c256_i32_5582
  v7385
def k0_mult296 : BitVec 32 :=
  let c0_i32_63 : BitVec 32 := 0#32
  let c32_i32_5599 : BitVec 32 := 32#32
  let v7408 : BitVec 32 := Scalar.muli c0_i32_63 c32_i32_5599
  let c24_i32_5600 : BitVec 32 := 24#32
  let v7409 : BitVec 32 := Scalar.addi v7408 c24_i32_5600
  let c256_i32_5601 : BitVec 32 := 256#32
  let v7410 : BitVec 32 := Scalar.muli v7409 c256_i32_5601
  v7410
def k0_mult297 : BitVec 32 :=
  let c0_i32_63 : BitVec 32 := 0#32
  let c32_i32_5618 : BitVec 32 := 32#32
  let v7433 : BitVec 32 := Scalar.muli c0_i32_63 c32_i32_5618
  let c24_i32_5619 : BitVec 32 := 24#32
  let v7434 : BitVec 32 := Scalar.addi v7433 c24_i32_5619
  let c256_i32_5620 : BitVec 32 := 256#32
  let v7435 : BitVec 32 := Scalar.muli v7434 c256_i32_5620
  v7435
def k0_mult298 : BitVec 32 :=
  let c0_i32_63 : BitVec 32 := 0#32
  let c32_i32_5637 : BitVec 32 := 32#32
  let v7458 : BitVec 32 := Scalar.muli c0_i32_63 c32_i32_5637
  let c24_i32_5638 : BitVec 32 := 24#32
  let v7459 : BitVec 32 := Scalar.addi v7458 c24_i32_5638
  let c256_i32_5639 : BitVec 32 := 256#32
  let v7460 : BitVec 32 := Scalar.muli v7459 c256_i32_5639
  v7460
def k0_mult299 : BitVec 32 :=
  let c0_i32_63 : BitVec 32 := 0#32
  let c32_i32_5656 : BitVec 32 := 32#32
  let v7483 : BitVec 32 := Scalar.muli c0_i32_63 c32_i32_5656
  let c24_i32_5657 : BitVec 32 := 24#32
  let v7484 : BitVec 32 := Scalar.addi v7483 c24_i32_5657
  let c256_i32_5658 : BitVec 32 := 256#32
  let v7485 : BitVec 32 := Scalar.muli v7484 c256_i32_5658
  v7485
def k0_mult300 : BitVec 32 :=
  let c0_i32_63 : BitVec 32 := 0#32
  let c32_i32_5675 : BitVec 32 := 32#32
  let v7508 : BitVec 32 := Scalar.muli c0_i32_63 c32_i32_5675
  let c24_i32_5676 : BitVec 32 := 24#32
  let v7509 : BitVec 32 := Scalar.addi v7508 c24_i32_5676
  let c256_i32_5677 : BitVec 32 := 256#32
  let v7510 : BitVec 32 := Scalar.muli v7509 c256_i32_5677
  v7510
def k0_mult301 : BitVec 32 :=
  let c0_i32_63 : BitVec 32 := 0#32
  let c32_i32_5694 : BitVec 32 := 32#32
  let v7533 : BitVec 32 := Scalar.muli c0_i32_63 c32_i32_5694
  let c25_i32 : BitVec 32 := 25#32
  let v7534 : BitVec 32 := Scalar.addi v7533 c25_i32
  let c256_i32_5695 : BitVec 32 := 256#32
  let v7535 : BitVec 32 := Scalar.muli v7534 c256_i32_5695
  v7535
def k0_mult302 : BitVec 32 :=
  let c0_i32_63 : BitVec 32 := 0#32
  let c32_i32_5712 : BitVec 32 := 32#32
  let v7558 : BitVec 32 := Scalar.muli c0_i32_63 c32_i32_5712
  let c25_i32_5713 : BitVec 32 := 25#32
  let v7559 : BitVec 32 := Scalar.addi v7558 c25_i32_5713
  let c256_i32_5714 : BitVec 32 := 256#32
  let v7560 : BitVec 32 := Scalar.muli v7559 c256_i32_5714
  v7560
def k0_mult303 : BitVec 32 :=
  let c0_i32_63 : BitVec 32 := 0#32
  let c32_i32_5731 : BitVec 32 := 32#32
  let v7583 : BitVec 32 := Scalar.muli c0_i32_63 c32_i32_5731
  let c25_i32_5732 : BitVec 32 := 25#32
  let v7584 : BitVec 32 := Scalar.addi v7583 c25_i32_5732
  let c256_i32_5733 : BitVec 32 := 256#32
  let v7585 : BitVec 32 := Scalar.muli v7584 c256_i32_5733
  v7585
def k0_mult304 : BitVec 32 :=
  let c0_i32_63 : BitVec 32 := 0#32
  let c32_i32_5750 : BitVec 32 := 32#32
  let v7608 : BitVec 32 := Scalar.muli c0_i32_63 c32_i32_5750
  let c25_i32_5751 : BitVec 32 := 25#32
  let v7609 : BitVec 32 := Scalar.addi v7608 c25_i32_5751
  let c256_i32_5752 : BitVec 32 := 256#32
  let v7610 : BitVec 32 := Scalar.muli v7609 c256_i32_5752
  v7610
def k0_mult305 : BitVec 32 :=
  let c0_i32_63 : BitVec 32 := 0#32
  let c32_i32_5769 : BitVec 32 := 32#32
  let v7633 : BitVec 32 := Scalar.muli c0_i32_63 c32_i32_5769
  let c25_i32_5770 : BitVec 32 := 25#32
  let v7634 : BitVec 32 := Scalar.addi v7633 c25_i32_5770
  let c256_i32_5771 : BitVec 32 := 256#32
  let v7635 : BitVec 32 := Scalar.muli v7634 c256_i32_5771
  v7635
def k0_mult306 : BitVec 32 :=
  let c0_i32_63 : BitVec 32 := 0#32
  let c32_i32_5788 : BitVec 32 := 32#32
  let v7658 : BitVec 32 := Scalar.muli c0_i32_63 c32_i32_5788
  let c25_i32_5789 : BitVec 32 := 25#32
  let v7659 : BitVec 32 := Scalar.addi v7658 c25_i32_5789
  let c256_i32_5790 : BitVec 32 := 256#32
  let v7660 : BitVec 32 := Scalar.muli v7659 c256_i32_5790
  v7660
def k0_mult307 : BitVec 32 :=
  let c0_i32_63 : BitVec 32 := 0#32
  let c32_i32_5807 : BitVec 32 := 32#32
  let v7683 : BitVec 32 := Scalar.muli c0_i32_63 c32_i32_5807
  let c25_i32_5808 : BitVec 32 := 25#32
  let v7684 : BitVec 32 := Scalar.addi v7683 c25_i32_5808
  let c256_i32_5809 : BitVec 32 := 256#32
  let v7685 : BitVec 32 := Scalar.muli v7684 c256_i32_5809
  v7685
def k0_mult308 : BitVec 32 :=
  let c0_i32_63 : BitVec 32 := 0#32
  let c32_i32_5826 : BitVec 32 := 32#32
  let v7708 : BitVec 32 := Scalar.muli c0_i32_63 c32_i32_5826
  let c25_i32_5827 : BitVec 32 := 25#32
  let v7709 : BitVec 32 := Scalar.addi v7708 c25_i32_5827
  let c256_i32_5828 : BitVec 32 := 256#32
  let v7710 : BitVec 32 := Scalar.muli v7709 c256_i32_5828
  v7710
def k0_mult309 : BitVec 32 :=
  let c0_i32_63 : BitVec 32 := 0#32
  let c32_i32_5845 : BitVec 32 := 32#32
  let v7733 : BitVec 32 := Scalar.muli c0_i32_63 c32_i32_5845
  let c25_i32_5846 : BitVec 32 := 25#32
  let v7734 : BitVec 32 := Scalar.addi v7733 c25_i32_5846
  let c256_i32_5847 : BitVec 32 := 256#32
  let v7735 : BitVec 32 := Scalar.muli v7734 c256_i32_5847
  v7735
def k0_mult310 : BitVec 32 :=
  let c0_i32_63 : BitVec 32 := 0#32
  let c32_i32_5864 : BitVec 32 := 32#32
  let v7758 : BitVec 32 := Scalar.muli c0_i32_63 c32_i32_5864
  let c25_i32_5865 : BitVec 32 := 25#32
  let v7759 : BitVec 32 := Scalar.addi v7758 c25_i32_5865
  let c256_i32_5866 : BitVec 32 := 256#32
  let v7760 : BitVec 32 := Scalar.muli v7759 c256_i32_5866
  v7760
def k0_mult311 : BitVec 32 :=
  let c0_i32_63 : BitVec 32 := 0#32
  let c32_i32_5883 : BitVec 32 := 32#32
  let v7783 : BitVec 32 := Scalar.muli c0_i32_63 c32_i32_5883
  let c25_i32_5884 : BitVec 32 := 25#32
  let v7784 : BitVec 32 := Scalar.addi v7783 c25_i32_5884
  let c256_i32_5885 : BitVec 32 := 256#32
  let v7785 : BitVec 32 := Scalar.muli v7784 c256_i32_5885
  v7785
def k0_mult312 : BitVec 32 :=
  let c0_i32_63 : BitVec 32 := 0#32
  let c32_i32_5902 : BitVec 32 := 32#32
  let v7808 : BitVec 32 := Scalar.muli c0_i32_63 c32_i32_5902
  let c25_i32_5903 : BitVec 32 := 25#32
  let v7809 : BitVec 32 := Scalar.addi v7808 c25_i32_5903
  let c256_i32_5904 : BitVec 32 := 256#32
  let v7810 : BitVec 32 := Scalar.muli v7809 c256_i32_5904
  v7810
def k0_mult313 : BitVec 32 :=
  let c0_i32_63 : BitVec 32 := 0#32
  let c32_i32_5921 : BitVec 32 := 32#32
  let v7833 : BitVec 32 := Scalar.muli c0_i32_63 c32_i32_5921
  let c26_i32 : BitVec 32 := 26#32
  let v7834 : BitVec 32 := Scalar.addi v7833 c26_i32
  let c256_i32_5922 : BitVec 32 := 256#32
  let v7835 : BitVec 32 := Scalar.muli v7834 c256_i32_5922
  v7835
def k0_mult314 : BitVec 32 :=
  let c0_i32_63 : BitVec 32 := 0#32
  let c32_i32_5939 : BitVec 32 := 32#32
  let v7858 : BitVec 32 := Scalar.muli c0_i32_63 c32_i32_5939
  let c26_i32_5940 : BitVec 32 := 26#32
  let v7859 : BitVec 32 := Scalar.addi v7858 c26_i32_5940
  let c256_i32_5941 : BitVec 32 := 256#32
  let v7860 : BitVec 32 := Scalar.muli v7859 c256_i32_5941
  v7860
def k0_mult315 : BitVec 32 :=
  let c0_i32_63 : BitVec 32 := 0#32
  let c32_i32_5958 : BitVec 32 := 32#32
  let v7883 : BitVec 32 := Scalar.muli c0_i32_63 c32_i32_5958
  let c26_i32_5959 : BitVec 32 := 26#32
  let v7884 : BitVec 32 := Scalar.addi v7883 c26_i32_5959
  let c256_i32_5960 : BitVec 32 := 256#32
  let v7885 : BitVec 32 := Scalar.muli v7884 c256_i32_5960
  v7885
def k0_mult316 : BitVec 32 :=
  let c0_i32_63 : BitVec 32 := 0#32
  let c32_i32_5977 : BitVec 32 := 32#32
  let v7908 : BitVec 32 := Scalar.muli c0_i32_63 c32_i32_5977
  let c26_i32_5978 : BitVec 32 := 26#32
  let v7909 : BitVec 32 := Scalar.addi v7908 c26_i32_5978
  let c256_i32_5979 : BitVec 32 := 256#32
  let v7910 : BitVec 32 := Scalar.muli v7909 c256_i32_5979
  v7910
def k0_mult317 : BitVec 32 :=
  let c0_i32_63 : BitVec 32 := 0#32
  let c32_i32_5996 : BitVec 32 := 32#32
  let v7933 : BitVec 32 := Scalar.muli c0_i32_63 c32_i32_5996
  let c26_i32_5997 : BitVec 32 := 26#32
  let v7934 : BitVec 32 := Scalar.addi v7933 c26_i32_5997
  let c256_i32_5998 : BitVec 32 := 256#32
  let v7935 : BitVec 32 := Scalar.muli v7934 c256_i32_5998
  v7935
def k0_mult318 : BitVec 32 :=
  let c0_i32_63 : BitVec 32 := 0#32
  let c32_i32_6015 : BitVec 32 := 32#32
  let v7958 : BitVec 32 := Scalar.muli c0_i32_63 c32_i32_6015
  let c26_i32_6016 : BitVec 32 := 26#32
  let v7959 : BitVec 32 := Scalar.addi v7958 c26_i32_6016
  let c256_i32_6017 : BitVec 32 := 256#32
  let v7960 : BitVec 32 := Scalar.muli v7959 c256_i32_6017
  v7960
def k0_mult319 : BitVec 32 :=
  let c0_i32_63 : BitVec 32 := 0#32
  let c32_i32_6034 : BitVec 32 := 32#32
  let v7983 : BitVec 32 := Scalar.muli c0_i32_63 c32_i32_6034
  let c26_i32_6035 : BitVec 32 := 26#32
  let v7984 : BitVec 32 := Scalar.addi v7983 c26_i32_6035
  let c256_i32_6036 : BitVec 32 := 256#32
  let v7985 : BitVec 32 := Scalar.muli v7984 c256_i32_6036
  v7985
def k0_mult320 : BitVec 32 :=
  let c0_i32_63 : BitVec 32 := 0#32
  let c32_i32_6053 : BitVec 32 := 32#32
  let v8008 : BitVec 32 := Scalar.muli c0_i32_63 c32_i32_6053
  let c26_i32_6054 : BitVec 32 := 26#32
  let v8009 : BitVec 32 := Scalar.addi v8008 c26_i32_6054
  let c256_i32_6055 : BitVec 32 := 256#32
  let v8010 : BitVec 32 := Scalar.muli v8009 c256_i32_6055
  v8010
def k0_mult321 : BitVec 32 :=
  let c0_i32_63 : BitVec 32 := 0#32
  let c32_i32_6072 : BitVec 32 := 32#32
  let v8033 : BitVec 32 := Scalar.muli c0_i32_63 c32_i32_6072
  let c26_i32_6073 : BitVec 32 := 26#32
  let v8034 : BitVec 32 := Scalar.addi v8033 c26_i32_6073
  let c256_i32_6074 : BitVec 32 := 256#32
  let v8035 : BitVec 32 := Scalar.muli v8034 c256_i32_6074
  v8035
def k0_mult322 : BitVec 32 :=
  let c0_i32_63 : BitVec 32 := 0#32
  let c32_i32_6091 : BitVec 32 := 32#32
  let v8058 : BitVec 32 := Scalar.muli c0_i32_63 c32_i32_6091
  let c26_i32_6092 : BitVec 32 := 26#32
  let v8059 : BitVec 32 := Scalar.addi v8058 c26_i32_6092
  let c256_i32_6093 : BitVec 32 := 256#32
  let v8060 : BitVec 32 := Scalar.muli v8059 c256_i32_6093
  v8060
def k0_mult323 : BitVec 32 :=
  let c0_i32_63 : BitVec 32 := 0#32
  let c32_i32_6110 : BitVec 32 := 32#32
  let v8083 : BitVec 32 := Scalar.muli c0_i32_63 c32_i32_6110
  let c26_i32_6111 : BitVec 32 := 26#32
  let v8084 : BitVec 32 := Scalar.addi v8083 c26_i32_6111
  let c256_i32_6112 : BitVec 32 := 256#32
  let v8085 : BitVec 32 := Scalar.muli v8084 c256_i32_6112
  v8085
def k0_mult324 : BitVec 32 :=
  let c0_i32_63 : BitVec 32 := 0#32
  let c32_i32_6129 : BitVec 32 := 32#32
  let v8108 : BitVec 32 := Scalar.muli c0_i32_63 c32_i32_6129
  let c26_i32_6130 : BitVec 32 := 26#32
  let v8109 : BitVec 32 := Scalar.addi v8108 c26_i32_6130
  let c256_i32_6131 : BitVec 32 := 256#32
  let v8110 : BitVec 32 := Scalar.muli v8109 c256_i32_6131
  v8110
def k0_mult325 : BitVec 32 :=
  let c0_i32_63 : BitVec 32 := 0#32
  let c32_i32_6148 : BitVec 32 := 32#32
  let v8133 : BitVec 32 := Scalar.muli c0_i32_63 c32_i32_6148
  let c27_i32 : BitVec 32 := 27#32
  let v8134 : BitVec 32 := Scalar.addi v8133 c27_i32
  let c256_i32_6149 : BitVec 32 := 256#32
  let v8135 : BitVec 32 := Scalar.muli v8134 c256_i32_6149
  v8135
def k0_mult326 : BitVec 32 :=
  let c0_i32_63 : BitVec 32 := 0#32
  let c32_i32_6166 : BitVec 32 := 32#32
  let v8158 : BitVec 32 := Scalar.muli c0_i32_63 c32_i32_6166
  let c27_i32_6167 : BitVec 32 := 27#32
  let v8159 : BitVec 32 := Scalar.addi v8158 c27_i32_6167
  let c256_i32_6168 : BitVec 32 := 256#32
  let v8160 : BitVec 32 := Scalar.muli v8159 c256_i32_6168
  v8160
def k0_mult327 : BitVec 32 :=
  let c0_i32_63 : BitVec 32 := 0#32
  let c32_i32_6185 : BitVec 32 := 32#32
  let v8183 : BitVec 32 := Scalar.muli c0_i32_63 c32_i32_6185
  let c27_i32_6186 : BitVec 32 := 27#32
  let v8184 : BitVec 32 := Scalar.addi v8183 c27_i32_6186
  let c256_i32_6187 : BitVec 32 := 256#32
  let v8185 : BitVec 32 := Scalar.muli v8184 c256_i32_6187
  v8185
def k0_mult328 : BitVec 32 :=
  let c0_i32_63 : BitVec 32 := 0#32
  let c32_i32_6204 : BitVec 32 := 32#32
  let v8208 : BitVec 32 := Scalar.muli c0_i32_63 c32_i32_6204
  let c27_i32_6205 : BitVec 32 := 27#32
  let v8209 : BitVec 32 := Scalar.addi v8208 c27_i32_6205
  let c256_i32_6206 : BitVec 32 := 256#32
  let v8210 : BitVec 32 := Scalar.muli v8209 c256_i32_6206
  v8210
def k0_mult329 : BitVec 32 :=
  let c0_i32_63 : BitVec 32 := 0#32
  let c32_i32_6223 : BitVec 32 := 32#32
  let v8233 : BitVec 32 := Scalar.muli c0_i32_63 c32_i32_6223
  let c27_i32_6224 : BitVec 32 := 27#32
  let v8234 : BitVec 32 := Scalar.addi v8233 c27_i32_6224
  let c256_i32_6225 : BitVec 32 := 256#32
  let v8235 : BitVec 32 := Scalar.muli v8234 c256_i32_6225
  v8235
def k0_mult330 : BitVec 32 :=
  let c0_i32_63 : BitVec 32 := 0#32
  let c32_i32_6242 : BitVec 32 := 32#32
  let v8258 : BitVec 32 := Scalar.muli c0_i32_63 c32_i32_6242
  let c27_i32_6243 : BitVec 32 := 27#32
  let v8259 : BitVec 32 := Scalar.addi v8258 c27_i32_6243
  let c256_i32_6244 : BitVec 32 := 256#32
  let v8260 : BitVec 32 := Scalar.muli v8259 c256_i32_6244
  v8260
def k0_mult331 : BitVec 32 :=
  let c0_i32_63 : BitVec 32 := 0#32
  let c32_i32_6261 : BitVec 32 := 32#32
  let v8283 : BitVec 32 := Scalar.muli c0_i32_63 c32_i32_6261
  let c27_i32_6262 : BitVec 32 := 27#32
  let v8284 : BitVec 32 := Scalar.addi v8283 c27_i32_6262
  let c256_i32_6263 : BitVec 32 := 256#32
  let v8285 : BitVec 32 := Scalar.muli v8284 c256_i32_6263
  v8285
def k0_mult332 : BitVec 32 :=
  let c0_i32_63 : BitVec 32 := 0#32
  let c32_i32_6280 : BitVec 32 := 32#32
  let v8308 : BitVec 32 := Scalar.muli c0_i32_63 c32_i32_6280
  let c27_i32_6281 : BitVec 32 := 27#32
  let v8309 : BitVec 32 := Scalar.addi v8308 c27_i32_6281
  let c256_i32_6282 : BitVec 32 := 256#32
  let v8310 : BitVec 32 := Scalar.muli v8309 c256_i32_6282
  v8310
def k0_mult333 : BitVec 32 :=
  let c0_i32_63 : BitVec 32 := 0#32
  let c32_i32_6299 : BitVec 32 := 32#32
  let v8333 : BitVec 32 := Scalar.muli c0_i32_63 c32_i32_6299
  let c27_i32_6300 : BitVec 32 := 27#32
  let v8334 : BitVec 32 := Scalar.addi v8333 c27_i32_6300
  let c256_i32_6301 : BitVec 32 := 256#32
  let v8335 : BitVec 32 := Scalar.muli v8334 c256_i32_6301
  v8335
def k0_mult334 : BitVec 32 :=
  let c0_i32_63 : BitVec 32 := 0#32
  let c32_i32_6318 : BitVec 32 := 32#32
  let v8358 : BitVec 32 := Scalar.muli c0_i32_63 c32_i32_6318
  let c27_i32_6319 : BitVec 32 := 27#32
  let v8359 : BitVec 32 := Scalar.addi v8358 c27_i32_6319
  let c256_i32_6320 : BitVec 32 := 256#32
  let v8360 : BitVec 32 := Scalar.muli v8359 c256_i32_6320
  v8360
def k0_mult335 : BitVec 32 :=
  let c0_i32_63 : BitVec 32 := 0#32
  let c32_i32_6337 : BitVec 32 := 32#32
  let v8383 : BitVec 32 := Scalar.muli c0_i32_63 c32_i32_6337
  let c27_i32_6338 : BitVec 32 := 27#32
  let v8384 : BitVec 32 := Scalar.addi v8383 c27_i32_6338
  let c256_i32_6339 : BitVec 32 := 256#32
  let v8385 : BitVec 32 := Scalar.muli v8384 c256_i32_6339
  v8385
def k0_mult336 : BitVec 32 :=
  let c0_i32_63 : BitVec 32 := 0#32
  let c32_i32_6356 : BitVec 32 := 32#32
  let v8408 : BitVec 32 := Scalar.muli c0_i32_63 c32_i32_6356
  let c27_i32_6357 : BitVec 32 := 27#32
  let v8409 : BitVec 32 := Scalar.addi v8408 c27_i32_6357
  let c256_i32_6358 : BitVec 32 := 256#32
  let v8410 : BitVec 32 := Scalar.muli v8409 c256_i32_6358
  v8410
def k0_mult337 : BitVec 32 :=
  let c0_i32_63 : BitVec 32 := 0#32
  let c32_i32_6375 : BitVec 32 := 32#32
  let v8433 : BitVec 32 := Scalar.muli c0_i32_63 c32_i32_6375
  let c28_i32 : BitVec 32 := 28#32
  let v8434 : BitVec 32 := Scalar.addi v8433 c28_i32
  let c256_i32_6376 : BitVec 32 := 256#32
  let v8435 : BitVec 32 := Scalar.muli v8434 c256_i32_6376
  v8435
def k0_mult338 : BitVec 32 :=
  let c0_i32_63 : BitVec 32 := 0#32
  let c32_i32_6393 : BitVec 32 := 32#32
  let v8458 : BitVec 32 := Scalar.muli c0_i32_63 c32_i32_6393
  let c28_i32_6394 : BitVec 32 := 28#32
  let v8459 : BitVec 32 := Scalar.addi v8458 c28_i32_6394
  let c256_i32_6395 : BitVec 32 := 256#32
  let v8460 : BitVec 32 := Scalar.muli v8459 c256_i32_6395
  v8460
def k0_mult339 : BitVec 32 :=
  let c0_i32_63 : BitVec 32 := 0#32
  let c32_i32_6412 : BitVec 32 := 32#32
  let v8483 : BitVec 32 := Scalar.muli c0_i32_63 c32_i32_6412
  let c28_i32_6413 : BitVec 32 := 28#32
  let v8484 : BitVec 32 := Scalar.addi v8483 c28_i32_6413
  let c256_i32_6414 : BitVec 32 := 256#32
  let v8485 : BitVec 32 := Scalar.muli v8484 c256_i32_6414
  v8485
def k0_mult340 : BitVec 32 :=
  let c0_i32_63 : BitVec 32 := 0#32
  let c32_i32_6431 : BitVec 32 := 32#32
  let v8508 : BitVec 32 := Scalar.muli c0_i32_63 c32_i32_6431
  let c28_i32_6432 : BitVec 32 := 28#32
  let v8509 : BitVec 32 := Scalar.addi v8508 c28_i32_6432
  let c256_i32_6433 : BitVec 32 := 256#32
  let v8510 : BitVec 32 := Scalar.muli v8509 c256_i32_6433
  v8510
def k0_mult341 : BitVec 32 :=
  let c0_i32_63 : BitVec 32 := 0#32
  let c32_i32_6450 : BitVec 32 := 32#32
  let v8533 : BitVec 32 := Scalar.muli c0_i32_63 c32_i32_6450
  let c28_i32_6451 : BitVec 32 := 28#32
  let v8534 : BitVec 32 := Scalar.addi v8533 c28_i32_6451
  let c256_i32_6452 : BitVec 32 := 256#32
  let v8535 : BitVec 32 := Scalar.muli v8534 c256_i32_6452
  v8535
def k0_mult342 : BitVec 32 :=
  let c0_i32_63 : BitVec 32 := 0#32
  let c32_i32_6469 : BitVec 32 := 32#32
  let v8558 : BitVec 32 := Scalar.muli c0_i32_63 c32_i32_6469
  let c28_i32_6470 : BitVec 32 := 28#32
  let v8559 : BitVec 32 := Scalar.addi v8558 c28_i32_6470
  let c256_i32_6471 : BitVec 32 := 256#32
  let v8560 : BitVec 32 := Scalar.muli v8559 c256_i32_6471
  v8560
def k0_mult343 : BitVec 32 :=
  let c0_i32_63 : BitVec 32 := 0#32
  let c32_i32_6488 : BitVec 32 := 32#32
  let v8583 : BitVec 32 := Scalar.muli c0_i32_63 c32_i32_6488
  let c28_i32_6489 : BitVec 32 := 28#32
  let v8584 : BitVec 32 := Scalar.addi v8583 c28_i32_6489
  let c256_i32_6490 : BitVec 32 := 256#32
  let v8585 : BitVec 32 := Scalar.muli v8584 c256_i32_6490
  v8585
def k0_mult344 : BitVec 32 :=
  let c0_i32_63 : BitVec 32 := 0#32
  let c32_i32_6507 : BitVec 32 := 32#32
  let v8608 : BitVec 32 := Scalar.muli c0_i32_63 c32_i32_6507
  let c28_i32_6508 : BitVec 32 := 28#32
  let v8609 : BitVec 32 := Scalar.addi v8608 c28_i32_6508
  let c256_i32_6509 : BitVec 32 := 256#32
  let v8610 : BitVec 32 := Scalar.muli v8609 c256_i32_6509
  v8610
def k0_mult345 : BitVec 32 :=
  let c0_i32_63 : BitVec 32 := 0#32
  let c32_i32_6526 : BitVec 32 := 32#32
  let v8633 : BitVec 32 := Scalar.muli c0_i32_63 c32_i32_6526
  let c28_i32_6527 : BitVec 32 := 28#32
  let v8634 : BitVec 32 := Scalar.addi v8633 c28_i32_6527
  let c256_i32_6528 : BitVec 32 := 256#32
  let v8635 : BitVec 32 := Scalar.muli v8634 c256_i32_6528
  v8635
def k0_mult346 : BitVec 32 :=
  let c0_i32_63 : BitVec 32 := 0#32
  let c32_i32_6545 : BitVec 32 := 32#32
  let v8658 : BitVec 32 := Scalar.muli c0_i32_63 c32_i32_6545
  let c28_i32_6546 : BitVec 32 := 28#32
  let v8659 : BitVec 32 := Scalar.addi v8658 c28_i32_6546
  let c256_i32_6547 : BitVec 32 := 256#32
  let v8660 : BitVec 32 := Scalar.muli v8659 c256_i32_6547
  v8660
def k0_mult347 : BitVec 32 :=
  let c0_i32_63 : BitVec 32 := 0#32
  let c32_i32_6564 : BitVec 32 := 32#32
  let v8683 : BitVec 32 := Scalar.muli c0_i32_63 c32_i32_6564
  let c28_i32_6565 : BitVec 32 := 28#32
  let v8684 : BitVec 32 := Scalar.addi v8683 c28_i32_6565
  let c256_i32_6566 : BitVec 32 := 256#32
  let v8685 : BitVec 32 := Scalar.muli v8684 c256_i32_6566
  v8685
def k0_mult348 : BitVec 32 :=
  let c0_i32_63 : BitVec 32 := 0#32
  let c32_i32_6583 : BitVec 32 := 32#32
  let v8708 : BitVec 32 := Scalar.muli c0_i32_63 c32_i32_6583
  let c28_i32_6584 : BitVec 32 := 28#32
  let v8709 : BitVec 32 := Scalar.addi v8708 c28_i32_6584
  let c256_i32_6585 : BitVec 32 := 256#32
  let v8710 : BitVec 32 := Scalar.muli v8709 c256_i32_6585
  v8710
def k0_mult349 : BitVec 32 :=
  let c0_i32_63 : BitVec 32 := 0#32
  let c32_i32_6602 : BitVec 32 := 32#32
  let v8733 : BitVec 32 := Scalar.muli c0_i32_63 c32_i32_6602
  let c29_i32 : BitVec 32 := 29#32
  let v8734 : BitVec 32 := Scalar.addi v8733 c29_i32
  let c256_i32_6603 : BitVec 32 := 256#32
  let v8735 : BitVec 32 := Scalar.muli v8734 c256_i32_6603
  v8735
def k0_mult350 : BitVec 32 :=
  let c0_i32_63 : BitVec 32 := 0#32
  let c32_i32_6620 : BitVec 32 := 32#32
  let v8758 : BitVec 32 := Scalar.muli c0_i32_63 c32_i32_6620
  let c29_i32_6621 : BitVec 32 := 29#32
  let v8759 : BitVec 32 := Scalar.addi v8758 c29_i32_6621
  let c256_i32_6622 : BitVec 32 := 256#32
  let v8760 : BitVec 32 := Scalar.muli v8759 c256_i32_6622
  v8760
def k0_mult351 : BitVec 32 :=
  let c0_i32_63 : BitVec 32 := 0#32
  let c32_i32_6639 : BitVec 32 := 32#32
  let v8783 : BitVec 32 := Scalar.muli c0_i32_63 c32_i32_6639
  let c29_i32_6640 : BitVec 32 := 29#32
  let v8784 : BitVec 32 := Scalar.addi v8783 c29_i32_6640
  let c256_i32_6641 : BitVec 32 := 256#32
  let v8785 : BitVec 32 := Scalar.muli v8784 c256_i32_6641
  v8785
def k0_mult352 : BitVec 32 :=
  let c0_i32_63 : BitVec 32 := 0#32
  let c32_i32_6658 : BitVec 32 := 32#32
  let v8808 : BitVec 32 := Scalar.muli c0_i32_63 c32_i32_6658
  let c29_i32_6659 : BitVec 32 := 29#32
  let v8809 : BitVec 32 := Scalar.addi v8808 c29_i32_6659
  let c256_i32_6660 : BitVec 32 := 256#32
  let v8810 : BitVec 32 := Scalar.muli v8809 c256_i32_6660
  v8810
def k0_mult353 : BitVec 32 :=
  let c0_i32_63 : BitVec 32 := 0#32
  let c32_i32_6677 : BitVec 32 := 32#32
  let v8833 : BitVec 32 := Scalar.muli c0_i32_63 c32_i32_6677
  let c29_i32_6678 : BitVec 32 := 29#32
  let v8834 : BitVec 32 := Scalar.addi v8833 c29_i32_6678
  let c256_i32_6679 : BitVec 32 := 256#32
  let v8835 : BitVec 32 := Scalar.muli v8834 c256_i32_6679
  v8835
def k0_mult354 : BitVec 32 :=
  let c0_i32_63 : BitVec 32 := 0#32
  let c32_i32_6696 : BitVec 32 := 32#32
  let v8858 : BitVec 32 := Scalar.muli c0_i32_63 c32_i32_6696
  let c29_i32_6697 : BitVec 32 := 29#32
  let v8859 : BitVec 32 := Scalar.addi v8858 c29_i32_6697
  let c256_i32_6698 : BitVec 32 := 256#32
  let v8860 : BitVec 32 := Scalar.muli v8859 c256_i32_6698
  v8860
def k0_mult355 : BitVec 32 :=
  let c0_i32_63 : BitVec 32 := 0#32
  let c32_i32_6715 : BitVec 32 := 32#32
  let v8883 : BitVec 32 := Scalar.muli c0_i32_63 c32_i32_6715
  let c29_i32_6716 : BitVec 32 := 29#32
  let v8884 : BitVec 32 := Scalar.addi v8883 c29_i32_6716
  let c256_i32_6717 : BitVec 32 := 256#32
  let v8885 : BitVec 32 := Scalar.muli v8884 c256_i32_6717
  v8885
def k0_mult356 : BitVec 32 :=
  let c0_i32_63 : BitVec 32 := 0#32
  let c32_i32_6734 : BitVec 32 := 32#32
  let v8908 : BitVec 32 := Scalar.muli c0_i32_63 c32_i32_6734
  let c29_i32_6735 : BitVec 32 := 29#32
  let v8909 : BitVec 32 := Scalar.addi v8908 c29_i32_6735
  let c256_i32_6736 : BitVec 32 := 256#32
  let v8910 : BitVec 32 := Scalar.muli v8909 c256_i32_6736
  v8910
def k0_mult357 : BitVec 32 :=
  let c0_i32_63 : BitVec 32 := 0#32
  let c32_i32_6753 : BitVec 32 := 32#32
  let v8933 : BitVec 32 := Scalar.muli c0_i32_63 c32_i32_6753
  let c29_i32_6754 : BitVec 32 := 29#32
  let v8934 : BitVec 32 := Scalar.addi v8933 c29_i32_6754
  let c256_i32_6755 : BitVec 32 := 256#32
  let v8935 : BitVec 32 := Scalar.muli v8934 c256_i32_6755
  v8935
def k0_mult358 : BitVec 32 :=
  let c0_i32_63 : BitVec 32 := 0#32
  let c32_i32_6772 : BitVec 32 := 32#32
  let v8958 : BitVec 32 := Scalar.muli c0_i32_63 c32_i32_6772
  let c29_i32_6773 : BitVec 32 := 29#32
  let v8959 : BitVec 32 := Scalar.addi v8958 c29_i32_6773
  let c256_i32_6774 : BitVec 32 := 256#32
  let v8960 : BitVec 32 := Scalar.muli v8959 c256_i32_6774
  v8960
def k0_mult359 : BitVec 32 :=
  let c0_i32_63 : BitVec 32 := 0#32
  let c32_i32_6791 : BitVec 32 := 32#32
  let v8983 : BitVec 32 := Scalar.muli c0_i32_63 c32_i32_6791
  let c29_i32_6792 : BitVec 32 := 29#32
  let v8984 : BitVec 32 := Scalar.addi v8983 c29_i32_6792
  let c256_i32_6793 : BitVec 32 := 256#32
  let v8985 : BitVec 32 := Scalar.muli v8984 c256_i32_6793
  v8985
def k0_mult360 : BitVec 32 :=
  let c0_i32_63 : BitVec 32 := 0#32
  let c32_i32_6810 : BitVec 32 := 32#32
  let v9008 : BitVec 32 := Scalar.muli c0_i32_63 c32_i32_6810
  let c29_i32_6811 : BitVec 32 := 29#32
  let v9009 : BitVec 32 := Scalar.addi v9008 c29_i32_6811
  let c256_i32_6812 : BitVec 32 := 256#32
  let v9010 : BitVec 32 := Scalar.muli v9009 c256_i32_6812
  v9010
def k0_mult361 : BitVec 32 :=
  let c0_i32_63 : BitVec 32 := 0#32
  let c32_i32_6829 : BitVec 32 := 32#32
  let v9033 : BitVec 32 := Scalar.muli c0_i32_63 c32_i32_6829
  let c30_i32 : BitVec 32 := 30#32
  let v9034 : BitVec 32 := Scalar.addi v9033 c30_i32
  let c256_i32_6830 : BitVec 32 := 256#32
  let v9035 : BitVec 32 := Scalar.muli v9034 c256_i32_6830
  v9035
def k0_mult362 : BitVec 32 :=
  let c0_i32_63 : BitVec 32 := 0#32
  let c32_i32_6847 : BitVec 32 := 32#32
  let v9058 : BitVec 32 := Scalar.muli c0_i32_63 c32_i32_6847
  let c30_i32_6848 : BitVec 32 := 30#32
  let v9059 : BitVec 32 := Scalar.addi v9058 c30_i32_6848
  let c256_i32_6849 : BitVec 32 := 256#32
  let v9060 : BitVec 32 := Scalar.muli v9059 c256_i32_6849
  v9060
def k0_mult363 : BitVec 32 :=
  let c0_i32_63 : BitVec 32 := 0#32
  let c32_i32_6866 : BitVec 32 := 32#32
  let v9083 : BitVec 32 := Scalar.muli c0_i32_63 c32_i32_6866
  let c30_i32_6867 : BitVec 32 := 30#32
  let v9084 : BitVec 32 := Scalar.addi v9083 c30_i32_6867
  let c256_i32_6868 : BitVec 32 := 256#32
  let v9085 : BitVec 32 := Scalar.muli v9084 c256_i32_6868
  v9085
def k0_mult364 : BitVec 32 :=
  let c0_i32_63 : BitVec 32 := 0#32
  let c32_i32_6885 : BitVec 32 := 32#32
  let v9108 : BitVec 32 := Scalar.muli c0_i32_63 c32_i32_6885
  let c30_i32_6886 : BitVec 32 := 30#32
  let v9109 : BitVec 32 := Scalar.addi v9108 c30_i32_6886
  let c256_i32_6887 : BitVec 32 := 256#32
  let v9110 : BitVec 32 := Scalar.muli v9109 c256_i32_6887
  v9110
def k0_mult365 : BitVec 32 :=
  let c0_i32_63 : BitVec 32 := 0#32
  let c32_i32_6904 : BitVec 32 := 32#32
  let v9133 : BitVec 32 := Scalar.muli c0_i32_63 c32_i32_6904
  let c30_i32_6905 : BitVec 32 := 30#32
  let v9134 : BitVec 32 := Scalar.addi v9133 c30_i32_6905
  let c256_i32_6906 : BitVec 32 := 256#32
  let v9135 : BitVec 32 := Scalar.muli v9134 c256_i32_6906
  v9135
def k0_mult366 : BitVec 32 :=
  let c0_i32_63 : BitVec 32 := 0#32
  let c32_i32_6923 : BitVec 32 := 32#32
  let v9158 : BitVec 32 := Scalar.muli c0_i32_63 c32_i32_6923
  let c30_i32_6924 : BitVec 32 := 30#32
  let v9159 : BitVec 32 := Scalar.addi v9158 c30_i32_6924
  let c256_i32_6925 : BitVec 32 := 256#32
  let v9160 : BitVec 32 := Scalar.muli v9159 c256_i32_6925
  v9160
def k0_mult367 : BitVec 32 :=
  let c0_i32_63 : BitVec 32 := 0#32
  let c32_i32_6942 : BitVec 32 := 32#32
  let v9183 : BitVec 32 := Scalar.muli c0_i32_63 c32_i32_6942
  let c30_i32_6943 : BitVec 32 := 30#32
  let v9184 : BitVec 32 := Scalar.addi v9183 c30_i32_6943
  let c256_i32_6944 : BitVec 32 := 256#32
  let v9185 : BitVec 32 := Scalar.muli v9184 c256_i32_6944
  v9185
def k0_mult368 : BitVec 32 :=
  let c0_i32_63 : BitVec 32 := 0#32
  let c32_i32_6961 : BitVec 32 := 32#32
  let v9208 : BitVec 32 := Scalar.muli c0_i32_63 c32_i32_6961
  let c30_i32_6962 : BitVec 32 := 30#32
  let v9209 : BitVec 32 := Scalar.addi v9208 c30_i32_6962
  let c256_i32_6963 : BitVec 32 := 256#32
  let v9210 : BitVec 32 := Scalar.muli v9209 c256_i32_6963
  v9210
def k0_mult369 : BitVec 32 :=
  let c0_i32_63 : BitVec 32 := 0#32
  let c32_i32_6980 : BitVec 32 := 32#32
  let v9233 : BitVec 32 := Scalar.muli c0_i32_63 c32_i32_6980
  let c30_i32_6981 : BitVec 32 := 30#32
  let v9234 : BitVec 32 := Scalar.addi v9233 c30_i32_6981
  let c256_i32_6982 : BitVec 32 := 256#32
  let v9235 : BitVec 32 := Scalar.muli v9234 c256_i32_6982
  v9235
def k0_mult370 : BitVec 32 :=
  let c0_i32_63 : BitVec 32 := 0#32
  let c32_i32_6999 : BitVec 32 := 32#32
  let v9258 : BitVec 32 := Scalar.muli c0_i32_63 c32_i32_6999
  let c30_i32_7000 : BitVec 32 := 30#32
  let v9259 : BitVec 32 := Scalar.addi v9258 c30_i32_7000
  let c256_i32_7001 : BitVec 32 := 256#32
  let v9260 : BitVec 32 := Scalar.muli v9259 c256_i32_7001
  v9260
def k0_mult371 : BitVec 32 :=
  let c0_i32_63 : BitVec 32 := 0#32
  let c32_i32_7018 : BitVec 32 := 32#32
  let v9283 : BitVec 32 := Scalar.muli c0_i32_63 c32_i32_7018
  let c30_i32_7019 : BitVec 32 := 30#32
  let v9284 : BitVec 32 := Scalar.addi v9283 c30_i32_7019
  let c256_i32_7020 : BitVec 32 := 256#32
  let v9285 : BitVec 32 := Scalar.muli v9284 c256_i32_7020
  v9285
def k0_mult372 : BitVec 32 :=
  let c0_i32_63 : BitVec 32 := 0#32
  let c32_i32_7037 : BitVec 32 := 32#32
  let v9308 : BitVec 32 := Scalar.muli c0_i32_63 c32_i32_7037
  let c30_i32_7038 : BitVec 32 := 30#32
  let v9309 : BitVec 32 := Scalar.addi v9308 c30_i32_7038
  let c256_i32_7039 : BitVec 32 := 256#32
  let v9310 : BitVec 32 := Scalar.muli v9309 c256_i32_7039
  v9310
def k0_mult373 : BitVec 32 :=
  let c0_i32_63 : BitVec 32 := 0#32
  let c32_i32_7056 : BitVec 32 := 32#32
  let v9333 : BitVec 32 := Scalar.muli c0_i32_63 c32_i32_7056
  let c31_i32 : BitVec 32 := 31#32
  let v9334 : BitVec 32 := Scalar.addi v9333 c31_i32
  let c256_i32_7057 : BitVec 32 := 256#32
  let v9335 : BitVec 32 := Scalar.muli v9334 c256_i32_7057
  v9335
def k0_mult374 : BitVec 32 :=
  let c0_i32_63 : BitVec 32 := 0#32
  let c32_i32_7074 : BitVec 32 := 32#32
  let v9358 : BitVec 32 := Scalar.muli c0_i32_63 c32_i32_7074
  let c31_i32_7075 : BitVec 32 := 31#32
  let v9359 : BitVec 32 := Scalar.addi v9358 c31_i32_7075
  let c256_i32_7076 : BitVec 32 := 256#32
  let v9360 : BitVec 32 := Scalar.muli v9359 c256_i32_7076
  v9360
def k0_mult375 : BitVec 32 :=
  let c0_i32_63 : BitVec 32 := 0#32
  let c32_i32_7093 : BitVec 32 := 32#32
  let v9383 : BitVec 32 := Scalar.muli c0_i32_63 c32_i32_7093
  let c31_i32_7094 : BitVec 32 := 31#32
  let v9384 : BitVec 32 := Scalar.addi v9383 c31_i32_7094
  let c256_i32_7095 : BitVec 32 := 256#32
  let v9385 : BitVec 32 := Scalar.muli v9384 c256_i32_7095
  v9385
def k0_mult376 : BitVec 32 :=
  let c0_i32_63 : BitVec 32 := 0#32
  let c32_i32_7112 : BitVec 32 := 32#32
  let v9408 : BitVec 32 := Scalar.muli c0_i32_63 c32_i32_7112
  let c31_i32_7113 : BitVec 32 := 31#32
  let v9409 : BitVec 32 := Scalar.addi v9408 c31_i32_7113
  let c256_i32_7114 : BitVec 32 := 256#32
  let v9410 : BitVec 32 := Scalar.muli v9409 c256_i32_7114
  v9410
def k0_mult377 : BitVec 32 :=
  let c0_i32_63 : BitVec 32 := 0#32
  let c32_i32_7131 : BitVec 32 := 32#32
  let v9433 : BitVec 32 := Scalar.muli c0_i32_63 c32_i32_7131
  let c31_i32_7132 : BitVec 32 := 31#32
  let v9434 : BitVec 32 := Scalar.addi v9433 c31_i32_7132
  let c256_i32_7133 : BitVec 32 := 256#32
  let v9435 : BitVec 32 := Scalar.muli v9434 c256_i32_7133
  v9435
def k0_mult378 : BitVec 32 :=
  let c0_i32_63 : BitVec 32 := 0#32
  let c32_i32_7150 : BitVec 32 := 32#32
  let v9458 : BitVec 32 := Scalar.muli c0_i32_63 c32_i32_7150
  let c31_i32_7151 : BitVec 32 := 31#32
  let v9459 : BitVec 32 := Scalar.addi v9458 c31_i32_7151
  let c256_i32_7152 : BitVec 32 := 256#32
  let v9460 : BitVec 32 := Scalar.muli v9459 c256_i32_7152
  v9460
def k0_mult379 : BitVec 32 :=
  let c0_i32_63 : BitVec 32 := 0#32
  let c32_i32_7169 : BitVec 32 := 32#32
  let v9483 : BitVec 32 := Scalar.muli c0_i32_63 c32_i32_7169
  let c31_i32_7170 : BitVec 32 := 31#32
  let v9484 : BitVec 32 := Scalar.addi v9483 c31_i32_7170
  let c256_i32_7171 : BitVec 32 := 256#32
  let v9485 : BitVec 32 := Scalar.muli v9484 c256_i32_7171
  v9485
def k0_mult380 : BitVec 32 :=
  let c0_i32_63 : BitVec 32 := 0#32
  let c32_i32_7188 : BitVec 32 := 32#32
  let v9508 : BitVec 32 := Scalar.muli c0_i32_63 c32_i32_7188
  let c31_i32_7189 : BitVec 32 := 31#32
  let v9509 : BitVec 32 := Scalar.addi v9508 c31_i32_7189
  let c256_i32_7190 : BitVec 32 := 256#32
  let v9510 : BitVec 32 := Scalar.muli v9509 c256_i32_7190
  v9510
def k0_mult381 : BitVec 32 :=
  let c0_i32_63 : BitVec 32 := 0#32
  let c32_i32_7207 : BitVec 32 := 32#32
  let v9533 : BitVec 32 := Scalar.muli c0_i32_63 c32_i32_7207
  let c31_i32_7208 : BitVec 32 := 31#32
  let v9534 : BitVec 32 := Scalar.addi v9533 c31_i32_7208
  let c256_i32_7209 : BitVec 32 := 256#32
  let v9535 : BitVec 32 := Scalar.muli v9534 c256_i32_7209
  v9535
def k0_mult382 : BitVec 32 :=
  let c0_i32_63 : BitVec 32 := 0#32
  let c32_i32_7226 : BitVec 32 := 32#32
  let v9558 : BitVec 32 := Scalar.muli c0_i32_63 c32_i32_7226
  let c31_i32_7227 : BitVec 32 := 31#32
  let v9559 : BitVec 32 := Scalar.addi v9558 c31_i32_7227
  let c256_i32_7228 : BitVec 32 := 256#32
  let v9560 : BitVec 32 := Scalar.muli v9559 c256_i32_7228
  v9560
def k0_mult383 : BitVec 32 :=
  let c0_i32_63 : BitVec 32 := 0#32
  let c32_i32_7245 : BitVec 32 := 32#32
  let v9583 : BitVec 32 := Scalar.muli c0_i32_63 c32_i32_7245
  let c31_i32_7246 : BitVec 32 := 31#32
  let v9584 : BitVec 32 := Scalar.addi v9583 c31_i32_7246
  let c256_i32_7247 : BitVec 32 := 256#32
  let v9585 : BitVec 32 := Scalar.muli v9584 c256_i32_7247
  v9585
def k0_mult384 : BitVec 32 :=
  let c0_i32_63 : BitVec 32 := 0#32
  let c32_i32_7264 : BitVec 32 := 32#32
  let v9608 : BitVec 32 := Scalar.muli c0_i32_63 c32_i32_7264
  let c31_i32_7265 : BitVec 32 := 31#32
  let v9609 : BitVec 32 := Scalar.addi v9608 c31_i32_7265
  let c256_i32_7266 : BitVec 32 := 256#32
  let v9610 : BitVec 32 := Scalar.muli v9609 c256_i32_7266
  v9610
def k0_mult385 : BitVec 32 :=
  let c0_i32_51 : BitVec 32 := 0#32
  c0_i32_51
@[reducible] def k0_t1_loop : Scf.Loop 32 :=
  let c0_i32_63 : BitVec 32 := 0#32
  let c16_i32 : BitVec 32 := 16#32
  let v79 : BitVec 32 := Scalar.addi c0_i32_63 c16_i32
  let c1_i32 : BitVec 32 := 1#32
  ⟨c0_i32_63, v79, c1_i32⟩
def k0_mult386 (k0_t1 : Fin k0_t1_loop.trips) : BitVec 32 :=
  let c2_i32 : BitVec 32 := 2#32
  let c0_i32_63 : BitVec 32 := 0#32
  let c1_i32 : BitVec 32 := 1#32
  let arg14 : BitVec 32 := Scf.iv c0_i32_63 c1_i32 k0_t1
  let v80 : BitVec 32 := Scalar.muli c2_i32 arg14
  let c1_i32_65 : BitVec 32 := 1#32
  let v81 : BitVec 32 := Scalar.addi v80 c1_i32_65
  let c256_i32 : BitVec 32 := 256#32
  let v82 : BitVec 32 := Scalar.muli v81 c256_i32
  v82
def k0_off3 (k0_t1 : Fin k0_t1_loop.trips) : Fin 4 → Nat :=
  let c0_66 : Index := 0#32
  let c0_67 : Index := 0#32
  let c2_i32 : BitVec 32 := 2#32
  let c0_i32_63 : BitVec 32 := 0#32
  let c1_i32 : BitVec 32 := 1#32
  let arg14 : BitVec 32 := Scf.iv c0_i32_63 c1_i32 k0_t1
  let v80 : BitVec 32 := Scalar.muli c2_i32 arg14
  let c1_i32_65 : BitVec 32 := 1#32
  let v81 : BitVec 32 := Scalar.addi v80 c1_i32_65
  let c256_i32 : BitVec 32 := 256#32
  let v82 : BitVec 32 := Scalar.muli v81 c256_i32
  let v83 : BitVec 32 := v82
  let v84 : Index := Scalar.indexCast v83
  let c0_68 : Index := 0#32
  ![0, 0, v84.toNat, 0]
def k0_off4 (k0_t1 : Fin k0_t1_loop.trips) : Fin 5 → Nat :=
  let c0_85 : Index := 0#32
  let c0_86 : Index := 0#32
  let c2_i32 : BitVec 32 := 2#32
  let c0_i32_63 : BitVec 32 := 0#32
  let c1_i32 : BitVec 32 := 1#32
  let arg14 : BitVec 32 := Scf.iv c0_i32_63 c1_i32 k0_t1
  let v80 : BitVec 32 := Scalar.muli c2_i32 arg14
  let v108 : Index := Scalar.indexCast v80
  let c0_87 : Index := 0#32
  let c0_88 : Index := 0#32
  ![0, 0, v108.toNat, 0, 0]
def k0_mult387 (k0_t1 : Fin k0_t1_loop.trips) : BitVec 32 :=
  let c2_i32 : BitVec 32 := 2#32
  let c0_i32_63 : BitVec 32 := 0#32
  let c1_i32 : BitVec 32 := 1#32
  let arg14 : BitVec 32 := Scf.iv c0_i32_63 c1_i32 k0_t1
  let v80 : BitVec 32 := Scalar.muli c2_i32 arg14
  let c2_i32_96 : BitVec 32 := 2#32
  let v123 : BitVec 32 := Scalar.addi v80 c2_i32_96
  let c31_i32 : BitVec 32 := 31#32
  let v124 : BitVec 32 := Scalar.minsi v123 c31_i32
  let c256_i32_97 : BitVec 32 := 256#32
  let v125 : BitVec 32 := Scalar.muli v124 c256_i32_97
  v125
def k0_off5 (k0_t1 : Fin k0_t1_loop.trips) : Fin 4 → Nat :=
  let c0_98 : Index := 0#32
  let c0_99 : Index := 0#32
  let c2_i32 : BitVec 32 := 2#32
  let c0_i32_63 : BitVec 32 := 0#32
  let c1_i32 : BitVec 32 := 1#32
  let arg14 : BitVec 32 := Scf.iv c0_i32_63 c1_i32 k0_t1
  let v80 : BitVec 32 := Scalar.muli c2_i32 arg14
  let c2_i32_96 : BitVec 32 := 2#32
  let v123 : BitVec 32 := Scalar.addi v80 c2_i32_96
  let c31_i32 : BitVec 32 := 31#32
  let v124 : BitVec 32 := Scalar.minsi v123 c31_i32
  let c256_i32_97 : BitVec 32 := 256#32
  let v125 : BitVec 32 := Scalar.muli v124 c256_i32_97
  let v126 : BitVec 32 := v125
  let v127 : Index := Scalar.indexCast v126
  let c0_100 : Index := 0#32
  ![0, 0, v127.toNat, 0]
def k0_off6 (k0_t1 : Fin k0_t1_loop.trips) : Fin 5 → Nat :=
  let c0_118 : Index := 0#32
  let c0_119 : Index := 0#32
  let c2_i32 : BitVec 32 := 2#32
  let c0_i32_63 : BitVec 32 := 0#32
  let c1_i32 : BitVec 32 := 1#32
  let arg14 : BitVec 32 := Scf.iv c0_i32_63 c1_i32 k0_t1
  let v80 : BitVec 32 := Scalar.muli c2_i32 arg14
  let c1_i32_109 : BitVec 32 := 1#32
  let v139 : BitVec 32 := Scalar.addi v80 c1_i32_109
  let v152 : Index := Scalar.indexCast v139
  let c0_120 : Index := 0#32
  let c0_121 : Index := 0#32
  ![0, 0, v152.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

abbrev stage0_0 : Fin 2 → Memref sig .tc .vmem S1x1x3x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x3x256x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x32x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x3x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x4x3x64x8192 : Shape := ⟨5, ![2, 4, 3, 64, 8192]⟩
abbrev S2x4x8192x64 : Shape := ⟨4, ![2, 4, 8192, 64]⟩
abbrev S2x4x3x8192x8192 : Shape := ⟨5, ![2, 4, 3, 8192, 8192]⟩
abbrev S_ : Shape := ⟨0, ![]⟩
abbrev S2x4x3x8192 : Shape := ⟨4, ![2, 4, 3, 8192]⟩
abbrev S2x4x3x8192x1 : Shape := ⟨5, ![2, 4, 3, 8192, 1]⟩
abbrev S2x4x64x3x8192 : Shape := ⟨5, ![2, 4, 64, 3, 8192]⟩

abbrev nBuf : Space → Nat
  | .hbm => 25
  | .vmem => 0
  | .smem => 0
  | _ => 0

abbrev bufTy : (tb : Table) → Fin (tcTables nBuf tb) → BufTy
  | .hbm, ⟨0, _⟩ => ⟨S2x4x3x64x8192, .f32⟩
  | .hbm, ⟨1, _⟩ => ⟨S2x4x8192x64, .f32⟩
  | .hbm, ⟨2, _⟩ => ⟨S2x4x8192x64, .f32⟩
  | .hbm, ⟨3, _⟩ => ⟨S2x4x3x8192x8192, .f32⟩
  | .hbm, ⟨4, _⟩ => ⟨S_, .f32⟩
  | .hbm, ⟨5, _⟩ => ⟨S_, .f32⟩
  | .hbm, ⟨6, _⟩ => ⟨S2x4x3x8192x8192, .f32⟩
  | .hbm, ⟨7, _⟩ => ⟨S2x4x3x8192x8192, .f32⟩
  | .hbm, ⟨8, _⟩ => ⟨S_, .f32⟩
  | .hbm, ⟨9, _⟩ => ⟨S2x4x3x8192, .f32⟩
  | .hbm, ⟨10, _⟩ => ⟨S_, .f32⟩
  | .hbm, ⟨11, _⟩ => ⟨S2x4x3x8192, .f32⟩
  | .hbm, ⟨12, _⟩ => ⟨S2x4x3x8192, .f32⟩
  | .hbm, ⟨13, _⟩ => ⟨S2x4x3x8192x1, .f32⟩
  | .hbm, ⟨14, _⟩ => ⟨S2x4x3x8192x8192, .f32⟩
  | .hbm, ⟨15, _⟩ => ⟨S2x4x3x8192x8192, .f32⟩
  | .hbm, ⟨16, _⟩ => ⟨S2x4x3x8192x8192, .f32⟩
  | .hbm, ⟨17, _⟩ => ⟨S_, .f32⟩
  | .hbm, ⟨18, _⟩ => ⟨S2x4x3x8192, .f32⟩
  | .hbm, ⟨19, _⟩ => ⟨S2x4x3x8192x1, .f32⟩
  | .hbm, ⟨20, _⟩ => ⟨S2x4x3x8192x8192, .f32⟩
  | .hbm, ⟨21, _⟩ => ⟨S2x4x3x8192x8192, .f32⟩
  | .hbm, ⟨22, _⟩ => ⟨S2x4x64x3x8192, .f32⟩
  | .hbm, ⟨23, _⟩ => ⟨S2x4x3x64x8192, .f32⟩
  | .hbm, ⟨24, _⟩ => ⟨S2x4x3x64x8192, .bf16⟩
  | _, _ => ⟨S2x4x3x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x3584 : Shape := ⟨2, ![1024, 3584]⟩
abbrev S64 : Shape := ⟨1, ![64]⟩
abbrev S8192x32 : Shape := ⟨2, ![8192, 32]⟩
abbrev S256x512 : Shape := ⟨2, ![256, 512]⟩
abbrev S1024x1024 : Shape := ⟨2, ![1024, 1024]⟩
abbrev S1024x16x32x2 : Shape := ⟨4, ![1024, 16, 32, 2]⟩
abbrev S16x2x32x1024 : Shape := ⟨4, ![16, 2, 32, 1024]⟩
abbrev S1024x256 : Shape := ⟨2, ![1024, 256]⟩
abbrev S256x1024 : Shape := ⟨2, ![256, 1024]⟩
abbrev S1280x1024 : Shape := ⟨2, ![1280, 1024]⟩
abbrev S1x1024 : Shape := ⟨2, ![1, 1024]⟩
abbrev S_ : Shape := ⟨0, ![]⟩
abbrev S64x1 : Shape := ⟨2, ![64, 1]⟩
abbrev S32x8192 : Shape := ⟨2, ![32, 8192]⟩
abbrev S2x4x3x64x8192 : Shape := ⟨5, ![2, 4, 3, 64, 8192]⟩
abbrev S2x4x8192x64 : Shape := ⟨4, ![2, 4, 8192, 64]⟩
abbrev S2x4x3x256x8192 : Shape := ⟨5, ![2, 4, 3, 256, 8192]⟩
abbrev S2x4x8192x256 : Shape := ⟨4, ![2, 4, 8192, 256]⟩
abbrev S2x4x2x8192 : Shape := ⟨4, ![2, 4, 2, 8192]⟩
abbrev S2x4x32x64x256 : Shape := ⟨5, ![2, 4, 32, 64, 256]⟩
abbrev S2x8192x256 : Shape := ⟨3, ![2, 8192, 256]⟩
abbrev S1x1024x1024 : Shape := ⟨3, ![1, 1024, 1024]⟩
abbrev S32x1024 : Shape := ⟨2, ![32, 1024]⟩
abbrev S1x4x3x64x1024 : Shape := ⟨5, ![1, 4, 3, 64, 1024]⟩
abbrev S1x4x1024x64 : Shape := ⟨4, ![1, 4, 1024, 64]⟩
abbrev S1x4x3x256x1024 : Shape := ⟨5, ![1, 4, 3, 256, 1024]⟩
abbrev S1x4x1024x256 : Shape := ⟨4, ![1, 4, 1024, 256]⟩
abbrev S1x4x2x1024 : Shape := ⟨4, ![1, 4, 2, 1024]⟩
abbrev S1x4x4x64x256 : Shape := ⟨5, ![1, 4, 4, 64, 256]⟩
abbrev S1x1024x256 : Shape := ⟨3, ![1, 1024, 256]⟩
abbrev S1024x1 : Shape := ⟨2, ![1024, 1]⟩
abbrev S1x32x1024 : Shape := ⟨3, ![1, 32, 1024]⟩
abbrev S768x1024 : Shape := ⟨2, ![768, 1024]⟩
abbrev S12x64x1024 : Shape := ⟨3, ![12, 64, 1024]⟩
abbrev S12x1024 : Shape := ⟨2, ![12, 1024]⟩
abbrev S12x1x1024 : Shape := ⟨3, ![12, 1, 1024]⟩
abbrev S1x64x1 : Shape := ⟨3, ![1, 64, 1]⟩
abbrev S12x32x1024 : Shape := ⟨3, ![12, 32, 1024]⟩
abbrev S4x3x64x1024 : Shape := ⟨4, ![4, 3, 64, 1024]⟩
abbrev S12x256x1024 : Shape := ⟨3, ![12, 256, 1024]⟩
abbrev S4x3x256x1024 : Shape := ⟨4, ![4, 3, 256, 1024]⟩
abbrev S4x64x1024 : Shape := ⟨3, ![4, 64, 1024]⟩
abbrev S4x1024 : Shape := ⟨2, ![4, 1024]⟩
abbrev S4x1x1024 : Shape := ⟨3, ![4, 1, 1024]⟩
abbrev S4x32x1024 : Shape := ⟨3, ![4, 32, 1024]⟩
abbrev S1x4x1x1024 : Shape := ⟨4, ![1, 4, 1, 1024]⟩
abbrev S1024x64 : Shape := ⟨2, ![1024, 64]⟩
abbrev S1x1x1024x64 : Shape := ⟨4, ![1, 1, 1024, 64]⟩
abbrev S4x256x1024 : Shape := ⟨3, ![4, 256, 1024]⟩
abbrev S1x1x1024x256 : Shape := ⟨4, ![1, 1, 1024, 256]⟩
abbrev S4x64x256 : Shape := ⟨3, ![4, 64, 256]⟩
abbrev S1x4x1x64x256 : Shape := ⟨5, ![1, 4, 1, 64, 256]⟩
abbrev S1024x512 : Shape := ⟨2, ![1024, 512]⟩

abbrev nBuf : Space → Nat
  | .hbm => 45
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3584, .f32⟩
  | .hbm, ⟨3, _⟩ => ⟨S64, .f32⟩
  | .hbm, ⟨4, _⟩ => ⟨S64, .f32⟩
  | .hbm, ⟨5, _⟩ => ⟨S8192x32, .f32⟩
  | .hbm, ⟨6, _⟩ => ⟨S8192x32, .f32⟩
  | .hbm, ⟨7, _⟩ => ⟨S256x512, .bf16⟩
  | .hbm, ⟨8, _⟩ => ⟨S64, .i32⟩
  | .hbm, ⟨9, _⟩ => ⟨S64, .i1⟩
  | .hbm, ⟨10, _⟩ => ⟨S64, .i1⟩
  | .hbm, ⟨11, _⟩ => ⟨S1024x3584, .bf16⟩
  | .hbm, ⟨12, _⟩ => ⟨S1024x1024, .bf16⟩
  | .hbm, ⟨13, _⟩ => ⟨S1024x16x32x2, .bf16⟩
  | .hbm, ⟨14, _⟩ => ⟨S16x2x32x1024, .bf16⟩
  | .hbm, ⟨15, _⟩ => ⟨S1024x1024, .bf16⟩
  | .hbm, ⟨16, _⟩ => ⟨S1024x256, .bf16⟩
  | .hbm, ⟨17, _⟩ => ⟨S256x1024, .bf16⟩
  | .hbm, ⟨18, _⟩ => ⟨S1280x1024, .bf16⟩
  | .hbm, ⟨19, _⟩ => ⟨S1024x256, .bf16⟩
  | .hbm, ⟨20, _⟩ => ⟨S1x1024, .f32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S64, .f32⟩
  | .hbm, ⟨27, _⟩ => ⟨S64x1, .f32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S64x1, .i32⟩
  | .hbm, ⟨33, _⟩ => ⟨S64, .f32⟩
  | .hbm, ⟨34, _⟩ => ⟨S64x1, .f32⟩
  | .hbm, ⟨35, _⟩ => ⟨S32x8192, .f32⟩
  | .hbm, ⟨36, _⟩ => ⟨S32x8192, .f32⟩
  | .hbm, ⟨37, _⟩ => ⟨S2x4x3x64x8192, .bf16⟩
  | .hbm, ⟨38, _⟩ => ⟨S2x4x8192x64, .bf16⟩
  | .hbm, ⟨39, _⟩ => ⟨S2x4x3x256x8192, .fp8e4m3⟩
  | .hbm, ⟨40, _⟩ => ⟨S2x4x8192x256, .fp8e4m3⟩
  | .hbm, ⟨41, _⟩ => ⟨S2x4x2x8192, .f32⟩
  | .hbm, ⟨42, _⟩ => ⟨S2x4x32x64x256, .bf16⟩
  | .hbm, ⟨43, _⟩ => ⟨S2x8192x256, .f32⟩
  | .hbm, ⟨44, _⟩ => ⟨S2x8192x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1280x1024, .bf16⟩
  | .local _ .vmem, ⟨4, _⟩ => ⟨S1024x256, .bf16⟩
  | .local _ .vmem, ⟨5, _⟩ => ⟨S64x1, .f32⟩
  | .local _ .vmem, ⟨6, _⟩ => ⟨S64x1, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S256x512, .bf16⟩
  | .local _ .vmem, ⟨12, _⟩ => ⟨S1x4x3x64x1024, .bf16⟩
  | .local _ .vmem, ⟨13, _⟩ => ⟨S1x4x3x64x1024, .bf16⟩
  | .local _ .vmem, ⟨14, _⟩ => ⟨S1x4x1024x64, .bf16⟩
  | .local _ .vmem, ⟨15, _⟩ => ⟨S1x4x1024x64, .bf16⟩
  | .local _ .vmem, ⟨16, _⟩ => ⟨S1x4x3x256x1024, .fp8e4m3⟩
  | .local _ .vmem, ⟨17, _⟩ => ⟨S1x4x3x256x1024, .fp8e4m3⟩
  | .local _ .vmem, ⟨18, _⟩ => ⟨S1x4x1024x256, .fp8e4m3⟩
  | .local _ .vmem, ⟨19, _⟩ => ⟨S1x4x1024x256, .fp8e4m3⟩
  | .local _ .vmem, ⟨20, _⟩ => ⟨S1x4x2x1024, .f32⟩
  | .local _ .vmem, ⟨21, _⟩ => ⟨S1x4x2x1024, .f32⟩
  | .local _ .vmem, ⟨22, _⟩ => ⟨S1x4x4x64x256, .bf16⟩
  | .local _ .vmem, ⟨23, _⟩ => ⟨S1x4x4x64x256, .bf16⟩
  | .local _ .vmem, ⟨24, _⟩ => ⟨S1x1024x256, .f32⟩
  | .local _ .vmem, ⟨25, _⟩ => ⟨S1x1024x256, .f32⟩
  | .local _ .vmem, ⟨26, _⟩ => ⟨S1x1024x256, .f32⟩
  | .local _ .vmem, ⟨27, _⟩ => ⟨S1x1024x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev main_v24_6 : Ref sig .tc := ⟨.hbm, 43, rfl⟩
abbrev main_v24_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x3x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x3x256x1024 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x256 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x4x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel3Ideal.lean ====
variable {F : FTy → Type} [FloatOps F] [Named F]
def κ : String → Option EReal := fun
  | "q_scale" => some (((8 * (Real.log 2))⁻¹ : ℝ) : EReal)
  | _ => none
-- ==== Reference3Ideal.lean ====
abbrev S2x8192x1024 : Shape := ⟨3, ![2, 8192, 1024]⟩
abbrev S1024 : Shape := ⟨1, ![1024]⟩
abbrev S1024x3584 : Shape := ⟨2, ![1024, 3584]⟩
abbrev S64 : Shape := ⟨1, ![64]⟩
abbrev S8192x32 : Shape := ⟨2, ![8192, 32]⟩
abbrev S256x512 : Shape := ⟨2, ![256, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3584 : Shape := ⟨3, ![2, 8192, 3584]⟩
abbrev S2x8192x768 : Shape := ⟨3, ![2, 8192, 768]⟩
abbrev S2x8192x256 : Shape := ⟨3, ![2, 8192, 256]⟩
abbrev S2x8192x2048 : Shape := ⟨3, ![2, 8192, 2048]⟩
abbrev S2x8192x12x64 : Shape := ⟨4, ![2, 8192, 12, 64]⟩
abbrev S2x8192x12 : Shape := ⟨3, ![2, 8192, 12]⟩
abbrev S2x8192x12x1 : Shape := ⟨4, ![2, 8192, 12, 1]⟩
abbrev S1x1x1x64 : Shape := ⟨4, ![1, 1, 1, 64]⟩
abbrev S2x8192x12x32 : Shape := ⟨4, ![2, 8192, 12, 32]⟩
abbrev S1x8192x1x32 : Shape := ⟨4, ![1, 8192, 1, 32]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S2x8192x4x32 : Shape := ⟨4, ![2, 8192, 4, 32]⟩
abbrev S2x8192x512 : Shape := ⟨3, ![2, 8192, 512]⟩
abbrev S2x8192x4x3x64 : Shape := ⟨5, ![2, 8192, 4, 3, 64]⟩
abbrev S2x4x3x64x8192 : Shape := ⟨5, ![2, 4, 3, 64, 8192]⟩
abbrev S2x32x256x4x64 : Shape := ⟨5, ![2, 32, 256, 4, 64]⟩
abbrev S2x4x32x64x256 : Shape := ⟨5, ![2, 4, 32, 64, 256]⟩
abbrev S2x4x8192x64 : Shape := ⟨4, ![2, 4, 8192, 64]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3584, .f32⟩
  | .hbm, ⟨3, _⟩ => ⟨S64, .f32⟩
  | .hbm, ⟨4, _⟩ => ⟨S64, .f32⟩
  | .hbm, ⟨5, _⟩ => ⟨S8192x32, .f32⟩
  | .hbm, ⟨6, _⟩ => ⟨S8192x32, .f32⟩
  | .hbm, ⟨7, _⟩ => ⟨S256x512, .bf16⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x3584, .f32⟩
  | .hbm, ⟨25, _⟩ => ⟨S2x8192x768, .f32⟩
  | .hbm, ⟨26, _⟩ => ⟨S2x8192x256, .f32⟩
  | .hbm, ⟨27, _⟩ => ⟨S2x8192x256, .f32⟩
  | .hbm, ⟨28, _⟩ => ⟨S2x8192x256, .f32⟩
  | .hbm, ⟨29, _⟩ => ⟨S2x8192x2048, .f32⟩
  | .hbm, ⟨30, _⟩ => ⟨S2x8192x12x64, .f32⟩
  | .hbm, ⟨31, _⟩ => ⟨S2x8192x12x64, .f32⟩
  | .hbm, ⟨32, _⟩ => ⟨S_, .f32⟩
  | .hbm, ⟨33, _⟩ => ⟨S2x8192x12, .f32⟩
  | .hbm, ⟨34, _⟩ => ⟨S2x8192x12x1, .f32⟩
  | .hbm, ⟨35, _⟩ => ⟨S_, .f32⟩
  | .hbm, ⟨36, _⟩ => ⟨S2x8192x12x1, .f32⟩
  | .hbm, ⟨37, _⟩ => ⟨S2x8192x12x1, .f32⟩
  | .hbm, ⟨38, _⟩ => ⟨S_, .f32⟩
  | .hbm, ⟨39, _⟩ => ⟨S2x8192x12x1, .f32⟩
  | .hbm, ⟨40, _⟩ => ⟨S2x8192x12x1, .f32⟩
  | .hbm, ⟨41, _⟩ => ⟨S2x8192x12x1, .f32⟩
  | .hbm, ⟨42, _⟩ => ⟨S2x8192x12x64, .f32⟩
  | .hbm, ⟨43, _⟩ => ⟨S2x8192x12x64, .f32⟩
  | .hbm, ⟨44, _⟩ => ⟨S1x1x1x64, .f32⟩
  | .hbm, ⟨45, _⟩ => ⟨S2x8192x12x64, .f32⟩
  | .hbm, ⟨46, _⟩ => ⟨S2x8192x12x64, .f32⟩
  | .hbm, ⟨47, _⟩ => ⟨S2x8192x12x32, .f32⟩
  | .hbm, ⟨48, _⟩ => ⟨S2x8192x12x32, .f32⟩
  | .hbm, ⟨49, _⟩ => ⟨S1x8192x1x32, .f32⟩
  | .hbm, ⟨50, _⟩ => ⟨S1x8192x1x32, .f32⟩
  | .hbm, ⟨51, _⟩ => ⟨S2x8192x12x32, .f32⟩
  | .hbm, ⟨52, _⟩ => ⟨S2x8192x12x32, .f32⟩
  | .hbm, ⟨53, _⟩ => ⟨S2x8192x12x32, .f32⟩
  | .hbm, ⟨54, _⟩ => ⟨S2x8192x12x32, .f32⟩
  | .hbm, ⟨55, _⟩ => ⟨S2x8192x12x32, .f32⟩
  | .hbm, ⟨56, _⟩ => ⟨S2x8192x12x32, .f32⟩
  | .hbm, ⟨57, _⟩ => ⟨S2x8192x12x32, .f32⟩
  | .hbm, ⟨58, _⟩ => ⟨S2x8192x12x32, .f32⟩
  | .hbm, ⟨59, _⟩ => ⟨S2x8192x12x32, .f32⟩
  | .hbm, ⟨60, _⟩ => ⟨S2x8192x12x32, .f32⟩
  | .hbm, ⟨61, _⟩ => ⟨S2x8192x12x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2x8192x12x64, .f32⟩
  | .hbm, ⟨67, _⟩ => ⟨S2x8192x12x64, .f32⟩
  | .hbm, ⟨68, _⟩ => ⟨S2x8192x4x64, .f32⟩
  | .hbm, ⟨69, _⟩ => ⟨S2x8192x4x64, .f32⟩
  | .hbm, ⟨70, _⟩ => ⟨S_, .f32⟩
  | .hbm, ⟨71, _⟩ => ⟨S2x8192x4, .f32⟩
  | .hbm, ⟨72, _⟩ => ⟨S2x8192x4x1, .f32⟩
  | .hbm, ⟨73, _⟩ => ⟨S_, .f32⟩
  | .hbm, ⟨74, _⟩ => ⟨S2x8192x4x1, .f32⟩
  | .hbm, ⟨75, _⟩ => ⟨S2x8192x4x1, .f32⟩
  | .hbm, ⟨76, _⟩ => ⟨S_, .f32⟩
  | .hbm, ⟨77, _⟩ => ⟨S2x8192x4x1, .f32⟩
  | .hbm, ⟨78, _⟩ => ⟨S2x8192x4x1, .f32⟩
  | .hbm, ⟨79, _⟩ => ⟨S2x8192x4x1, .f32⟩
  | .hbm, ⟨80, _⟩ => ⟨S2x8192x4x64, .f32⟩
  | .hbm, ⟨81, _⟩ => ⟨S2x8192x4x64, .f32⟩
  | .hbm, ⟨82, _⟩ => ⟨S1x1x1x64, .f32⟩
  | .hbm, ⟨83, _⟩ => ⟨S2x8192x4x64, .f32⟩
  | .hbm, ⟨84, _⟩ => ⟨S2x8192x4x64, .f32⟩
  | .hbm, ⟨85, _⟩ => ⟨S2x8192x4x32, .f32⟩
  | .hbm, ⟨86, _⟩ => ⟨S2x8192x4x32, .f32⟩
  | .hbm, ⟨87, _⟩ => ⟨S1x8192x1x32, .f32⟩
  | .hbm, ⟨88, _⟩ => ⟨S1x8192x1x32, .f32⟩
  | .hbm, ⟨89, _⟩ => ⟨S2x8192x4x32, .f32⟩
  | .hbm, ⟨90, _⟩ => ⟨S2x8192x4x32, .f32⟩
  | .hbm, ⟨91, _⟩ => ⟨S2x8192x4x32, .f32⟩
  | .hbm, ⟨92, _⟩ => ⟨S2x8192x4x32, .f32⟩
  | .hbm, ⟨93, _⟩ => ⟨S2x8192x4x32, .f32⟩
  | .hbm, ⟨94, _⟩ => ⟨S2x8192x4x32, .f32⟩
  | .hbm, ⟨95, _⟩ => ⟨S2x8192x4x32, .f32⟩
  | .hbm, ⟨96, _⟩ => ⟨S2x8192x4x32, .f32⟩
  | .hbm, ⟨97, _⟩ => ⟨S2x8192x4x32, .f32⟩
  | .hbm, ⟨98, _⟩ => ⟨S2x8192x4x32, .f32⟩
  | .hbm, ⟨99, _⟩ => ⟨S2x8192x4x64, .f32⟩
  | .hbm, ⟨100, _⟩ => ⟨S256x512, .f32⟩
  | .hbm, ⟨101, _⟩ => ⟨S2x8192x512, .f32⟩
  | .hbm, ⟨102, _⟩ => ⟨S2x8192x4x3x64, .f32⟩
  | .hbm, ⟨103, _⟩ => ⟨S2x4x3x64x8192, .f32⟩
  | .hbm, ⟨104, _⟩ => ⟨S2x32x256x4x64, .f32⟩
  | .hbm, ⟨105, _⟩ => ⟨S2x4x32x64x256, .f32⟩
  | .hbm, ⟨106, _⟩ => ⟨S2x4x3x64x8192, .bf16⟩
  | .hbm, ⟨107, _⟩ => ⟨S2x4x8192x64, .f32⟩
  | .hbm, ⟨108, _⟩ => ⟨S2x4x8192x64, .bf16⟩
  | .hbm, ⟨109, _⟩ => ⟨S2x4x32x64x256, .bf16⟩
  | .hbm, ⟨110, _⟩ => ⟨S2x8192x256, .f32⟩
  | .hbm, ⟨111, _⟩ => ⟨S2x8192x256, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩

abbrev nD : Nat := 1
abbrev τ : Topo := Topo.v7x

variable {F : FTy → Type} [FloatOps F]
-- ==== Proof.Tiles.lean ====
/-
  The bounded path of the attention kernel as a structured program: the printed body unrolls 32 chunks of 12 lane
  tiles, each tile's scores computed three tiles ahead of their product with the values. Here a tile is one program
  in its number `t` (chunk `t / 12`, lane tile `t % 12`), and the unrolled run is a recursion over `t`.
-/
module

public import proofs.«01_k».proof.Proof.Gen.KernelIdeal

@[expose] public section

noncomputable section

namespace Cert.KernelIdeal.Tiles

open Idealize.ShloMosaic Idealize.SL.Sem
open Cert.KernelIdeal Cert.KernelIdeal.Gen

variable {F : FTy → Type} [FloatOps F]

/-- Programs of a kernel body. -/
abbrev PG (F : FTy → Type) : Type → Type _ := Prog (TpuEff nD τ sig (Elt F) Λ₀ .tc)

/-- Chunk number of tile `t`. -/
abbrev chunk (t : ℕ) : Fin 32 := ⟨t / 12 % 32, Nat.mod_lt _ (by decide)⟩

theorem slices_lane (t : ℕ) : S256x3072.Slices ![0, 256 * (t % 12)] S256x256 := by
  have := Nat.mod_lt t (by decide : 12 > 0)
  refine ⟨rfl, fun a => ?_⟩
  match a with
  | ⟨0, _⟩ => show 0 + 256 ≤ 256; omega
  | ⟨1, _⟩ => show 256 * (t % 12) + 256 ≤ 3072; omega

theorem inb_lane (t : ℕ) : ∀ a, (![0, 256 * (t % 12)] : Fin 2 → Nat) a + S80x256.size a ≤ S80x3072.size a := by
  have := Nat.mod_lt t (by decide : 12 > 0)
  intro a
  match a with
  | ⟨0, _⟩ => show 0 + 80 ≤ 80; omega
  | ⟨1, _⟩ => show 256 * (t % 12) + 256 ≤ 3072; omega

/-- The weights of tile `t` from the chunk of keys `k` and the queries `q`: `2 ^ (k · q / 16)`. -/
def weights (q : FVec F S256x3072 .fp8e4m3) (t : ℕ) (k : Vec F S1x1x256x256 .fp8e4m3) : FVec F S256x256 .bf16 :=
  truncf .bf16 (exp2 (mulf (matmul dot_S256x256_S256x256_S256x256_1_0_0_1_n_n none
    (shapeCast S256x256 k shapeCasts_S1x1x256x256_S256x256)
    (extractStridedSlice S256x256 ![0, 256 * (t % 12)] q (slices_lane t))
    (constant S256x256 .f32 0x00000000#32)) (broadcast S256x256 (Scalar.ofBits .f32 0x3D800000#32)))) bitsLt_bf16_f32

/-- What tile `t` adds to the accumulator `a`: the values (and a block of ones below them) times the weights. -/
def added (o : FVec F S16x256 .bf16) (v : Vec F S1x1x1x64x256 .bf16) (w : FVec F S256x256 .bf16) (a : Vec F S80x256 .f32) : FVec F S80x256 .f32 :=
  shapeCast S80x256 (addf a (matmul dot_S80x256_S256x256_S80x256_1_0_0_1_n_n none
    (concatenate S80x256 0 [⟨S64x256, shapeCast S64x256 v shapeCasts_S1x1x1x64x256_S64x256⟩, ⟨S16x256, o⟩] concatenates_S64x256_S16x256_S80x256_d0)
    w (constant S80x256 .f32 0x00000000#32))) shapeCasts_S80x256_S80x256

variable (arg6 : Memref sig .tc .vmem S1x1x8192x256 .fp8e4m3) (arg7 : Memref sig .tc .vmem S1x1x32x64x256 .bf16)
  (arg13 : Memref sig .tc .vmem S80x3072 .f32)

/-- Compute the weights of tile `t`. -/
def score (q : FVec F S256x3072 .fp8e4m3) (t : ℕ) : PG F (FVec F S256x256 .bf16) := do
  let k : Vec F S1x1x256x256 .fp8e4m3 ← Prog.lift (.load arg6 (Rect.unit (s := S1x1x8192x256) (k0_off1 (BitVec.ofNat 32 (chunk t).val)) S1x1x256x256.size (k0_off1_inb (chunk t))).toLoadRect (View.loadsAt_vmem h_S1x1x256x256))
  pure (weights q t k)

/-- Add tile `t`'s product to its columns of the accumulator. -/
def accum (o : FVec F S16x256 .bf16) (t : ℕ) (w : FVec F S256x256 .bf16) : PG F PUnit := do
  let v : Vec F S1x1x1x64x256 .bf16 ← Prog.lift (.load arg7 (Rect.unit (s := S1x1x32x64x256) (k0_off2 (BitVec.ofNat 32 (chunk t).val)) S1x1x1x64x256.size (k0_off2_inb (chunk t))).toLoadRect (View.loadsAt_vmem h_S1x1x1x64x256))
  let a : Vec F S80x256 .f32 ← Prog.lift (.load arg13 (Rect.unit (s := S80x3072) ![0, 256 * (t % 12)] S80x256.size (inb_lane t)).toLoadRect (View.loadsAt_vmem h_S80x256))
  let _b : Vec F S80x256 .f32 ← Prog.lift (.load arg13 (Rect.unit (s := S80x3072) ![0, 256 * (t % 12)] S80x256.size (inb_lane t)).toLoadRect (View.loadsAt_vmem h_S80x256))
  Prog.lift (.store arg13 (Rect.unit (s := S80x3072) ![0, 256 * (t % 12)] S80x256.size (inb_lane t)) (added o v w a) Finset.univ (View.stores_vmem_bits_univ h_S80x256 rfl) (.inl rfl))

/-- Steps `t, …, t + n - 1`, each with the weights of the next three tiles at hand: the scores of tile `t + 3`, then
    tile `t` added. -/
def run (o : FVec F S16x256 .bf16) (q : FVec F S256x3072 .fp8e4m3) : (n t : ℕ) → (w₀ w₁ w₂ : FVec F S256x256 .bf16) →
    PG F (FVec F S256x256 .bf16 × FVec F S256x256 .bf16 × FVec F S256x256 .bf16)
  | 0, _, w₀, w₁, w₂ => pure (w₀, w₁, w₂)
  | n + 1, t, w₀, w₁, w₂ => do
    let w₃ ← score arg6 q (t + 3)
    accum arg7 arg13 o t w₀
    run o q n (t + 1) w₁ w₂ w₃

variable (arg5 : Memref sig .tc .vmem S1x1x3x256x1024 .fp8e4m3)

/-- The three heads' queries side by side. -/
def queries : PG F (FVec F S256x3072 .fp8e4m3) := do
  let a : Vec F S1x1x1x256x1024 .fp8e4m3 ← Prog.lift (.load arg5 (Rect.unit (s := S1x1x3x256x1024) ![0, 0, 0, 0, 0] S1x1x1x256x1024.size inb_S1x1x3x256x1024_S1x1x1x256x1024_0_0_0_0_0).toLoadRect (View.loadsAt_vmem h_S1x1x1x256x1024))
  let b : Vec F S1x1x1x256x1024 .fp8e4m3 ← Prog.lift (.load arg5 (Rect.unit (s := S1x1x3x256x1024) ![0, 0, 1, 0, 0] S1x1x1x256x1024.size inb_S1x1x3x256x1024_S1x1x1x256x1024_0_0_1_0_0).toLoadRect (View.loadsAt_vmem h_S1x1x1x256x1024))
  let c : Vec F S1x1x1x256x1024 .fp8e4m3 ← Prog.lift (.load arg5 (Rect.unit (s := S1x1x3x256x1024) ![0, 0, 2, 0, 0] S1x1x1x256x1024.size inb_S1x1x3x256x1024_S1x1x1x256x1024_0_0_2_0_0).toLoadRect (View.loadsAt_vmem h_S1x1x1x256x1024))
  pure (concatenate S256x3072 1 [⟨S256x1024, shapeCast S256x1024 a shapeCasts_S1x1x1x256x1024_S256x1024⟩, ⟨S256x1024, shapeCast S256x1024 b shapeCasts_S1x1x1x256x1024_S256x1024⟩, ⟨S256x1024, shapeCast S256x1024 c shapeCasts_S1x1x1x256x1024_S256x1024⟩] concatenates_S256x1024_S256x1024_S256x1024_S256x3072_d1)

/-- The bounded path: all 384 tiles, in the stretches of the printed parts. -/
def bounded (o : FVec F S16x256 .bf16) : PG F PUnit := do
  let q ← queries arg5
  let w₀ ← score arg6 q 0
  let w₁ ← score arg6 q 1
  let w₂ ← score arg6 q 2
  let w ← run arg6 arg7 arg13 o q 78 0 w₀ w₁ w₂
  let w ← run arg6 arg7 arg13 o q 80 78 w.1 w.2.1 w.2.2
  let w ← run arg6 arg7 arg13 o q 80 158 w.1 w.2.1 w.2.2
  let w ← run arg6 arg7 arg13 o q 80 238 w.1 w.2.1 w.2.2
  let w ← run arg6 arg7 arg13 o q 63 318 w.1 w.2.1 w.2.2
  accum arg7 arg13 o 381 w.1
  accum arg7 arg13 o 382 w.2.1
  accum arg7 arg13 o 383 w.2.2

end Cert.KernelIdeal.Tiles

end
-- ==== Proof.Branch.lean ====
/-
  The bounded branch of the printed attention body, part by part, is the structured program of `Tiles.lean`.
-/
module

public import proofs.«01_k».proof.Proof.Tiles
public import proofs.«01_k».proof.Proof.Gen.KernelIdeal.Skeleton

@[expose] public section

noncomputable section

namespace Cert.KernelIdeal.Tiles

open Idealize.ShloMosaic Idealize.SL.Sem
open Cert.KernelIdeal Cert.KernelIdeal.Gen

variable {F : FTy → Type} [FloatOps F]
variable (i : grid0.Coords) (arg3 : Memref sig .tc .vmem S1x1x3x64x1024 .bf16) (harg3 : arg3.IsWhole) (arg4 : Memref sig .tc .vmem S1x1x8192x64 .bf16) (harg4 : arg4.IsWhole) (arg5 : Memref sig .tc .vmem S1x1x3x256x1024 .fp8e4m3) (harg5 : arg5.IsWhole) (arg6 : Memref sig .tc .vmem S1x1x8192x256 .fp8e4m3) (harg6 : arg6.IsWhole) (arg7 : Memref sig .tc .vmem S1x1x32x64x256 .bf16) (harg7 : arg7.IsWhole) (arg8 : Memref sig .tc .vmem S1x1x2x8192 .f32) (harg8 : arg8.IsWhole) (arg9 : Memref sig .tc .vmem S1x1x3x64x1024 .bf16) (harg9 : arg9.IsWhole) (arg10 : Memref sig .tc .vmem S2x256x3072 .f32) (harg10 : arg10.IsWhole) (arg11 : Memref sig .tc .vmem S2x1x3072 .f32) (harg11 : arg11.IsWhole) (arg12 : Memref sig .tc .vmem S1x3072 .f32) (harg12 : arg12.IsWhole) (arg13 : Memref sig .tc .vmem S80x3072 .f32) (harg13 : arg13.IsWhole)

set_option maxRecDepth 1000000 in
set_option maxHeartbeats 0 in
/-- Tiles 0 to 77. -/
theorem part289_eq (o : FVec F S16x256 .bf16) :
    k0_part289 i arg3 harg3 arg4 harg4 arg5 harg5 arg6 harg6 arg7 harg7 arg8 harg8 arg9 harg9 arg10 harg10 arg11 harg11 arg12 harg12 arg13 harg13 o = (do
      let q ← queries arg5
      let w₀ ← score arg6 q 0
      let w₁ ← score arg6 q 1
      let w₂ ← score arg6 q 2
      let w ← run arg6 arg7 arg13 o q 78 0 w₀ w₁ w₂
      pure ⟨q, 0#32, w.1, w.2.1, w.2.2, 6#32⟩) := rfl

set_option maxRecDepth 1000000 in
set_option maxHeartbeats 0 in
/-- Tiles 78 to 157. -/
theorem part290_eq (o : FVec F S16x256 .bf16) (q : FVec F S256x3072 .fp8e4m3) (w0 w1 w2 : FVec F S256x256 .bf16) :
    k0_part290 i arg3 harg3 arg4 harg4 arg5 harg5 arg6 harg6 arg7 harg7 arg8 harg8 arg9 harg9 arg10 harg10 arg11 harg11 arg12 harg12 arg13 harg13 o q 0#32 w0 w1 w2 6#32 = (do
      let w ← run arg6 arg7 arg13 o q 80 78 w0 w1 w2
      pure ⟨w.1, w.2.1, w.2.2, 13#32⟩) := rfl

set_option maxRecDepth 1000000 in
set_option maxHeartbeats 0 in
/-- Tiles 158 to 237. -/
theorem part291_eq (o : FVec F S16x256 .bf16) (q : FVec F S256x3072 .fp8e4m3) (w0 w1 w2 : FVec F S256x256 .bf16) :
    k0_part291 i arg3 harg3 arg4 harg4 arg5 harg5 arg6 harg6 arg7 harg7 arg8 harg8 arg9 harg9 arg10 harg10 arg11 harg11 arg12 harg12 arg13 harg13 o q 0#32 w0 w1 w2 13#32 = (do
      let w ← run arg6 arg7 arg13 o q 80 158 w0 w1 w2
      pure ⟨w.1, w.2.1, w.2.2, 20#32⟩) := rfl

set_option maxRecDepth 1000000 in
set_option maxHeartbeats 0 in
/-- Tiles 238 to 317. -/
theorem part292_eq (o : FVec F S16x256 .bf16) (q : FVec F S256x3072 .fp8e4m3) (w0 w1 w2 : FVec F S256x256 .bf16) :
    k0_part292 i arg3 harg3 arg4 harg4 arg5 harg5 arg6 harg6 arg7 harg7 arg8 harg8 arg9 harg9 arg10 harg10 arg11 harg11 arg12 harg12 arg13 harg13 o q 0#32 w0 w1 w2 20#32 = (do
      let w ← run arg6 arg7 arg13 o q 80 238 w0 w1 w2
      pure ⟨w.1, w.2.1, w.2.2, 26#32⟩) := rfl

set_option maxRecDepth 1000000 in
set_option maxHeartbeats 0 in
/-- Tiles 318 to 382, and the values of tile 383. -/
theorem part293_eq (o : FVec F S16x256 .bf16) (q : FVec F S256x3072 .fp8e4m3) (w0 w1 w2 : FVec F S256x256 .bf16) :
    k0_part293 i arg3 harg3 arg4 harg4 arg5 harg5 arg6 harg6 arg7 harg7 arg8 harg8 arg9 harg9 arg10 harg10 arg11 harg11 arg12 harg12 arg13 harg13 o q 0#32 w0 w1 w2 26#32 = (do
      let w ← run arg6 arg7 arg13 o q 63 318 w0 w1 w2
      accum arg7 arg13 o 381 w.1
      accum arg7 arg13 o 382 w.2.1
      let v : Vec F S1x1x1x64x256 .bf16 ← Prog.lift (.load arg7 (Rect.unit (s := S1x1x32x64x256) (k0_off2 31#32) S1x1x1x64x256.size (k0_off2_inb (chunk 383))).toLoadRect (View.loadsAt_vmem h_S1x1x1x64x256))
      pure ⟨w.2.2, concatenate S80x256 0 [⟨S64x256, shapeCast S64x256 v shapeCasts_S1x1x1x64x256_S64x256⟩, ⟨S16x256, o⟩] concatenates_S64x256_S16x256_S80x256_d0⟩) := rfl

set_option maxRecDepth 65536 in
/-- The whole branch. -/
theorem branch_eq (o : FVec F S16x256 .bf16) :
    (do
    let ⟨v68, c0_i32_63, v1995, v2020, v2045, v2059⟩ : Σ' (v68 : FVec F S256x3072 .fp8e4m3) (c0_i32_63 : BitVec 32) (v1995 : FVec F S256x256 .bf16) (v2020 : FVec F S256x256 .bf16) (v2045 : FVec F S256x256 .bf16), BitVec 32 ← k0_part289 i arg3 harg3 arg4 harg4 arg5 harg5 arg6 harg6 arg7 harg7 arg8 harg8 arg9 harg9 arg10 harg10 arg11 harg11 arg12 harg12 arg13 harg13 o
    let ⟨v3995, v4020, v4045, v4059⟩ : Σ' (v3995 : FVec F S256x256 .bf16) (v4020 : FVec F S256x256 .bf16) (v4045 : FVec F S256x256 .bf16), BitVec 32 ← k0_part290 i arg3 harg3 arg4 harg4 arg5 harg5 arg6 harg6 arg7 harg7 arg8 harg8 arg9 harg9 arg10 harg10 arg11 harg11 arg12 harg12 arg13 harg13 o v68 c0_i32_63 v1995 v2020 v2045 v2059
    let ⟨v5995, v6020, v6045, v6059⟩ : Σ' (v5995 : FVec F S256x256 .bf16) (v6020 : FVec F S256x256 .bf16) (v6045 : FVec F S256x256 .bf16), BitVec 32 ← k0_part291 i arg3 harg3 arg4 harg4 arg5 harg5 arg6 harg6 arg7 harg7 arg8 harg8 arg9 harg9 arg10 harg10 arg11 harg11 arg12 harg12 arg13 harg13 o v68 c0_i32_63 v3995 v4020 v4045 v4059
    let ⟨v7995, v8020, v8045, v8059⟩ : Σ' (v7995 : FVec F S256x256 .bf16) (v8020 : FVec F S256x256 .bf16) (v8045 : FVec F S256x256 .bf16), BitVec 32 ← k0_part292 i arg3 harg3 arg4 harg4 arg5 harg5 arg6 harg6 arg7 harg7 arg8 harg8 arg9 harg9 arg10 harg10 arg11 harg11 arg12 harg12 arg13 harg13 o v68 c0_i32_63 v5995 v6020 v6045 v6059
    let ⟨v9620, v9662⟩ : Σ' (v9620 : FVec F S256x256 .bf16), FVec F S80x256 .bf16 ← k0_part293 i arg3 harg3 arg4 harg4 arg5 harg5 arg6 harg6 arg7 harg7 arg8 harg8 arg9 harg9 arg10 harg10 arg11 harg11 arg12 harg12 arg13 harg13 o v68 c0_i32_63 v7995 v8020 v8045 v8059
    let v9663 : Vec F S80x256 .f32 ← Prog.lift (.load arg13 (Rect.unit (s := S80x3072) ![0, 2816] S80x256.size inb_S80x3072_S80x256_0_2816).toLoadRect (View.loadsAt_vmem h_S80x256))
    let _v9666 : Vec F S80x256 .f32 ← Prog.lift (.load arg13 (Rect.unit (s := S80x3072) ![0, 2816] S80x256.size inb_S80x3072_S80x256_0_2816).toLoadRect (View.loadsAt_vmem h_S80x256))
    Prog.lift (.store arg13 (Rect.unit (s := S80x3072) ![0, 2816] S80x256.size inb_S80x3072_S80x256_0_2816) (k0_pay982 v9620 v9662 v9663) Finset.univ (View.stores_vmem_bits_univ h_S80x256 rfl) (.inl rfl))
    pure ⟨⟩ : PG F PUnit) = bounded arg6 arg7 arg13 arg5 o := by
  simp only [part289_eq, part290_eq, part291_eq, part292_eq, part293_eq, bind_assoc, pure_bind]
  rfl

end Cert.KernelIdeal.Tiles
-- ==== Proof.Steps.lean ====
/-
  What the structured bounded path does to memory: with the queries, keys and values held at vectors and the
  accumulator at `A`, a tile leaves the accumulator with that tile's product added to its columns.
-/
module

public import proofs.«01_k».proof.Proof.Branch
public import Idealize.ShloMosaic.Lib.Exec
public import Idealize.ShloMosaic.Lib.Tactic
public import Idealize.ShloMosaic.Lib.VecWindow
public import Idealize.ShloMosaic.Lib.Pipeline.Kit

@[expose] public section

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- Memref `M` held whole at the vector `x`. -/
abbrev At (c : Dev nD) {S : Shape} {e : EltTy} (M : Memref sig .tc .vmem S e) (x : S.Idx → Elt F e) : sProp 𝕄G :=
  M.view.loc (c : Thread nD τ) ↦[M.view.set]{fullShare} M.view.rep x

/-- The keys of tile `t`'s chunk. -/
def keys (K : Vec F S1x1x8192x256 .fp8e4m3) (t : ℕ) : Vec F S1x1x256x256 .fp8e4m3 :=
  VecWindow.window K (k0_off1 (BitVec.ofNat 32 (chunk t).val)) S1x1x256x256.size (k0_off1_inb (chunk t))

/-- The values of tile `t`'s chunk. -/
def vals (V : Vec F S1x1x32x64x256 .bf16) (t : ℕ) : Vec F S1x1x1x64x256 .bf16 :=
  VecWindow.window V (k0_off2 (BitVec.ofNat 32 (chunk t).val)) S1x1x1x64x256.size (k0_off2_inb (chunk t))

/-- The accumulator after tile `t` is added. -/
def step (o : FVec F S16x256 .bf16) (q : FVec F S256x3072 .fp8e4m3) (K : Vec F S1x1x8192x256 .fp8e4m3) (V : Vec F S1x1x32x64x256 .bf16)
    (t : ℕ) (A : Vec F S80x3072 .f32) : Vec F S80x3072 .f32 :=
  VecWindow.put A ![0, 256 * (t % 12)] S80x256.size
    (added o (vals V t) (weights q t (keys K t)) (VecWindow.window A ![0, 256 * (t % 12)] S80x256.size (inb_lane t)))

/-- The accumulator after tiles `t, …, t + n - 1`. -/
def steps (o : FVec F S16x256 .bf16) (q : FVec F S256x3072 .fp8e4m3) (K : Vec F S1x1x8192x256 .fp8e4m3) (V : Vec F S1x1x32x64x256 .bf16) :
    (n t : ℕ) → Vec F S80x3072 .f32 → Vec F S80x3072 .f32
  | 0, _, A => A
  | n + 1, t, A => steps o q K V n (t + 1) (step o q K V t A)

variable (𝒱 : Variants) (c : Dev nD) (bd : Option 𝒱.V) (E : Set ℕ)
  (arg6 : Memref sig .tc .vmem S1x1x8192x256 .fp8e4m3) (arg7 : Memref sig .tc .vmem S1x1x32x64x256 .bf16)
  (arg13 : Memref sig .tc .vmem S80x3072 .f32)
  (K : Vec F S1x1x8192x256 .fp8e4m3) (V : Vec F S1x1x32x64x256 .bf16)

theorem score_run (q : FVec F S256x3072 .fp8e4m3) (t : ℕ) :
    At c arg6 K ⊢ wp frame (wpE (defs₀ (F := F)) 𝒱 (c : Thread nD τ) bd) E (score arg6 q t)
      (fun w => iprop(At c arg6 K ∗ ⌜w = weights q t (keys K t)⌝)) := by
  unfold score
  iintro H6
  sl_exec
  sl_step
  isplitl [H6]; · iexact H6
  ipureintro
  rw [View.readAt_rep_unit _ _ _ rfl (k0_off1_inb (chunk t))]
  rfl

/-- Held at contents that read `x`, a memref is held at `x`. -/
theorem at_of_read {S : Shape} {e : EltTy} (M : Memref sig .tc .vmem S e) {f : Buf (Elt F) (M.view.loc (c : Thread nD τ))}
    {x : S.Idx → Elt F e} (h : M.view.read (Elt F) f = x) : (M.view.loc (c : Thread nD τ) ↦[M.view.set]{fullShare} f : sProp 𝕄G) ⊢ At c M x :=
  pointsTo_rep_of_read (c : Thread nD τ) M f _ x h

theorem accum_run (o : FVec F S16x256 .bf16) (q : FVec F S256x3072 .fp8e4m3) (t : ℕ) (A : Vec F S80x3072 .f32) :
    iprop(At c arg7 V ∗ At c arg13 A) ⊢ wp frame (wpE (defs₀ (F := F)) 𝒱 (c : Thread nD τ) bd) E
      (accum arg7 arg13 o t (weights q t (keys K t)))
      (fun _ => iprop(At c arg7 V ∗ At c arg13 (step o q K V t A))) := by
  unfold accum
  iintro ⟨H7, H13⟩
  sl_exec
  sl_step
  isplitl [H7]; · iexact H7
  ihave H := (at_of_read c arg13 (x := step o q K V t A) ?_) $$ H13
  rotate_left
  · iexact H
  · rw [View.read_writes_rep_unit _ _ (inb_lane t) _ rfl, View.readAt_rep_unit _ _ _ rfl (k0_off2_inb (chunk t)),
      View.readAt_rep_unit _ _ _ rfl (inb_lane t)]
    rfl

/-- Memory while the tiles run. -/
abbrev Held (A : Vec F S80x3072 .f32) : sProp 𝕄G := iprop(At c arg6 K ∗ At c arg7 V ∗ At c arg13 A)

theorem run_run (o : FVec F S16x256 .bf16) (q : FVec F S256x3072 .fp8e4m3) (n : ℕ) : ∀ (t : ℕ) (A : Vec F S80x3072 .f32),
    Held c arg6 arg7 arg13 K V A ⊢ wp frame (wpE (defs₀ (F := F)) 𝒱 (c : Thread nD τ) bd) E
      (run arg6 arg7 arg13 o q n t (weights q t (keys K t)) (weights q (t + 1) (keys K (t + 1))) (weights q (t + 2) (keys K (t + 2))))
      (fun w => iprop(Held c arg6 arg7 arg13 K V (steps o q K V n t A)
        ∗ ⌜w = (weights q (t + n) (keys K (t + n)), weights q (t + n + 1) (keys K (t + n + 1)), weights q (t + n + 2) (keys K (t + n + 2)))⌝)) := by
  induction n with
  | zero =>
    intro t A
    refine BIBase.Entails.trans ?_ (le_wp_ret _ _ _ _ _)
    iintro H
    isplitl [H]; · iexact H
    ipureintro; rfl
  | succ n ih =>
    intro t A
    unfold run
    rw [wp_bind]
    iintro ⟨H6, H7, H13⟩
    ihave H := (score_run 𝒱 c bd E arg6 K q (t + 3)) $$ H6
    iapply (wp_wand frame (wpE (defs₀ (F := F)) 𝒱 (c : Thread nD τ) bd) E) $$ H
    iintro %w ⟨H6, %hw⟩
    subst hw
    rw [wp_bind]
    ihave H := (accum_run 𝒱 c bd E arg7 arg13 K V o q t A) $$ [H7 H13]
    · isplitl [H7] <;> iassumption
    iapply (wp_wand frame (wpE (defs₀ (F := F)) 𝒱 (c : Thread nD τ) bd) E) $$ H
    iintro %u ⟨H7, H13⟩
    have h := ih (t + 1) (step o q K V t A)
    rw [show t + 1 + 1 = t + 2 from rfl, show t + 1 + 2 = t + 3 from rfl, show t + 1 + n = t + (n + 1) by omega] at h
    iapply h
    isplitl [H6]; · iexact H6
    isplitl [H7] <;> iassumption

theorem steps_add (o : FVec F S16x256 .bf16) (q : FVec F S256x3072 .fp8e4m3) (n m : ℕ) : ∀ (t : ℕ) (A : Vec F S80x3072 .f32),
    steps o q K V m (t + n) (steps o q K V n t A) = steps o q K V (n + m) t A := by
  induction n with
  | zero => intro t A; rw [Nat.zero_add]; rfl
  | succ n ih =>
    intro t A
    rw [show n + 1 + m = n + m + 1 by omega, show t + (n + 1) = t + 1 + n by omega]
    exact ih (t + 1) (step o q K V t A)

/-- Three more tiles after the first `n`. -/
theorem steps_three (o : FVec F S16x256 .bf16) (q : FVec F S256x3072 .fp8e4m3) (n : ℕ) (A : Vec F S80x3072 .f32) :
    steps o q K V (n + 3) 0 A = step o q K V (n + 2) (step o q K V (n + 1) (step o q K V n (steps o q K V n 0 A))) := by
  have h := steps_add K V o q n 3 0 A
  rw [Nat.zero_add] at h
  exact h.symm

/-- A specified program followed by another. -/
theorem then_run {α β : Type} {p : PG F α} {k : α → PG F β} {R : sProp 𝕄G} {Q : α → sProp 𝕄G} {Q' : β → sProp 𝕄G}
    (h : R ⊢ wp frame (wpE (defs₀ (F := F)) 𝒱 (c : Thread nD τ) bd) E p Q)
    (hk : ∀ a, Q a ⊢ wp frame (wpE (defs₀ (F := F)) 𝒱 (c : Thread nD τ) bd) E (k a) Q') :
    R ⊢ wp frame (wpE (defs₀ (F := F)) 𝒱 (c : Thread nD τ) bd) E (p >>= k) Q' := by
  rw [wp_bind]
  exact h.trans (wp_mono _ _ _ hk)

/-- The scores of tile `t`, everything held. -/
theorem score_held (q : FVec F S256x3072 .fp8e4m3) (t : ℕ) (A : Vec F S80x3072 .f32) {β : Type} {k : FVec F S256x256 .bf16 → PG F β} {Q' : β → sProp 𝕄G}
    (hk : Held c arg6 arg7 arg13 K V A ⊢ wp frame (wpE (defs₀ (F := F)) 𝒱 (c : Thread nD τ) bd) E (k (weights q t (keys K t))) Q') :
    Held c arg6 arg7 arg13 K V A ⊢ wp frame (wpE (defs₀ (F := F)) 𝒱 (c : Thread nD τ) bd) E (score arg6 q t >>= k) Q' := by
  refine then_run 𝒱 c bd E (Q := fun w => iprop(Held c arg6 arg7 arg13 K V A ∗ ⌜w = weights q t (keys K t)⌝)) ?_ ?_
  · iintro ⟨H6, H7, H13⟩
    ihave H := (score_run 𝒱 c bd E arg6 K q t) $$ H6
    iapply (wp_wand frame (wpE (defs₀ (F := F)) 𝒱 (c : Thread nD τ) bd) E) $$ H
    iintro %w ⟨H6, %hw⟩
    isplitl [H6 H7 H13]
    · isplitl [H6]; · iexact H6
      isplitl [H7] <;> iassumption
    ipureintro; exact hw
  · intro w
    iintro ⟨H, %hw⟩
    subst hw
    iapply hk $$ H

/-- Tile `t` added, everything held. -/
theorem accum_held (o : FVec F S16x256 .bf16) (q : FVec F S256x3072 .fp8e4m3) (t : ℕ) (A : Vec F S80x3072 .f32) :
    Held c arg6 arg7 arg13 K V A ⊢ wp frame (wpE (defs₀ (F := F)) 𝒱 (c : Thread nD τ) bd) E
      (accum arg7 arg13 o t (weights q t (keys K t)))
      (fun _ => Held c arg6 arg7 arg13 K V (step o q K V t A)) := by
  iintro ⟨H6, H7, H13⟩
  ihave H := (accum_run 𝒱 c bd E arg7 arg13 K V o q t A) $$ [H7 H13]
  · isplitl [H7] <;> iassumption
  iapply (wp_wand frame (wpE (defs₀ (F := F)) 𝒱 (c : Thread nD τ) bd) E) $$ H
  iintro %w ⟨H7, H13⟩
  isplitl [H6]; · iexact H6
  isplitl [H7] <;> iassumption

/-- A stretch of tiles from tile `t`, the accumulator at `steps … t 0`, and what follows it. -/
theorem run_held (o : FVec F S16x256 .bf16) (q : FVec F S256x3072 .fp8e4m3) (n t : ℕ) (A : Vec F S80x3072 .f32) {β : Type}
    {w : FVec F S256x256 .bf16 × FVec F S256x256 .bf16 × FVec F S256x256 .bf16}
    {k : FVec F S256x256 .bf16 × FVec F S256x256 .bf16 × FVec F S256x256 .bf16 → PG F β} {Q' : β → sProp 𝕄G}
    (hw : w = (weights q t (keys K t), weights q (t + 1) (keys K (t + 1)), weights q (t + 2) (keys K (t + 2))))
    (hk : ∀ w, w = (weights q (t + n) (keys K (t + n)), weights q (t + n + 1) (keys K (t + n + 1)), weights q (t + n + 2) (keys K (t + n + 2))) →
      (Held c arg6 arg7 arg13 K V (steps o q K V (t + n) 0 A) ⊢ wp frame (wpE (defs₀ (F := F)) 𝒱 (c : Thread nD τ) bd) E (k w) Q')) :
    Held c arg6 arg7 arg13 K V (steps o q K V t 0 A) ⊢ wp frame (wpE (defs₀ (F := F)) 𝒱 (c : Thread nD τ) bd) E
      (run arg6 arg7 arg13 o q n t w.1 w.2.1 w.2.2 >>= k) Q' := by
  subst hw
  refine then_run 𝒱 c bd E (run_run 𝒱 c bd E arg6 arg7 arg13 K V o q n t _) fun w => ?_
  have h := steps_add K V o q t n 0 A
  rw [Nat.zero_add] at h
  rw [h]
  iintro ⟨H, %hw⟩
  iapply (hk w hw) $$ H

/-- The last three tiles. -/
theorem last_held (o : FVec F S16x256 .bf16) (q : FVec F S256x3072 .fp8e4m3) (n n₀ n₁ n₂ n₃ : ℕ) (h₀ : n₀ = n) (h₁ : n₁ = n + 1) (h₂ : n₂ = n + 2) (h₃ : n₃ = n + 3) (A : Vec F S80x3072 .f32)
    {w : FVec F S256x256 .bf16 × FVec F S256x256 .bf16 × FVec F S256x256 .bf16}
    (hw : w = (weights q n (keys K n), weights q (n + 1) (keys K (n + 1)), weights q (n + 2) (keys K (n + 2)))) :
    Held c arg6 arg7 arg13 K V (steps o q K V n 0 A) ⊢ wp frame (wpE (defs₀ (F := F)) 𝒱 (c : Thread nD τ) bd) E
      (do
        accum arg7 arg13 o n₀ w.1
        accum arg7 arg13 o n₁ w.2.1
        accum arg7 arg13 o n₂ w.2.2 : PG F PUnit)
      (fun _ => Held c arg6 arg7 arg13 K V (steps o q K V n₃ 0 A)) := by
  subst hw h₀ h₁ h₂ h₃
  refine then_run 𝒱 c bd E (accum_held 𝒱 c bd E arg6 arg7 arg13 K V o _ n₀ _) fun _ => ?_
  refine then_run 𝒱 c bd E (accum_held 𝒱 c bd E arg6 arg7 arg13 K V o _ (n₀ + 1) _) fun _ => ?_
  rw [steps_three K V o q n₀ A]
  exact accum_held 𝒱 c bd E arg6 arg7 arg13 K V o _ (n₀ + 2) _

variable (arg5 : Memref sig .tc .vmem S1x1x3x256x1024 .fp8e4m3) (Q8 : Vec F S1x1x3x256x1024 .fp8e4m3)

/-- Head `g`'s block of queries. -/
abbrev head (g : Fin 3) : Vec F S1x1x1x256x1024 .fp8e4m3 :=
  VecWindow.window Q8 ![0, 0, g.val, 0, 0] S1x1x1x256x1024.size (by
    intro a
    have := g.isLt
    match a with
    | ⟨0, _⟩ => show 0 + 1 ≤ 1; omega
    | ⟨1, _⟩ => show 0 + 1 ≤ 1; omega
    | ⟨2, _⟩ => show g.val + 1 ≤ 3; omega
    | ⟨3, _⟩ => show 0 + 256 ≤ 256; omega
    | ⟨4, _⟩ => show 0 + 1024 ≤ 1024; omega)

/-- The three heads' queries side by side, as a vector. -/
def side : FVec F S256x3072 .fp8e4m3 :=
  concatenate S256x3072 1 [⟨S256x1024, shapeCast S256x1024 (head Q8 0) shapeCasts_S1x1x1x256x1024_S256x1024⟩, ⟨S256x1024, shapeCast S256x1024 (head Q8 1) shapeCasts_S1x1x1x256x1024_S256x1024⟩, ⟨S256x1024, shapeCast S256x1024 (head Q8 2) shapeCasts_S1x1x1x256x1024_S256x1024⟩] concatenates_S256x1024_S256x1024_S256x1024_S256x3072_d1

theorem queries_run :
    At c arg5 Q8 ⊢ wp frame (wpE (defs₀ (F := F)) 𝒱 (c : Thread nD τ) bd) E (queries arg5)
      (fun q => iprop(At c arg5 Q8 ∗ ⌜q = side Q8⌝)) := by
  unfold queries
  iintro H5
  sl_exec
  sl_step
  isplitl [H5]; · iexact H5
  ipureintro
  rw [View.readAt_rep_unit _ _ _ rfl inb_S1x1x3x256x1024_S1x1x1x256x1024_0_0_0_0_0, View.readAt_rep_unit _ _ _ rfl inb_S1x1x3x256x1024_S1x1x1x256x1024_0_0_1_0_0,
    View.readAt_rep_unit _ _ _ rfl inb_S1x1x3x256x1024_S1x1x1x256x1024_0_0_2_0_0]
  rfl

theorem steps_zero (o : FVec F S16x256 .bf16) (q : FVec F S256x3072 .fp8e4m3) (A : Vec F S80x3072 .f32) : steps o q K V 0 0 A = A := rfl

attribute [local irreducible] run steps weights keys accum score in
/-- THE BOUNDED PATH: all 384 tiles added to the accumulator. -/
theorem bounded_run (o : FVec F S16x256 .bf16) (A : Vec F S80x3072 .f32) :
    iprop(At c arg5 Q8 ∗ At c arg6 K ∗ At c arg7 V ∗ At c arg13 A) ⊢ wp frame (wpE (defs₀ (F := F)) 𝒱 (c : Thread nD τ) bd) E
      (bounded arg6 arg7 arg13 arg5 o)
      (fun _ => iprop(At c arg5 Q8 ∗ At c arg6 K ∗ At c arg7 V ∗ At c arg13 (steps o (side Q8) K V 384 0 A))) := by
  have tail : Held c arg6 arg7 arg13 K V A ⊢ wp frame (wpE (defs₀ (F := F)) 𝒱 (c : Thread nD τ) bd) E
      (do
        let w₀ ← score arg6 (side Q8) 0
        let w₁ ← score arg6 (side Q8) 1
        let w₂ ← score arg6 (side Q8) 2
        let w ← run arg6 arg7 arg13 o (side Q8) 78 0 w₀ w₁ w₂
        let w ← run arg6 arg7 arg13 o (side Q8) 80 78 w.1 w.2.1 w.2.2
        let w ← run arg6 arg7 arg13 o (side Q8) 80 158 w.1 w.2.1 w.2.2
        let w ← run arg6 arg7 arg13 o (side Q8) 80 238 w.1 w.2.1 w.2.2
        let w ← run arg6 arg7 arg13 o (side Q8) 63 318 w.1 w.2.1 w.2.2
        accum arg7 arg13 o 381 w.1
        accum arg7 arg13 o 382 w.2.1
        accum arg7 arg13 o 383 w.2.2 : PG F PUnit)
      (fun _ => Held c arg6 arg7 arg13 K V (steps o (side Q8) K V 384 0 A)) := by
    refine score_held 𝒱 c bd E arg6 arg7 arg13 K V _ 0 A (score_held 𝒱 c bd E arg6 arg7 arg13 K V _ 1 A (score_held 𝒱 c bd E arg6 arg7 arg13 K V _ 2 A ?_))
    refine (Entails.of_eq (by rw [steps_zero K V o (side Q8) A])).trans (?_ : Held c arg6 arg7 arg13 K V (steps o (side Q8) K V 0 0 A) ⊢ _)
    refine run_held 𝒱 c bd E arg6 arg7 arg13 K V o (side Q8) 78 0 A (w := (weights (side Q8) 0 (keys K 0), weights (side Q8) 1 (keys K 1), weights (side Q8) 2 (keys K 2))) rfl fun w hw => ?_
    refine run_held 𝒱 c bd E arg6 arg7 arg13 K V o _ 80 78 A hw fun w hw => ?_
    refine run_held 𝒱 c bd E arg6 arg7 arg13 K V o _ 80 158 A hw fun w hw => ?_
    refine run_held 𝒱 c bd E arg6 arg7 arg13 K V o _ 80 238 A hw fun w hw => ?_
    refine run_held 𝒱 c bd E arg6 arg7 arg13 K V o _ 63 318 A hw fun w hw => ?_
    exact last_held 𝒱 c bd E arg6 arg7 arg13 K V o (side Q8) (318 + 63) 381 382 383 384 rfl rfl rfl rfl A hw
  unfold bounded
  iintro ⟨H5, H6, H7, H13⟩
  rw [wp_bind]
  ihave H := (queries_run 𝒱 c bd E arg5 Q8) $$ H5
  iapply (wp_wand frame (wpE (defs₀ (F := F)) 𝒱 (c : Thread nD τ) bd) E) $$ H
  iintro %q ⟨H5, %hq⟩
  subst hq
  ihave H := tail $$ [H6 H7 H13]
  · isplitl [H6]; · iexact H6
    isplitl [H7] <;> iassumption
  iapply (wp_wand frame (wpE (defs₀ (F := F)) 𝒱 (c : Thread nD τ) bd) E) $$ H
  iintro %_ H
  isplitl [H5]; · iexact H5
  iexact H

end Cert.KernelIdeal.Tiles
-- ==== Proof.Whole.lean ====
/-
  The attention kernel at one grid point: it reads the queries and the norms, picks the bounded or the general path by
  the norms, and stores the accumulator's first 64 rows over its 65th, one head at a time. Here that is stated of
  vectors: the staging buffers held at the blocks of the arguments, the result block a function of them.
-/
module

public import proofs.«01_k».proof.Proof.General

@[expose] public section

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- Whether the norms allow the bounded path. -/
def fits (v19 v25 : F .f32) (v26 : Vec F S1x1x1x8192 .f32) : BitVec 1 :=
  have cst_27 : F .f32 := Scalar.ofBits .f32 0x45100000#32
  let v33 : BitVec 1 := Scalar.cmpf .ole (k0_pay981 v19 v25) cst_27
  have cst_28 : F .f32 := Scalar.ofBits .f32 0x53800000#32
  let v34 : BitVec 1 := Scalar.cmpf .ole (k0_pay980 v26) cst_28
  let v35 : BitVec 1 := Scalar.andi v33 v34
  have cst_29 : F .f32 := Scalar.ofBits .f32 0x441C4000#32
  let v36 : BitVec 1 := Scalar.cmpf .ole v19 cst_29
  have cst_30 : F .f32 := Scalar.ofBits .f32 0x481C4000#32
  let v37 : BitVec 1 := Scalar.cmpf .ole v25 cst_30
  let v38 : BitVec 1 := Scalar.andi v36 v37
  let v39 : BitVec 1 := Scalar.andi v35 v38
  let v40 : BitVec 32 := Scalar.extui v39
  let v41 : BitVec 1 := Scalar.cmpi .ne v40 0#32
  v41

variable (i : grid0.Coords) (arg3 : Memref sig .tc .vmem S1x1x3x64x1024 .bf16) (harg3 : arg3.IsWhole) (arg4 : Memref sig .tc .vmem S1x1x8192x64 .bf16) (harg4 : arg4.IsWhole) (arg5 : Memref sig .tc .vmem S1x1x3x256x1024 .fp8e4m3) (harg5 : arg5.IsWhole) (arg6 : Memref sig .tc .vmem S1x1x8192x256 .fp8e4m3) (harg6 : arg6.IsWhole) (arg7 : Memref sig .tc .vmem S1x1x32x64x256 .bf16) (harg7 : arg7.IsWhole) (arg8 : Memref sig .tc .vmem S1x1x2x8192 .f32) (harg8 : arg8.IsWhole) (arg9 : Memref sig .tc .vmem S1x1x3x64x1024 .bf16) (harg9 : arg9.IsWhole) (arg10 : Memref sig .tc .vmem S2x256x3072 .f32) (harg10 : arg10.IsWhole) (arg11 : Memref sig .tc .vmem S2x1x3072 .f32) (harg11 : arg11.IsWhole) (arg12 : Memref sig .tc .vmem S1x3072 .f32) (harg12 : arg12.IsWhole) (arg13 : Memref sig .tc .vmem S80x3072 .f32) (harg13 : arg13.IsWhole)

/-- The first chunk's scores, before the loop. -/
def ahead (v6 : FVec F S64x3072 .bf16) : PG F PUnit := do
  let _v63 : Vec F S1x3072 .f32 ← Prog.lift (.load arg12 (Rect.unit (s := S1x3072) ![0, 0] S1x3072.size inb_S1x3072_S1x3072_0_0).toLoadRect (View.loadsAt_vmem h_S1x3072))
  Prog.lift (.store arg12 (Rect.unit (s := S1x3072) ![0, 0] S1x3072.size inb_S1x3072_S1x3072_0_0) (k0_pay983 (F := F)) Finset.univ (View.stores_vmem_bits_univ h_S1x3072 rfl) (.inl rfl))
  let v68 : Vec F S1x1x256x64 .bf16 ← Prog.lift (.load arg4 (Rect.unit (s := S1x1x8192x64) ![0, 0, 0, 0] S1x1x256x64.size inb_S1x1x8192x64_S1x1x256x64_0_0_0_0).toLoadRect (View.loadsAt_vmem h_S1x1x256x64))
  let _v71 : Vec F S1x256x3072 .f32 ← Prog.lift (.load arg10 (Rect.unit (s := S2x256x3072) ![0, 0, 0] S1x256x3072.size inb_S2x256x3072_S1x256x3072_0_0_0).toLoadRect (View.loadsAt_vmem h_S1x256x3072))
  Prog.lift (.store arg10 (Rect.unit (s := S2x256x3072) ![0, 0, 0] S1x256x3072.size inb_S2x256x3072_S1x256x3072_0_0_0) (k0_pay985 v6 v68) Finset.univ (View.stores_vmem_bits_univ h_S1x256x3072 rfl) (.inl rfl))
  let _v76 : Vec F S1x1x3072 .f32 ← Prog.lift (.load arg11 (Rect.unit (s := S2x1x3072) ![0, 0, 0] S1x1x3072.size inb_S2x1x3072_S1x1x3072_0_0_0).toLoadRect (View.loadsAt_vmem h_S1x1x3072))
  Prog.lift (.store arg11 (Rect.unit (s := S2x1x3072) ![0, 0, 0] S1x1x3072.size inb_S2x1x3072_S1x1x3072_0_0_0) (k0_pay986 v6 v68) Finset.univ (View.stores_vmem_bits_univ h_S1x1x3072 rfl) (.inl rfl))

/-- The general path. -/
def general (v6 : FVec F S64x3072 .bf16) (v7 : FVec F S16x256 .bf16) (v19 v25 : F .f32) : PG F PUnit := do
  ahead arg4 arg10 arg11 arg12 v6
  Scf.Loop.for k0_t1_loop k0_t1_ok ⟨⟩ (k0_t1_body i arg3 harg3 arg4 harg4 arg5 harg5 arg6 harg6 arg7 harg7 arg8 harg8 arg9 harg9 arg10 harg10 arg11 harg11 arg12 harg12 arg13 harg13 v6 v7 v19 v25)
  pure ⟨⟩

/-- The end of the kernel: the accumulator's rows divided, two heads stored, the third handed on. -/
def emit : PG F (Σ' (_ : FVec F S64x1024 .bf16), Vec F S1x1x1x64x1024 .bf16) := do
  let v42 : Vec F S80x3072 .f32 ← Prog.lift (.load arg13 (Rect.unit (s := S80x3072) ![0, 0] S80x3072.size inb_S80x3072_S80x3072_0_0).toLoadRect (View.loadsAt_vmem h_S80x3072))
  let _v49 : Vec F S1x1x1x64x1024 .bf16 ← Prog.lift (.load arg9 (Rect.unit (s := S1x1x3x64x1024) ![0, 0, 0, 0, 0] S1x1x1x64x1024.size inb_S1x1x3x64x1024_S1x1x1x64x1024_0_0_0_0_0).toLoadRect (View.loadsAt_vmem h_S1x1x1x64x1024))
  Prog.lift (.store arg9 (Rect.unit (s := S1x1x3x64x1024) ![0, 0, 0, 0, 0] S1x1x1x64x1024.size inb_S1x1x3x64x1024_S1x1x1x64x1024_0_0_0_0_0) (k0_pay991 v42) Finset.univ (View.stores_vmem h_S1x1x1x64x1024 (harg9.storeExact_slice rfl _ packedbf16_S1x1x3x64x1024_S1x1x1x64x1024_0_0_0_0_0) (fun _ => rfl)) (.inl rfl))
  let _v54 : Vec F S1x1x1x64x1024 .bf16 ← Prog.lift (.load arg9 (Rect.unit (s := S1x1x3x64x1024) ![0, 0, 1, 0, 0] S1x1x1x64x1024.size inb_S1x1x3x64x1024_S1x1x1x64x1024_0_0_1_0_0).toLoadRect (View.loadsAt_vmem h_S1x1x1x64x1024))
  Prog.lift (.store arg9 (Rect.unit (s := S1x1x3x64x1024) ![0, 0, 1, 0, 0] S1x1x1x64x1024.size inb_S1x1x3x64x1024_S1x1x1x64x1024_0_0_1_0_0) (k0_pay992 v42) Finset.univ (View.stores_vmem h_S1x1x1x64x1024 (harg9.storeExact_slice rfl _ packedbf16_S1x1x3x64x1024_S1x1x1x64x1024_0_0_1_0_0) (fun _ => rfl)) (.inl rfl))
  let v59 : Vec F S1x1x1x64x1024 .bf16 ← Prog.lift (.load arg9 (Rect.unit (s := S1x1x3x64x1024) ![0, 0, 2, 0, 0] S1x1x1x64x1024.size inb_S1x1x3x64x1024_S1x1x1x64x1024_0_0_2_0_0).toLoadRect (View.loadsAt_vmem h_S1x1x1x64x1024))
  pure ⟨k0_pay993 v42, v59⟩

/-- The second half of the kernel, its two paths named. -/
theorem part297_eq (v6 : FVec F S64x3072 .bf16) (v7 : FVec F S16x256 .bf16) (v19 v25 : F .f32) :
    k0_part297 i arg3 harg3 arg4 harg4 arg5 harg5 arg6 harg6 arg7 harg7 arg8 harg8 arg9 harg9 arg10 harg10 arg11 harg11 arg12 harg12 arg13 harg13 v6 v7 v19 v25 = (do
      let v26 : Vec F S1x1x1x8192 .f32 ← Prog.lift (.load arg8 (Rect.unit (s := S1x1x2x8192) ![0, 0, 1, 0] S1x1x1x8192.size inb_S1x1x2x8192_S1x1x1x8192_0_0_1_0).toLoadRect (View.loadsAt_vmem h_S1x1x1x8192))
      let _ ← (if fits v19 v25 v26 = 1#1 then bounded arg6 arg7 arg13 arg5 v7 else general i arg3 harg3 arg4 harg4 arg5 harg5 arg6 harg6 arg7 harg7 arg8 harg8 arg9 harg9 arg10 harg10 arg11 harg11 arg12 harg12 arg13 harg13 v6 v7 v19 v25)
      emit arg9 harg9 arg13) := by
  rw [k0_part297_eq_skeleton]
  unfold k0_part297_skel
  refine congrArg (bind _) (funext fun v26 => ?_)
  by_cases h : fits v19 v25 v26 = 1#1
  · rw [if_pos h, ← branch_eq i arg3 harg3 arg4 harg4 arg5 harg5 arg6 harg6 arg7 harg7 arg8 harg8 arg9 harg9 arg10 harg10 arg11 harg11 arg12 harg12 arg13 harg13 v7]
    unfold fits at h
    simp only [if_pos h, bind_assoc, pure_bind]
    rfl
  · rw [if_neg h]
    unfold fits at h
    simp only [if_neg h, bind_assoc, pure_bind]
    unfold general ahead
    simp only [bind_assoc, pure_bind]
    rfl

variable (𝒱 : Variants) (c : Dev nD) (bd : Option 𝒱.V) (E : Set ℕ)
  (K : Vec F S1x1x8192x64 .bf16) (V : Vec F S1x1x32x64x256 .bf16)

theorem ahead_run (v6 : FVec F S64x3072 .bf16) (X10 : Vec F S2x256x3072 .f32) (X11 : Vec F S2x1x3072 .f32) (X12 : Vec F S1x3072 .f32) :
    iprop(At c arg4 K ∗ At c arg10 X10 ∗ At c arg11 X11 ∗ At c arg12 X12) ⊢ wp frame (wpE (defs₀ (F := F)) 𝒱 (c : Thread nD τ) bd) E
      (ahead arg4 arg10 arg11 arg12 v6)
      (fun _ => iprop(At c arg4 K ∗ Ahead c arg10 arg11 K v6 0 ∗ At c arg12 (k0_pay983 (F := F)))) := by
  unfold ahead
  iintro ⟨H4, H10, H11, H12⟩
  sl_exec
  sl_step
  have hz : (![0, 0, 0, 0] : Fin 4 → ℕ) = ![0, 0, 256 * min 0 31, 0] := by decide
  rw [View.readAt_rep_unit (s := S1x1x8192x64) _ _ _ hz (inb_rows 0)]
  isplitl [H4]; · iexact H4
  isplitl [H10 H11]
  · isplitl [H10]
    · iapply (slot_at c arg10 _ _ _) $$ H10
    · iapply (slot_at c arg11 _ _ _) $$ H11
  iapply (at_of_read c arg12 ?_) $$ H12
  rw [View.read_writes_full]

/-- The loop: 16 trips, two steps each. -/
theorem loop_run (v6 : FVec F S64x3072 .bf16) (v7 : FVec F S16x256 .bf16) (v19 v25 : F .f32) (s : Vec F S1x3072 .f32 × Vec F S80x3072 .f32) :
    Mid c arg4 arg7 arg10 arg11 arg12 arg13 K V v6 0 s ⊢ wp frame (wpE (defs₀ (F := F)) 𝒱 (c : Thread nD τ) bd) E
      (Scf.Loop.for k0_t1_loop k0_t1_ok ⟨⟩ (k0_t1_body i arg3 harg3 arg4 harg4 arg5 harg5 arg6 harg6 arg7 harg7 arg8 harg8 arg9 harg9 arg10 harg10 arg11 harg11 arg12 harg12 arg13 harg13 v6 v7 v19 v25))
      (fun _ => Mid c arg4 arg7 arg10 arg11 arg12 arg13 K V v6 32 (after v7 v6 K V s 32)) := by
  have htr : k0_t1_loop.trips = 16 := by decide +kernel
  refine BIBase.Entails.trans ?_ (Scf.wp_for frame (wpE (defs₀ (F := F)) 𝒱 (c : Thread nD τ) bd) E k0_t1_loop.lb k0_t1_loop.ub k0_t1_loop.st k0_t1_ok PUnit.unit
    (k0_t1_body i arg3 harg3 arg4 harg4 arg5 harg5 arg6 harg6 arg7 harg7 arg8 harg8 arg9 harg9 arg10 harg10 arg11 harg11 arg12 harg12 arg13 harg13 v6 v7 v19 v25)
    (fun k _ => Mid c arg4 arg7 arg10 arg11 arg12 arg13 K V v6 (2 * k) (after v7 v6 K V s (2 * k)))
    (fun k _ => trip_run 𝒱 c bd E i arg3 harg3 arg4 harg4 arg5 harg5 arg6 harg6 arg7 harg7 arg8 harg8 arg9 harg9 arg10 harg10 arg11 harg11 arg12 harg12 arg13 harg13 K V v6 v7 v19 v25 k _))
  iintro H
  isplitl [H]; · iexact H
  iintro %_ H
  have e : Scf.trips k0_t1_loop.lb k0_t1_loop.ub k0_t1_loop.st = 16 := htr
  rw [e]
  iexact H

/-- THE GENERAL PATH: 32 steps of the recurrence. -/
theorem general_run (v6 : FVec F S64x3072 .bf16) (v7 : FVec F S16x256 .bf16) (v19 v25 : F .f32) (X10 : Vec F S2x256x3072 .f32) (X11 : Vec F S2x1x3072 .f32)
    (X12 : Vec F S1x3072 .f32) (A : Vec F S80x3072 .f32) :
    iprop(At c arg4 K ∗ At c arg7 V ∗ At c arg10 X10 ∗ At c arg11 X11 ∗ At c arg12 X12 ∗ At c arg13 A) ⊢
      wp frame (wpE (defs₀ (F := F)) 𝒱 (c : Thread nD τ) bd) E (general i arg3 harg3 arg4 harg4 arg5 harg5 arg6 harg6 arg7 harg7 arg8 harg8 arg9 harg9 arg10 harg10 arg11 harg11 arg12 harg12 arg13 harg13 v6 v7 v19 v25)
      (fun _ => iprop(At c arg4 K ∗ At c arg7 V ∗ (∃ X, At c arg10 X) ∗ (∃ X, At c arg11 X) ∗ (∃ X, At c arg12 X)
        ∗ At c arg13 (after v7 v6 K V (k0_pay983, A) 32).2)) := by
  unfold general
  rw [wp_bind]
  iintro ⟨H4, H7, H10, H11, H12, H13⟩
  ihave H := (ahead_run arg4 arg10 arg11 arg12 𝒱 c bd E K v6 X10 X11 X12) $$ [H4 H10 H11 H12]
  · isplitl [H4]; · iexact H4
    isplitl [H10]; · iexact H10
    isplitl [H11] <;> iassumption
  iapply (wp_wand frame (wpE (defs₀ (F := F)) 𝒱 (c : Thread nD τ) bd) E) $$ H
  iintro %_ ⟨H4, HA, H12⟩
  rw [wp_bind]
  ihave H := (loop_run i arg3 harg3 arg4 harg4 arg5 harg5 arg6 harg6 arg7 harg7 arg8 harg8 arg9 harg9 arg10 harg10 arg11 harg11 arg12 harg12 arg13 harg13 𝒱 c bd E K V v6 v7 v19 v25 (k0_pay983, A)) $$ [H4 H7 HA H12 H13]
  · isplitl [H4]; · iexact H4
    isplitl [H7]; · iexact H7
    isplitl [HA]; · iexact HA
    isplitl [H12] <;> iassumption
  iapply (wp_wand frame (wpE (defs₀ (F := F)) 𝒱 (c : Thread nD τ) bd) E) $$ H
  iintro %_ ⟨H4, H7, ⟨⟨%X10', H10, %_⟩, ⟨%X11', H11, %_⟩⟩, H12, H13⟩
  iapply (le_wp_ret frame (wpE (defs₀ (F := F)) 𝒱 (c : Thread nD τ) bd) E _ _)
  isplitl [H4]; · iexact H4
  isplitl [H7]; · iexact H7
  isplitl [H10]; · iexists X10'; iexact H10
  isplitl [H11]; · iexists X11'; iexact H11
  isplitl [H12]; · iexists _; iexact H12
  iexact H13

end Cert.KernelIdeal.Tiles
-- ==== Proof.Point.lean ====
/-
  One grid point of the attention kernel, whole: its staging buffers and scratch before and after.
-/
module

public import proofs.«01_k».proof.Proof.Whole

@[expose] public section

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- Head `g` of a block of queries or results. -/
abbrev headOf {e : EltTy} (Q : Vec F S1x1x3x64x1024 e) (g : ℕ) (h : ∀ a, (![0, 0, g, 0, 0] : Fin 5 → ℕ) a + S1x1x1x64x1024.size a ≤ S1x1x3x64x1024.size a) :
    Vec F S1x1x1x64x1024 e := VecWindow.window Q ![0, 0, g, 0, 0] S1x1x1x64x1024.size h

/-- The three heads' queries side by side. -/
def qcat (Q : Vec F S1x1x3x64x1024 .bf16) : FVec F S64x3072 .bf16 := k0_pay975 (headOf Q 0 inb_S1x1x3x64x1024_S1x1x1x64x1024_0_0_0_0_0) (headOf Q 1 inb_S1x1x3x64x1024_S1x1x1x64x1024_0_0_1_0_0) (headOf Q 2 inb_S1x1x3x64x1024_S1x1x1x64x1024_0_0_2_0_0)
/-- The largest squared norm of a query. -/
def qnorm (Q : Vec F S1x1x3x64x1024 .bf16) : F .f32 := k0_pay978 (headOf Q 0 inb_S1x1x3x64x1024_S1x1x1x64x1024_0_0_0_0_0) (headOf Q 1 inb_S1x1x3x64x1024_S1x1x1x64x1024_0_0_1_0_0) (headOf Q 2 inb_S1x1x3x64x1024_S1x1x1x64x1024_0_0_2_0_0)
/-- The largest squared norm of a key. -/
def knorm (N : Vec F S1x1x2x8192 .f32) : F .f32 := k0_pay979 (VecWindow.window N ![0, 0, 0, 0] S1x1x1x8192.size inb_S1x1x2x8192_S1x1x1x8192_0_0_0_0)
/-- The row of group norms. -/
def gnorm (N : Vec F S1x1x2x8192 .f32) : Vec F S1x1x1x8192 .f32 := VecWindow.window N ![0, 0, 1, 0] S1x1x1x8192.size inb_S1x1x2x8192_S1x1x1x8192_0_0_1_0

variable (Q : Vec F S1x1x3x64x1024 .bf16) (K : Vec F S1x1x8192x64 .bf16) (Q8 : Vec F S1x1x3x256x1024 .fp8e4m3) (K8 : Vec F S1x1x8192x256 .fp8e4m3)
  (V : Vec F S1x1x32x64x256 .bf16) (N : Vec F S1x1x2x8192 .f32)

/-- THE ACCUMULATOR when every key has been taken. -/
def total : Vec F S80x3072 .f32 :=
  if fits (qnorm Q) (knorm N) (gnorm N) = 1#1 then steps k0_pay976 (side Q8) K8 V 384 0 k0_pay977
  else (after k0_pay976 (qcat Q) K V (k0_pay983, k0_pay977) 32).2

/-- The three heads stored over `X`. -/
def stored (X : Vec F S1x1x3x64x1024 .bf16) (A : Vec F S80x3072 .f32) : Vec F S1x1x3x64x1024 .bf16 :=
  VecWindow.put (VecWindow.put (VecWindow.put X ![0, 0, 0, 0, 0] S1x1x1x64x1024.size (k0_pay991 A)) ![0, 0, 1, 0, 0] S1x1x1x64x1024.size (k0_pay992 A))
    ![0, 0, 2, 0, 0] S1x1x1x64x1024.size (shapeCast S1x1x1x64x1024 (k0_pay993 A) shapeCasts_S64x1024_S1x1x1x64x1024)

/-- The three stores cover the block. -/
theorem stored_any (X X' : Vec F S1x1x3x64x1024 .bf16) (A : Vec F S80x3072 .f32) : stored X A = stored X' A := by
  funext y
  unfold stored VecWindow.put
  split
  · rfl
  · split
    · rfl
    · split
      · rfl
      · rename_i h2 h1 h0
        exfalso
        have a0 : (y 0).val < 1 := (y 0).isLt
        have a1 : (y 1).val < 1 := (y 1).isLt
        have a2 : (y 2).val < 3 := (y 2).isLt
        have a3 : (y 3).val < 64 := (y 3).isLt
        have a4 : (y 4).val < 1024 := (y 4).isLt
        have key : ∀ g : ℕ, (y 2).val = g → ∀ a, (![0, 0, g, 0, 0] : Fin 5 → ℕ) a ≤ (y a).val ∧ (y a).val < (![0, 0, g, 0, 0] : Fin 5 → ℕ) a + S1x1x1x64x1024.size a := by
          intro g hg a
          match a with
          | ⟨0, _⟩ => exact ⟨Nat.zero_le _, by show (y 0).val < 0 + 1; omega⟩
          | ⟨1, _⟩ => exact ⟨Nat.zero_le _, by show (y 1).val < 0 + 1; omega⟩
          | ⟨2, _⟩ => exact ⟨by show g ≤ (y 2).val; omega, by show (y 2).val < g + 1; omega⟩
          | ⟨3, _⟩ => exact ⟨Nat.zero_le _, by show (y 3).val < 0 + 64; omega⟩
          | ⟨4, _⟩ => exact ⟨Nat.zero_le _, by show (y 4).val < 0 + 1024; omega⟩
        rcases (by omega : (y 2).val = 0 ∨ (y 2).val = 1 ∨ (y 2).val = 2) with h | h | h
        · exact h0 (key 0 h)
        · exact h1 (key 1 h)
        · exact h2 (key 2 h)

/-- THE RESULT BLOCK. -/
def result : Vec F S1x1x3x64x1024 .bf16 := stored Q (total Q K Q8 K8 V N)

variable (𝒱 : Variants) (c : Dev nD) (bd : Option 𝒱.V) (E : Set ℕ)
variable (i : grid0.Coords) (arg3 : Memref sig .tc .vmem S1x1x3x64x1024 .bf16) (harg3 : arg3.IsWhole) (arg4 : Memref sig .tc .vmem S1x1x8192x64 .bf16) (harg4 : arg4.IsWhole) (arg5 : Memref sig .tc .vmem S1x1x3x256x1024 .fp8e4m3) (harg5 : arg5.IsWhole) (arg6 : Memref sig .tc .vmem S1x1x8192x256 .fp8e4m3) (harg6 : arg6.IsWhole) (arg7 : Memref sig .tc .vmem S1x1x32x64x256 .bf16) (harg7 : arg7.IsWhole) (arg8 : Memref sig .tc .vmem S1x1x2x8192 .f32) (harg8 : arg8.IsWhole) (arg9 : Memref sig .tc .vmem S1x1x3x64x1024 .bf16) (harg9 : arg9.IsWhole) (arg10 : Memref sig .tc .vmem S2x256x3072 .f32) (harg10 : arg10.IsWhole) (arg11 : Memref sig .tc .vmem S2x1x3072 .f32) (harg11 : arg11.IsWhole) (arg12 : Memref sig .tc .vmem S1x3072 .f32) (harg12 : arg12.IsWhole) (arg13 : Memref sig .tc .vmem S80x3072 .f32) (harg13 : arg13.IsWhole)

theorem prepare_run (A : Vec F S80x3072 .f32) :
    iprop(At c arg3 Q ∗ At c arg8 N ∗ At c arg13 A) ⊢ wp frame (wpE (defs₀ (F := F)) 𝒱 (c : Thread nD τ) bd) E
      (k0_part296 i arg3 harg3 arg4 harg4 arg5 harg5 arg6 harg6 arg7 harg7 arg8 harg8 arg9 harg9 arg10 harg10 arg11 harg11 arg12 harg12 arg13 harg13)
      (fun r => iprop(At c arg3 Q ∗ At c arg8 N ∗ At c arg13 (k0_pay977 (F := F)) ∗ ⌜r = ⟨qcat Q, k0_pay976, qnorm Q, knorm N⟩⌝)) := by
  rw [k0_part296_eq_skeleton]
  unfold k0_part296_skel
  iintro ⟨H3, H8, H13⟩
  sl_exec
  sl_step
  isplitl [H3]; · iexact H3
  isplitl [H8]; · iexact H8
  isplitl [H13]
  · iapply (at_of_read c arg13 ?_) $$ H13
    rw [View.read_writes_full]
  ipureintro
  rw [View.readAt_rep_unit (s := S1x1x3x64x1024) _ _ _ rfl inb_S1x1x3x64x1024_S1x1x1x64x1024_0_0_0_0_0, View.readAt_rep_unit (s := S1x1x3x64x1024) _ _ _ rfl inb_S1x1x3x64x1024_S1x1x1x64x1024_0_0_1_0_0, View.readAt_rep_unit (s := S1x1x3x64x1024) _ _ _ rfl inb_S1x1x3x64x1024_S1x1x1x64x1024_0_0_2_0_0,
    View.readAt_rep_unit (s := S1x1x2x8192) _ _ _ rfl inb_S1x1x2x8192_S1x1x1x8192_0_0_0_0]
  rfl

theorem emit_run (X : Vec F S1x1x3x64x1024 .bf16) (A : Vec F S80x3072 .f32) :
    iprop(At c arg9 X ∗ At c arg13 A) ⊢ wp frame (wpE (defs₀ (F := F)) 𝒱 (c : Thread nD τ) bd) E (emit arg9 harg9 arg13)
      (fun r => iprop(At c arg9 (VecWindow.put (VecWindow.put X ![0, 0, 0, 0, 0] S1x1x1x64x1024.size (k0_pay991 A)) ![0, 0, 1, 0, 0] S1x1x1x64x1024.size (k0_pay992 A))
        ∗ At c arg13 A ∗ ⌜r.1 = k0_pay993 A⌝)) := by
  unfold emit
  iintro ⟨H9, H13⟩
  sl_exec
  sl_step
  isplitl [H9]
  · iapply (at_of_read c arg9 ?_) $$ H9
    rw [View.read_writes_cons_put _ _ _ _ _ rfl, View.read_writes_rep_unit _ _ _ _ rfl, View.readAt_rep_full]
  isplitl [H13]; · iexact H13
  ipureintro
  rw [View.readAt_rep_full]

/-- The path the norms choose. -/
theorem choose_run (X10 : Vec F S2x256x3072 .f32) (X11 : Vec F S2x1x3072 .f32) (X12 : Vec F S1x3072 .f32) :
    iprop(At c arg4 K ∗ At c arg5 Q8 ∗ At c arg6 K8 ∗ At c arg7 V ∗ At c arg10 X10 ∗ At c arg11 X11 ∗ At c arg12 X12 ∗ At c arg13 (k0_pay977 (F := F)))
      ⊢ wp frame (wpE (defs₀ (F := F)) 𝒱 (c : Thread nD τ) bd) E
      (if fits (qnorm Q) (knorm N) (gnorm N) = 1#1 then bounded arg6 arg7 arg13 arg5 k0_pay976 else general i arg3 harg3 arg4 harg4 arg5 harg5 arg6 harg6 arg7 harg7 arg8 harg8 arg9 harg9 arg10 harg10 arg11 harg11 arg12 harg12 arg13 harg13 (qcat Q) k0_pay976 (qnorm Q) (knorm N))
      (fun _ => iprop(At c arg4 K ∗ At c arg5 Q8 ∗ At c arg6 K8 ∗ At c arg7 V ∗ (∃ X, At c arg10 X) ∗ (∃ X, At c arg11 X) ∗ (∃ X, At c arg12 X)
        ∗ At c arg13 (total Q K Q8 K8 V N))) := by
  iintro ⟨H4, H5, H6, H7, H10, H11, H12, H13⟩
  unfold total
  by_cases h : fits (qnorm Q) (knorm N) (gnorm N) = 1#1
  · rw [if_pos h, if_pos h]
    ihave H := (bounded_run 𝒱 c bd E arg6 arg7 arg13 K8 V arg5 Q8 k0_pay976 k0_pay977) $$ [H5 H6 H7 H13]
    · isplitl [H5]; · iexact H5
      isplitl [H6]; · iexact H6
      isplitl [H7] <;> iassumption
    iapply (wp_wand frame (wpE (defs₀ (F := F)) 𝒱 (c : Thread nD τ) bd) E) $$ H
    iintro %_ ⟨H5, H6, H7, H13⟩
    isplitl [H4]; · iexact H4
    isplitl [H5]; · iexact H5
    isplitl [H6]; · iexact H6
    isplitl [H7]; · iexact H7
    isplitl [H10]; · iexists X10; iexact H10
    isplitl [H11]; · iexists X11; iexact H11
    isplitl [H12]; · iexists X12; iexact H12
    iexact H13
  · rw [if_neg h, if_neg h]
    ihave H := (general_run i arg3 harg3 arg4 harg4 arg5 harg5 arg6 harg6 arg7 harg7 arg8 harg8 arg9 harg9 arg10 harg10 arg11 harg11 arg12 harg12 arg13 harg13 𝒱 c bd E K V (qcat Q) k0_pay976 (qnorm Q) (knorm N) X10 X11 X12 k0_pay977) $$ [H4 H7 H10 H11 H12 H13]
    · isplitl [H4]; · iexact H4
      isplitl [H7]; · iexact H7
      isplitl [H10]; · iexact H10
      isplitl [H11]; · iexact H11
      isplitl [H12] <;> iassumption
    iapply (wp_wand frame (wpE (defs₀ (F := F)) 𝒱 (c : Thread nD τ) bd) E) $$ H
    iintro %_ ⟨H4, H7, H10, H11, H12, H13⟩
    isplitl [H4]; · iexact H4
    isplitl [H5]; · iexact H5
    isplitl [H6]; · iexact H6
    isplitl [H7]; · iexact H7
    isplitl [H10]; · iexact H10
    isplitl [H11]; · iexact H11
    isplitl [H12]; · iexact H12
    iexact H13

/-- The row of group norms, loaded. -/
theorem norms_run :
    At c arg8 N ⊢ wp frame (wpE (defs₀ (F := F)) 𝒱 (c : Thread nD τ) bd) E
      (Prog.lift (.load arg8 (Rect.unit (s := S1x1x2x8192) ![0, 0, 1, 0] S1x1x1x8192.size inb_S1x1x2x8192_S1x1x1x8192_0_0_1_0).toLoadRect (View.loadsAt_vmem h_S1x1x1x8192)) : PG F (Vec F S1x1x1x8192 .f32))
      (fun v => iprop(At c arg8 N ∗ ⌜v = gnorm N⌝)) := by
  iintro H8
  unfold Prog.lift
  sl_step
  sl_step
  isplitl [H8]; · iexact H8
  ipureintro
  rw [View.readAt_rep_unit (s := S1x1x2x8192) _ _ _ rfl inb_S1x1x2x8192_S1x1x1x8192_0_0_1_0]
  rfl

/-- ONE GRID POINT. -/
theorem point_run (X9 : Vec F S1x1x3x64x1024 .bf16) (X10 : Vec F S2x256x3072 .f32) (X11 : Vec F S2x1x3072 .f32) (X12 : Vec F S1x3072 .f32) (X13 : Vec F S80x3072 .f32) :
    iprop(At c arg3 Q ∗ At c arg4 K ∗ At c arg5 Q8 ∗ At c arg6 K8 ∗ At c arg7 V ∗ At c arg8 N ∗ At c arg9 X9 ∗ At c arg10 X10 ∗ At c arg11 X11 ∗ At c arg12 X12 ∗ At c arg13 X13)
      ⊢ wp frame (wpE (defs₀ (F := F)) 𝒱 (c : Thread nD τ) bd) E (cc0_attn i arg3 harg3 arg4 harg4 arg5 harg5 arg6 harg6 arg7 harg7 arg8 harg8 arg9 harg9 arg10 harg10 arg11 harg11 arg12 harg12 arg13 harg13)
      (fun _ => iprop(At c arg3 Q ∗ At c arg4 K ∗ At c arg5 Q8 ∗ At c arg6 K8 ∗ At c arg7 V ∗ At c arg8 N ∗ At c arg9 (result Q K Q8 K8 V N)
        ∗ (∃ X, At c arg10 X) ∗ (∃ X, At c arg11 X) ∗ (∃ X, At c arg12 X) ∗ (∃ X, At c arg13 X))) := by
  unfold cc0_attn
  rw [wp_bind]
  iintro ⟨H3, H4, H5, H6, H7, H8, H9, H10, H11, H12, H13⟩
  ihave H := (prepare_run Q N 𝒱 c bd E i arg3 harg3 arg4 harg4 arg5 harg5 arg6 harg6 arg7 harg7 arg8 harg8 arg9 harg9 arg10 harg10 arg11 harg11 arg12 harg12 arg13 harg13 X13) $$ [H3 H8 H13]
  · isplitl [H3]; · iexact H3
    isplitl [H8] <;> iassumption
  iapply (wp_wand frame (wpE (defs₀ (F := F)) 𝒱 (c : Thread nD τ) bd) E) $$ H
  iintro %r ⟨H3, H8, H13, %hr⟩
  subst hr
  dsimp only
  rw [part297_eq i arg3 harg3 arg4 harg4 arg5 harg5 arg6 harg6 arg7 harg7 arg8 harg8 arg9 harg9 arg10 harg10 arg11 harg11 arg12 harg12 arg13 harg13]
  simp only [bind_assoc]
  rw [wp_bind]
  ihave H := (norms_run N 𝒱 c bd E arg8) $$ H8
  iapply (wp_wand frame (wpE (defs₀ (F := F)) 𝒱 (c : Thread nD τ) bd) E) $$ H
  iintro %v ⟨H8, %hv⟩
  subst hv
  rw [wp_bind]
  ihave H := (choose_run Q K Q8 K8 V N 𝒱 c bd E i arg3 harg3 arg4 harg4 arg5 harg5 arg6 harg6 arg7 harg7 arg8 harg8 arg9 harg9 arg10 harg10 arg11 harg11 arg12 harg12 arg13 harg13 X10 X11 X12) $$ [H4 H5 H6 H7 H10 H11 H12 H13]
  · isplitl [H4]; · iexact H4
    isplitl [H5]; · iexact H5
    isplitl [H6]; · iexact H6
    isplitl [H7]; · iexact H7
    isplitl [H10]; · iexact H10
    isplitl [H11]; · iexact H11
    isplitl [H12] <;> iassumption
  iapply (wp_wand frame (wpE (defs₀ (F := F)) 𝒱 (c : Thread nD τ) bd) E) $$ H
  iintro %_ ⟨H4, H5, H6, H7, H10, H11, H12, H13⟩
  rw [wp_bind]
  ihave H := (emit_run 𝒱 c bd E arg9 harg9 arg13 X9 (total Q K Q8 K8 V N)) $$ [H9 H13]
  · isplitl [H9] <;> iassumption
  iapply (wp_wand frame (wpE (defs₀ (F := F)) 𝒱 (c : Thread nD τ) bd) E) $$ H
  iintro %r ⟨H9, H13, %hr⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]
  · iapply (at_of_read c arg9 ?_) $$ H9
    rw [View.read_writes_rep_unit _ _ _ _ rfl, hr]
    exact stored_any X9 Q _
  isplitl [H10]; · iexact H10
  isplitl [H11]; · iexact H11
  isplitl [H12]; · iexact H12
  iexists _; iexact H13

end Cert.KernelIdeal.Tiles
-- ==== Proof.Attn.lean ====
/-
  The attention call's pipeline: at every grid point the body turns the six input blocks into the output block
  `result` of them (Point.lean), so the launch terminates with every block of the result named and the arguments as
  they were.
-/
module

public import proofs.«01_k».proof.Proof.Point
public import proofs.«01_k».proof.Proof.Gen.KernelIdeal.Frame
public import Idealize.ShloMosaic.Lib.Pipeline.TableIdle
public import Idealize.ShloMosaic.Lib.Pipeline.Value
public import Idealize.ShloMosaic.Lib.Claim

@[expose] public section

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`. -/
def block (c : Dev nD) (t : Fin cfg0.N) : Vec F S1x1x3x64x1024 .bf16 :=
  result (iblk m c 0 t) (iblk m c 1 t) (iblk m c 2 t) (iblk m c 3 t) (iblk m c 4 t) (iblk m c 5 t)

/-- The pipeline on core `c`: inputs kept, the output's buffer at `block`, nothing owed. -/
def flow (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => block m c t
  Φ _ := Pipeline.ΦA spec0 c
  q _ := fullShare
  owed _ := 0

theorem flow_A (c : Dev nD) (w : Fin cfg0.W) : (flow m 0 c).A w = V m c (Pipeline.arrRef spec0 w) := by
  dsimp only [flow]

/-- A scratch buffer held whole at some contents, seen as its memref at some value. -/
theorem scratch_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  refine BI.equiv_iff.mp ⟨show (iprop(∃ f : Buf (Elt F) ((c : Thread nD τ).loc b), ((c : Thread nD τ).loc b) ↦{fullShare} f) : sProp 𝕄) ⊢ iprop(∃ X, owns (c : Thread nD τ) (Memref.whole b) fullShare X) from ?_, show (iprop(∃ X, owns (c : Thread nD τ) (Memref.whole b) fullShare X) : sProp 𝕄) ⊢ iprop(∃ f : Buf (Elt F) ((c : Thread nD τ).loc b), ((c : Thread nD τ).loc b) ↦{fullShare} f) from ?_⟩
  · iintro ⟨%f, H⟩
    iexists f
    rw [owns_whole_eq]
    iexists f
    isplitr; · ipureintro; rfl
    iexact H
  · simp only [owns_whole_eq]
    iintro ⟨%X, %f, %h, H⟩
    iexists f; iexact H

set_option maxHeartbeats 1000000 in
/-- The body at grid point `t`, between what the pipeline hands it and what it takes back. -/
theorem point_body (c : Dev nD) (t : Fin cfg0.N) :
    iprop((flow m 0 c).Φ t.castSucc ∗ (flow m 0 c).owesAt () t.castSucc
      ∗ (∃ d, owns (c : Thread nD τ) (st0_0 t) fullShare ((flow m 0 c).before 0 t d))
      ∗ (∃ d, owns (c : Thread nD τ) (st0_1 t) fullShare ((flow m 0 c).before 1 t d))
      ∗ (∃ d, owns (c : Thread nD τ) (st0_2 t) fullShare ((flow m 0 c).before 2 t d))
      ∗ (∃ d, owns (c : Thread nD τ) (st0_3 t) fullShare ((flow m 0 c).before 3 t d))
      ∗ (∃ d, owns (c : Thread nD τ) (st0_4 t) fullShare ((flow m 0 c).before 4 t d))
      ∗ (∃ d, owns (c : Thread nD τ) (st0_5 t) fullShare ((flow m 0 c).before 5 t d))
      ∗ (∃ d, owns (c : Thread nD τ) (st0_6 t) fullShare ((flow m 0 c).before 6 t d)))
    ⊢ wp frame (wpE (defs₀ (F := F)) Variants.none (c : Thread nD τ) none) Set.univ (bodyAt0 t) (fun _ =>
      iprop((flow m 0 c).Φ t.succ ∗ (flow m 0 c).owesAt () t.succ
      ∗ owns (c : Thread nD τ) (st0_0 t) fullShare ((flow m 0 c).after 0 t)
      ∗ owns (c : Thread nD τ) (st0_1 t) fullShare ((flow m 0 c).after 1 t)
      ∗ owns (c : Thread nD τ) (st0_2 t) fullShare ((flow m 0 c).after 2 t)
      ∗ owns (c : Thread nD τ) (st0_3 t) fullShare ((flow m 0 c).after 3 t)
      ∗ owns (c : Thread nD τ) (st0_4 t) fullShare ((flow m 0 c).after 4 t)
      ∗ owns (c : Thread nD τ) (st0_5 t) fullShare ((flow m 0 c).after 5 t)
      ∗ owns (c : Thread nD τ) (st0_6 t) fullShare ((flow m 0 c).after 6 t))) := by
  have b0 : ∀ d, (flow m 0 c).before 0 t d = iblk m c 0 t := before0_0_of m (flow m 0 c) (flow_A m c 0) (fun _ => by dsimp only [flow]) t
  have b1 : ∀ d, (flow m 0 c).before 1 t d = iblk m c 1 t := before0_1_of m (flow m 0 c) (flow_A m c 1) (fun _ => by dsimp only [flow]) t
  have b2 : ∀ d, (flow m 0 c).before 2 t d = iblk m c 2 t := before0_2_of m (flow m 0 c) (flow_A m c 2) (fun _ => by dsimp only [flow]) t
  have b3 : ∀ d, (flow m 0 c).before 3 t d = iblk m c 3 t := before0_3_of m (flow m 0 c) (flow_A m c 3) (fun _ => by dsimp only [flow]) t
  have b4 : ∀ d, (flow m 0 c).before 4 t d = iblk m c 4 t := before0_4_of m (flow m 0 c) (flow_A m c 4) (fun _ => by dsimp only [flow]) t
  have b5 : ∀ d, (flow m 0 c).before 5 t d = iblk m c 5 t := before0_5_of m (flow m 0 c) (flow_A m c 5) (fun _ => by dsimp only [flow]) t
  have a0 : (flow m 0 c).after 0 t = iblk m c 0 t := by dsimp only [flow]
  have a1 : (flow m 0 c).after 1 t = iblk m c 1 t := by dsimp only [flow]
  have a2 : (flow m 0 c).after 2 t = iblk m c 2 t := by dsimp only [flow]
  have a3 : (flow m 0 c).after 3 t = iblk m c 3 t := by dsimp only [flow]
  have a4 : (flow m 0 c).after 4 t = iblk m c 4 t := by dsimp only [flow]
  have a5 : (flow m 0 c).after 5 t = iblk m c 5 t := by dsimp only [flow]
  have a6 : (flow m 0 c).after 6 t = block m c t := by dsimp only [flow]
  simp only [b0, b1, b2, b3, b4, b5]
  rw [show (flow m 0 c).Φ t.succ = Pipeline.ΦA spec0 c from rfl, show (flow m 0 c).Φ t.castSucc = Pipeline.ΦA spec0 c from rfl,
    show (flow m 0 c).owesAt () t.succ = (flow m 0 c).owesAt () t.castSucc from rfl, a0, a1, a2, a3, a4, a5, a6]
  unfold bodyAt0 Pipeline.ΦA
  rw [scopedRest0_eq]
  simp only [scratch_eq, owns_eq_rep]
  iintro ⟨⟨⟨⟨%X10, H10⟩, ⟨%X11, H11⟩, ⟨%X12, H12⟩, ⟨%X13, H13⟩⟩, Hp⟩, Ho, ⟨%d0, H0⟩, ⟨%d1, H1⟩, ⟨%d2, H2⟩, ⟨%d3, H3⟩, ⟨%d4, H4⟩, ⟨%d5, H5⟩, ⟨%d6, H6⟩⟩
  ihave H := (point_run (iblk m c 0 t) (iblk m c 1 t) (iblk m c 2 t) (iblk m c 3 t) (iblk m c 4 t) (iblk m c 5 t) Variants.none c none Set.univ
    (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) ((flow m 0 c).before 6 t d6) X10 X11 X12 X13) $$ [H0 H1 H2 H3 H4 H5 H6 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    iexact H13
  iapply (wp_wand frame (wpE (defs₀ (F := F)) Variants.none (c : Thread nD τ) none) Set.univ) $$ H
  iintro %_ ⟨H0, H1, H2, H3, H4, H5, H6, H10, H11, H12, H13⟩
  isplitl [Hp H10 H11 H12 H13]
  · isplitl [H10 H11 H12 H13]
    · isplitl [H10]; · iexact H10
      isplitl [H11]; · iexact H11
      isplitl [H12]; · iexact H12
      iexact H13
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation. -/
theorem obliged (c : Dev nD) : BodyObligation (flow (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (point_body m c t) rfl .rfl fun _ => .rfl

set_option backward.isDefEq.respectTransparency.types false in
/-- THE LAUNCH, with every semaphore counter at zero at the end. -/
theorem launched : θ_run defs (onTc (τ := τ) (main (F := F))) (s₀ m ρ) (fun r => (Pipeline.FramePost cfgs (flow m) 0 (V m)) r ∧ r.2.sem = fun _ => 0) :=
  Pipeline.θ_run_frame (Q' := _) cfgs (flow m) (0 : Fin 1) launch0 defs₀ Variants.none m ρ main
    (hbody := fun c => (obliged m c).loose) (hshare := fun c => (flow m 0 c).share_full fun _ => rfl)
    (howed := fun _ _ => rfl) (V := V m) (hmain := hmain m Variants.none) (hA := flow_A m) (hΦ := fun _ _ => rfl)

/-- THE FRAME of the attention call: it terminates, its arguments end unchanged, every counter ends at zero. -/
theorem attn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (flow m) (flow_A m) ((θ_run defs _ _).mono (fun _ h => h.1) (launched m ρ)))
    ((θ_run defs _ _).mono (fun _ h => h.2) (launched m ρ))

end Cert.KernelIdeal.Tiles

end
-- ==== Proof.Transfer.lean ====
/-
  The attention call as compiled and as idealized are the same program (nothing in it is rewritten), so the frame
  proved of one, at any reading of the floats, is the frame of the other.
-/
module

public import proofs.«01_k».proof.Proof.Attn
public import proofs.«01_k».proof.Proof.Gen.Kernel.Frame

@[expose] public section

namespace Cert.Transfer

open Idealize.ShloMosaic Idealize.ShloMosaic.TcCoe Idealize.SL.Sem

/-- The two body tables are the same table. -/
theorem table_eq {F : FTy → Type} [FloatOps F] : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun p => ?_)
  match l with
  | ⟨0, _⟩ => rfl
set_option backward.isDefEq.respectTransparency.types false in
/-- … and so are the two tables of pipelines. -/
theorem pipelines_eq {F : FTy → Type} [FloatOps F] : @Cert.Kernel.defs F _ Cert.Kernel.Gen.facts = @Cert.KernelIdeal.defs F _ Cert.KernelIdeal.Gen.facts := by
  unfold Cert.Kernel.defs Cert.KernelIdeal.defs
  exact congrArg _ table_eq
set_option maxHeartbeats 4000000 in
set_option backward.isDefEq.respectTransparency.types false in
/-- THE FRAME of the attention call as compiled, from the frame of its idealization. -/
theorem kernel_frame {F : FTy → Type} [FloatOps F] (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [pipelines_eq]
  exact Cert.KernelIdeal.Tiles.attn_frame (F := F) m g
end Cert.Transfer

end
-- ==== Proof.TailRow.lean ====
/-
  One token through the second half of the layer, over the extended reals: what both the kernel and the plain
computation do to a row. No array, no grid and no launch appears here.
-/
module

public import Idealize.ShloMosaic.Lib.Pointwise
public import Idealize.ShloMosaic.Lib.Pipeline.ValueKit

@[expose] public section

noncomputable section

namespace Cert.Tail

open Idealize.ShloMosaic

/-- The row's length as the programs' literal. -/
def width : EReal := Ideal.ofBits .f32 0x44800000#32

/-- The small constant under the square root, as the programs' literal. -/
def eps : EReal := Ideal.ofBits .f32 0x358637BD#32

/-- A row divided by the root of its mean square, then scaled. -/
def norm (x g : Fin 1024 → EReal) (j : Fin 1024) : EReal :=
  x j * Ideal.rsqrt (Ideal.div (∑ k, x k * x k) width + eps) * g j

/-- The two halves of the gates, from the normalised row. -/
def gate (h : Fin 1024 → EReal) (w : Fin 1024 → Fin 2048 → EReal) (b : Fin 2048 → EReal) (j : Fin 2048) : EReal :=
  Ideal.logistic (∑ k, h k * w k j + b j)

/-- The residual row plus the gated branches through the output product. -/
def mixed (x : Fin 1024 → EReal) (p : Fin 2048 → EReal) (a : Fin 768 → EReal) (f : Fin 256 → EReal)
    (wa : Fin 768 → Fin 1024 → EReal) (wf : Fin 256 → Fin 1024 → EReal) (wo : Fin 1024 → Fin 1024 → EReal)
    (j : Fin 1024) : EReal :=
  x j + ∑ k : Fin 1024, (p ⟨k, by omega⟩ * (∑ i, a i * wa i k) + p ⟨1024 + k, by omega⟩ * ∑ i, f i * wf i k) * wo k j

/-- One hidden unit: the square of the positive part. -/
def unit {n : ℕ} (h : Fin 1024 → EReal) (w : Fin 1024 → Fin n → EReal) (i : Fin n) : EReal :=
  max (∑ k, h k * w k i) 0 * max (∑ k, h k * w k i) 0

/-- The residual row plus the two layer network. -/
def network (y h : Fin 1024 → EReal) (wu : Fin 1024 → Fin 4096 → EReal) (wd : Fin 4096 → Fin 1024 → EReal)
    (j : Fin 1024) : EReal :=
  y j + ∑ i, unit h wu i * wd i j

/-- The whole row: gates, gated branches, network, last normalisation. -/
def row (x : Fin 1024 → EReal) (a : Fin 768 → EReal) (f : Fin 256 → EReal) (g₁ : Fin 1024 → EReal)
    (wg : Fin 1024 → Fin 2048 → EReal) (bg : Fin 2048 → EReal)
    (wa : Fin 768 → Fin 1024 → EReal) (wf : Fin 256 → Fin 1024 → EReal) (wo : Fin 1024 → Fin 1024 → EReal)
    (g₂ : Fin 1024 → EReal) (wu : Fin 1024 → Fin 4096 → EReal) (wd : Fin 4096 → Fin 1024 → EReal)
    (g₃ : Fin 1024 → EReal) : Fin 1024 → EReal :=
  norm (network (mixed x (gate (norm x g₁) wg bg) a f wa wf wo)
    (norm (mixed x (gate (norm x g₁) wg bg) a f wa wf wo) g₂) wu wd) g₃

/-- A sum over 4096 units is the sum over four runs of 1024. -/
theorem sum_runs (f : Fin 4096 → EReal) :
    ∑ i, f i = (∑ k : Fin 1024, f ⟨k, by omega⟩) + (∑ k : Fin 1024, f ⟨1024 + k, by omega⟩)
      + (∑ k : Fin 1024, f ⟨2048 + k, by omega⟩) + ∑ k : Fin 1024, f ⟨3072 + k, by omega⟩ := by
  rw [← Equiv.sum_comp (finProdFinEquiv (m := 4) (n := 1024)) f, Fintype.sum_prod_type, Fin.sum_univ_four]
  congr 1

/-- The network with its hidden units taken in four runs, added one after another. -/
theorem network_runs (y h : Fin 1024 → EReal) (wu : Fin 1024 → Fin 4096 → EReal) (wd : Fin 4096 → Fin 1024 → EReal)
    (j : Fin 1024) :
    network y h wu wd j
      = y j + (∑ k : Fin 1024, unit h (fun a (b : Fin 1024) => wu a ⟨b, by omega⟩) k * wd ⟨k, by omega⟩ j)
        + (∑ k : Fin 1024, unit h (fun a (b : Fin 1024) => wu a ⟨1024 + b, by omega⟩) k * wd ⟨1024 + k, by omega⟩ j)
        + (∑ k : Fin 1024, unit h (fun a (b : Fin 1024) => wu a ⟨2048 + b, by omega⟩) k * wd ⟨2048 + k, by omega⟩ j)
        + ∑ k : Fin 1024, unit h (fun a (b : Fin 1024) => wu a ⟨3072 + b, by omega⟩) k * wd ⟨3072 + k, by omega⟩ j := by
  unfold network
  rw [sum_runs]
  simp only [unit, add_assoc]

end Cert.Tail

end
-- ==== Proof.TailKernel.lean ====
/-
  What the kernel leaves at a batch, position and channel is the row of `TailRow`: first one block of 512 rows from the
blocks it reads, then the whole result from the blocks.
-/
module

public import proofs.«01_k».proof.Proof.Gen.Kernel2Ideal.Value
public import proofs.«01_k».proof.Proof.TailRow

@[expose] public section

noncomputable section

namespace Cert.Kernel2Ideal.Stages

open Cert.Kernel2Ideal Cert.Kernel2Ideal.Gen Idealize.ShloMosaic Idealize.ShloMosaic.TcCoe

theorem last_at (v : FVec Ideal S512x1024 .f32) (g : FVec Ideal S1x1024 .f32) (r : Fin 512) (j : Fin 1024) :
    k0_pay1 (F := Ideal) v g (ix3 0 r j) = Tail.norm (fun k => v (ix2 r k)) (fun k => g (ix2 0 k)) j := by
  pointwise [k0_pay1]
  rfl

theorem second_at (v : FVec Ideal S1x512x1024 .f32) (g : FVec Ideal S1x1024 .f32) (r : Fin 512) (j : Fin 1024) :
    k0_pay8 (F := Ideal) v g (ix2 r j) = Tail.norm (fun k => v (ix3 0 r k)) (fun k => g (ix2 0 k)) j := by
  pointwise [k0_pay8, k0_pay7]
  rfl

theorem gate_at (v : FVec Ideal S1x512x1024 .f32) (g : FVec Ideal S1x1024 .f32) (w : FVec Ideal S1024x2048 .bf16)
    (b : FVec Ideal S1x2048 .f32) (r : Fin 512) (j : Fin 2048) :
    k0_pay3 (F := Ideal) v g w b (ix2 r j)
      = Tail.gate (Tail.norm (fun k => v (ix3 0 r k)) (fun k => g (ix2 0 k))) (fun k l => w (ix2 k l)) (fun k => b (ix2 0 k)) j := by
  pointwise [k0_pay3, k0_pay2]
  rfl

theorem mixed_at (x : FVec Ideal S1x512x1024 .f32) (p : FVec Ideal S512x2048 .f32) (a : FVec Ideal S1x768x512 .bf16)
    (wa : FVec Ideal S768x1024 .bf16) (f : FVec Ideal S1x512x256 .f32) (wf : FVec Ideal S256x1024 .bf16)
    (wo : FVec Ideal S1024x1024 .bf16) (r : Fin 512) (j : Fin 1024) :
    k0_pay6 (F := Ideal) (k0_pay2 x) p (k0_pay4 a wa) (k0_pay5 f) wf wo (ix3 0 r j)
      = Tail.mixed (fun k => x (ix3 0 r k)) (fun k => p (ix2 r k)) (fun k => a (ix3 0 k r)) (fun k => f (ix3 0 r k))
          (fun k l => wa (ix2 k l)) (fun k l => wf (ix2 k l)) (fun k l => wo (ix2 k l)) j := by
  pointwise [k0_pay6, k0_pay2, k0_pay4, k0_pay5]
  rfl

/-- The four loads of each network weight: runs of columns of the first, of rows of the second. -/
structure Runs (wu : FVec Ideal S1024x4096 .bf16) (wd : FVec Ideal S4096x1024 .bf16)
    (u₀ u₁ u₂ u₃ d₀ d₁ d₂ d₃ : FVec Ideal S1024x1024 .bf16) : Prop where
  u₀ : ∀ k l, u₀ (ix2 k l) = wu (ix2 k ⟨l, by omega⟩)
  u₁ : ∀ k l, u₁ (ix2 k l) = wu (ix2 k ⟨1024 + l, by omega⟩)
  u₂ : ∀ k l, u₂ (ix2 k l) = wu (ix2 k ⟨2048 + l, by omega⟩)
  u₃ : ∀ k l, u₃ (ix2 k l) = wu (ix2 k ⟨3072 + l, by omega⟩)
  d₀ : ∀ k l, d₀ (ix2 k l) = wd (ix2 ⟨k, by omega⟩ l)
  d₁ : ∀ k l, d₁ (ix2 k l) = wd (ix2 ⟨1024 + k, by omega⟩ l)
  d₂ : ∀ k l, d₂ (ix2 k l) = wd (ix2 ⟨2048 + k, by omega⟩ l)
  d₃ : ∀ k l, d₃ (ix2 k l) = wd (ix2 ⟨3072 + k, by omega⟩ l)

/-- The network's four runs over a block. -/
theorem network_at {wu : FVec Ideal S1024x4096 .bf16} {wd : FVec Ideal S4096x1024 .bf16}
    {u₀ u₁ u₂ u₃ d₀ d₁ d₂ d₃ : FVec Ideal S1024x1024 .bf16} (hw : Runs wu wd u₀ u₁ u₂ u₃ d₀ d₁ d₂ d₃)
    (y : FVec Ideal S1x512x1024 .f32) (g : FVec Ideal S1x1024 .f32) (r : Fin 512) (j : Fin 1024) :
    k0_pay10 (F := Ideal) (k0_pay7 y) (k0_pay8 y g) (k0_pay9 y g u₀) d₀ u₁ d₁ u₂ d₂ u₃ d₃ (ix2 r j)
      = Tail.network (fun k => y (ix3 0 r k)) (Tail.norm (fun k => y (ix3 0 r k)) (fun k => g (ix2 0 k)))
          (fun k l => wu (ix2 k l)) (fun k l => wd (ix2 k l)) j := by
  have h : (fun k => k0_pay8 (F := Ideal) y g (ix2 r k)) = Tail.norm (fun k => y (ix3 0 r k)) (fun k => g (ix2 0 k)) :=
    funext fun k => second_at y g r k
  rw [Tail.network_runs, ← h]
  simp only [← hw.u₀, ← hw.u₁, ← hw.u₂, ← hw.u₃, ← hw.d₀, ← hw.d₁, ← hw.d₂, ← hw.d₃]
  clear h hw
  unfold k0_pay9
  generalize k0_pay8 (F := Ideal) y g = q
  pointwise [k0_pay10, k0_pay7]
  rfl

/-- One row of a block. -/
theorem block_at (x : FVec Ideal S1x512x1024 .f32) (g₁ : FVec Ideal S1x1024 .f32) (a : FVec Ideal S1x768x512 .bf16)
    (f : FVec Ideal S1x512x256 .f32) (wg : FVec Ideal S1024x2048 .bf16) (bg : FVec Ideal S1x2048 .f32)
    (wa : FVec Ideal S768x1024 .bf16) (wf : FVec Ideal S256x1024 .bf16) (wo : FVec Ideal S1024x1024 .bf16)
    (g₂ : FVec Ideal S1x1024 .f32) (wu : FVec Ideal S1024x4096 .bf16) (wd : FVec Ideal S4096x1024 .bf16)
    (g₃ : FVec Ideal S1x1024 .f32) (u₀ u₁ u₂ u₃ d₀ d₁ d₂ d₃ : FVec Ideal S1024x1024 .bf16)
    (hw : Runs wu wd u₀ u₁ u₂ u₃ d₀ d₁ d₂ d₃) (y : FVec Ideal S1x512x1024 .f32)
    (hy : y = k0_pay6 (k0_pay2 x) (k0_pay3 x g₁ wg bg) (k0_pay4 a wa) (k0_pay5 f) wf wo) (r : Fin 512) (j : Fin 1024) :
    k0_pay1 (F := Ideal) (k0_pay10 (k0_pay7 y) (k0_pay8 y g₂) (k0_pay9 y g₂ u₀) d₀ u₁ d₁ u₂ d₂ u₃ d₃) g₃ (ix3 0 r j)
      = Tail.row (fun k => x (ix3 0 r k)) (fun k => a (ix3 0 k r)) (fun k => f (ix3 0 r k)) (fun k => g₁ (ix2 0 k))
          (fun k l => wg (ix2 k l)) (fun k => bg (ix2 0 k)) (fun k l => wa (ix2 k l)) (fun k l => wf (ix2 k l))
          (fun k l => wo (ix2 k l)) (fun k => g₂ (ix2 0 k)) (fun k l => wu (ix2 k l)) (fun k l => wd (ix2 k l))
          (fun k => g₃ (ix2 0 k)) j := by
  have h : (fun k => y (ix3 0 r k)) = Tail.mixed (fun k => x (ix3 0 r k))
      (Tail.gate (Tail.norm (fun k => x (ix3 0 r k)) (fun k => g₁ (ix2 0 k))) (fun k l => wg (ix2 k l)) (fun k => bg (ix2 0 k)))
      (fun k => a (ix3 0 k r)) (fun k => f (ix3 0 r k)) (fun k l => wa (ix2 k l)) (fun k l => wf (ix2 k l))
      (fun k l => wo (ix2 k l)) := by
    funext k
    rw [hy, mixed_at]
    congr 1
    exact funext fun l => gate_at x g₁ wg bg r l
  rw [last_at]
  simp only [network_at hw]
  rw [h]
  rfl

variable (m : (ℓ : Loc nD τ sig) → Buf (Elt Ideal) ℓ) (c : Dev nD)

/-- The result, row by row, from the arguments. -/
def goal : S2x8192x1024.Idx → EReal := fun i =>
  Tail.row (fun k => m ((c.tc : Thread nD τ).loc main_arg0) (ix3 (i 0) (i 1) k)) (fun k => m ((c.tc : Thread nD τ).loc main_arg2) (ix3 (i 0) k (i 1)))
    (fun k => m ((c.tc : Thread nD τ).loc main_arg3) (ix3 (i 0) (i 1) k)) (fun k => m ((c.tc : Thread nD τ).loc main_arg1) (ix1 k))
    (fun k l => m ((c.tc : Thread nD τ).loc main_arg4) (ix2 k l)) (fun k => m ((c.tc : Thread nD τ).loc main_arg5) (ix1 k))
    (fun k l => m ((c.tc : Thread nD τ).loc main_arg6) (ix2 k l)) (fun k l => m ((c.tc : Thread nD τ).loc main_arg7) (ix2 k l))
    (fun k l => m ((c.tc : Thread nD τ).loc main_arg8) (ix2 k l)) (fun k => m ((c.tc : Thread nD τ).loc main_arg9) (ix1 k))
    (fun k l => m ((c.tc : Thread nD τ).loc main_arg10) (ix2 k l)) (fun k l => m ((c.tc : Thread nD τ).loc main_arg11) (ix2 k l))
    (fun k => m ((c.tc : Thread nD τ).loc main_arg12) (ix1 k)) (i 2)

/-- Where each window's block lies at a point: the four that move, and the rest at the origin. -/
theorem places : ∀ t : Fin cfg0.N,
    win0_0.index t = ![(t : ℕ) / 16, (t : ℕ) % 16, 0] ∧ win0_2.index t = ![(t : ℕ) / 16, 0, (t : ℕ) % 16]
    ∧ win0_3.index t = ![(t : ℕ) / 16, (t : ℕ) % 16, 0] ∧ win0_13.index t = ![(t : ℕ) / 16, (t : ℕ) % 16, 0]
    ∧ win0_1.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N,
    win0_0.index t = ![(t : ℕ) / 16, (t : ℕ) % 16, 0] ∧ win0_2.index t = ![(t : ℕ) / 16, 0, (t : ℕ) % 16]
    ∧ win0_3.index t = ![(t : ℕ) / 16, (t : ℕ) % 16, 0] ∧ win0_13.index t = ![(t : ℕ) / 16, (t : ℕ) % 16, 0]
    ∧ win0_1.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0])

set_option maxHeartbeats 4000000 in
/-- The kernel's result array. -/
theorem result_eq : (dats m 0 c).arrAt 13 cfg0.N = goal m c := by
  refine (dats m 0 c).arrAt_eq_of_covers 13 _ (by decide +kernel) fun t hf y => ?_
  blk_simp
  rw [after0_13]
  unfold outsAt0
  frame_out
  have hy : y = ix3 0 (y 1) (y 2) := by blk_ext
  generalize hi : ((View.whole main_v10).slice (win0_13.rect t)).emb y = i
  rw [hy]
  refine (block_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) _ _ _ _ _ _ _ _
    ⟨fun k l => by pointwise, fun k l => by pointwise, fun k l => by pointwise, fun k l => by pointwise,
      fun k l => by pointwise, fun k l => by pointwise, fun k l => by pointwise, fun k l => by pointwise⟩ _ rfl (y 1) (y 2)).trans ?_
  unfold goal
  subst hi
  congr 1
  any_goals (funext k l; blk_ext! [iblk, V, places t])
  any_goals (funext k; blk_ext! [iblk, V, places t])
  refine Fin.ext ?_
  blk_simp [places t]

end Cert.Kernel2Ideal.Stages

end
-- ==== Proof.TailRef.lean ====
/-
  The plain computation's result at a batch, position and channel is the row of `TailRow`.
-/
module

public import proofs.«01_k».proof.Proof.Gen.Reference2Ideal.Run
public import proofs.«01_k».proof.Proof.TailRow

@[expose] public section

noncomputable section

namespace Cert.Reference2Ideal.Stages

open Cert.Reference2Ideal Cert.Reference2Ideal.Gen Idealize.ShloMosaic Idealize.ShloMosaic.TcCoe

/-- The reference's normalisation. -/
def norm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The reference's gates. -/
def gate (h : FVec Ideal S2x8192x1024 .f32) (w : FVec Ideal S1024x2048 .f32) (b : FVec Ideal S2048 .f32) : FVec Ideal S2x8192x2048 .f32 :=
  Host.divf (broadcastInDim S2x8192x2048 ![] bcast_S_S2x8192x2048 (constant S_ .f32 0x3F800000#32))
    (addf (broadcastInDim S2x8192x2048 ![] bcast_S_S2x8192x2048 (constant S_ .f32 0x3F800000#32))
     (Host.exp (Host.negf (addf (Host.dotGeneral dot_S2x8192x1024_S1024x2048_S2x8192x2048_2_0_01_1_n_n none h w)
       (broadcastInDim S2x8192x2048 ![0, 1, 2] bcast_S1x1x2048_S2x8192x2048_0_1_2 (broadcastInDim S1x1x2048 ![2] bcast_S2048_S1x1x2048_2 b))))))

/-- The reference's gated branches and output product, added to the residual. -/
def mixed (x : FVec Ideal S2x8192x1024 .f32) (p : FVec Ideal S2x8192x2048 .f32) (a : FVec Ideal S2x768x8192 .bf16)
    (f : FVec Ideal S2x8192x256 .f32) (wa : FVec Ideal S768x1024 .f32) (wf : FVec Ideal S256x1024 .f32)
    (wo : FVec Ideal S1024x1024 .f32) : FVec Ideal S2x8192x1024 .f32 :=
  addf x (Host.dotGeneral dot_S2x8192x1024_S1024x1024_S2x8192x1024_2_0_01_1_n_n none
    (addf (mulf (extractStridedSlice S2x8192x1024 ![0, 0, 0] p slices_S2x8192x2048_S2x8192x1024_0_0_0)
        (Host.dotGeneral dot_S2x8192x768_S768x1024_S2x8192x1024_2_0_01_1_n_n none
          (extf .f32 (transpose S2x8192x768 [0, 2, 1] a transposes_S2x768x8192_S2x8192x768_0_2_1) bitsLt_bf16_f32) wa))
      (mulf (extractStridedSlice S2x8192x1024 ![0, 0, 1024] p slices_S2x8192x2048_S2x8192x1024_0_0_1024)
        (Host.dotGeneral dot_S2x8192x256_S256x1024_S2x8192x1024_2_0_01_1_n_n none f wf))) wo)

/-- The reference's network, added to the residual. -/
def network (y h : FVec Ideal S2x8192x1024 .f32) (wu : FVec Ideal S1024x4096 .f32) (wd : FVec Ideal S4096x1024 .f32) :
    FVec Ideal S2x8192x1024 .f32 :=
  addf y (Host.dotGeneral dot_S2x8192x4096_S4096x1024_S2x8192x1024_2_0_01_1_n_n none
    (mulf
      (maximumf (Host.dotGeneral dot_S2x8192x1024_S1024x4096_S2x8192x4096_2_0_01_1_n_n none h wu)
        (broadcastInDim S2x8192x4096 ![] bcast_S_S2x8192x4096 (constant S_ .f32 0x00000000#32)))
      (maximumf (Host.dotGeneral dot_S2x8192x1024_S1024x4096_S2x8192x4096_2_0_01_1_n_n none h wu)
        (broadcastInDim S2x8192x4096 ![] bcast_S_S2x8192x4096 (constant S_ .f32 0x00000000#32)))) wd)

theorem norm_at (x : FVec Ideal S2x8192x1024 .f32) (g : FVec Ideal S1024 .f32) (b : Fin 2) (s : Fin 8192) (j : Fin 1024) :
    norm x g (ix3 b s j) = Tail.norm (fun k => x (ix3 b s k)) (fun k => g (ix1 k)) j := by
  pointwise [norm]
  rfl

theorem gate_at (h : FVec Ideal S2x8192x1024 .f32) (w : FVec Ideal S1024x2048 .f32) (v : FVec Ideal S2048 .f32)
    (b : Fin 2) (s : Fin 8192) (j : Fin 2048) :
    gate h w v (ix3 b s j) = Tail.gate (fun k => h (ix3 b s k)) (fun k l => w (ix2 k l)) (fun k => v (ix1 k)) j := by
  pointwise [gate]
  rfl

theorem mixed_at (x : FVec Ideal S2x8192x1024 .f32) (p : FVec Ideal S2x8192x2048 .f32) (a : FVec Ideal S2x768x8192 .bf16)
    (f : FVec Ideal S2x8192x256 .f32) (wa : FVec Ideal S768x1024 .f32) (wf : FVec Ideal S256x1024 .f32)
    (wo : FVec Ideal S1024x1024 .f32) (b : Fin 2) (s : Fin 8192) (j : Fin 1024) :
    mixed x p a f wa wf wo (ix3 b s j)
      = Tail.mixed (fun k => x (ix3 b s k)) (fun k => p (ix3 b s k)) (fun k => a (ix3 b k s)) (fun k => f (ix3 b s k))
          (fun k l => wa (ix2 k l)) (fun k l => wf (ix2 k l)) (fun k l => wo (ix2 k l)) j := by
  pointwise [mixed]
  rfl

theorem network_at (y h : FVec Ideal S2x8192x1024 .f32) (wu : FVec Ideal S1024x4096 .f32) (wd : FVec Ideal S4096x1024 .f32)
    (b : Fin 2) (s : Fin 8192) (j : Fin 1024) :
    network y h wu wd (ix3 b s j)
      = Tail.network (fun k => y (ix3 b s k)) (fun k => h (ix3 b s k)) (fun k l => wu (ix2 k l)) (fun k l => wd (ix2 k l)) j := by
  pointwise [network]
  rfl

variable (m : (ℓ : Loc nD τ sig) → Buf (Elt Ideal) ℓ) (c : Dev nD)

/-- The residual after the gated branches. -/
def middle : FVec Ideal S2x8192x1024 .f32 :=
  mixed (m ((c.tc : Thread nD τ).loc main_arg0))
    (gate (norm (m ((c.tc : Thread nD τ).loc main_arg0)) (m ((c.tc : Thread nD τ).loc main_arg1)))
      (m ((c.tc : Thread nD τ).loc main_arg4)) (m ((c.tc : Thread nD τ).loc main_arg5)))
    (m ((c.tc : Thread nD τ).loc main_arg2)) (m ((c.tc : Thread nD τ).loc main_arg3)) (m ((c.tc : Thread nD τ).loc main_arg6))
    (m ((c.tc : Thread nD τ).loc main_arg7)) (m ((c.tc : Thread nD τ).loc main_arg8))

set_option maxRecDepth 8192 in
set_option maxHeartbeats 4000000 in
/-- The run's composed term is the four stages in order. -/
theorem result_eq : Value.res_main_v64 m c
    = norm (network (middle m c) (norm (middle m c) (m ((c.tc : Thread nD τ).loc main_arg9)))
        (m ((c.tc : Thread nD τ).loc main_arg10)) (m ((c.tc : Thread nD τ).loc main_arg11)))
        (m ((c.tc : Thread nD τ).loc main_arg12)) := by
  unfold Value.res_main_v64
  rfl

/-- The reference's result at a batch, position and channel. -/
theorem result_at (b : Fin 2) (s : Fin 8192) (j : Fin 1024) : Value.res_main_v64 m c (ix3 b s j)
    = Tail.row (fun k => m ((c.tc : Thread nD τ).loc main_arg0) (ix3 b s k)) (fun k => m ((c.tc : Thread nD τ).loc main_arg2) (ix3 b k s))
        (fun k => m ((c.tc : Thread nD τ).loc main_arg3) (ix3 b s k)) (fun k => m ((c.tc : Thread nD τ).loc main_arg1) (ix1 k))
        (fun k l => m ((c.tc : Thread nD τ).loc main_arg4) (ix2 k l)) (fun k => m ((c.tc : Thread nD τ).loc main_arg5) (ix1 k))
        (fun k l => m ((c.tc : Thread nD τ).loc main_arg6) (ix2 k l)) (fun k l => m ((c.tc : Thread nD τ).loc main_arg7) (ix2 k l))
        (fun k l => m ((c.tc : Thread nD τ).loc main_arg8) (ix2 k l)) (fun k => m ((c.tc : Thread nD τ).loc main_arg9) (ix1 k))
        (fun k l => m ((c.tc : Thread nD τ).loc main_arg10) (ix2 k l)) (fun k l => m ((c.tc : Thread nD τ).loc main_arg11) (ix2 k l))
        (fun k => m ((c.tc : Thread nD τ).loc main_arg12) (ix1 k)) j := by
  rw [result_eq, norm_at]
  simp only [network_at, norm_at]
  unfold middle
  simp only [mixed_at, gate_at, norm_at]
  rfl

end Cert.Reference2Ideal.Stages

end
-- ==== Proof.Tail.lean ====
/-
  The kernel's result and the plain computation's are one array.
-/
module

public import proofs.«01_k».proof.Defs
public import proofs.«01_k».proof.Proof.TailKernel
public import proofs.«01_k».proof.Proof.TailRef

@[expose] public section

noncomputable section

namespace Cert.Tail

open Idealize.ShloMosaic Idealize.ShloMosaic.TcCoe Idealize.SL.Sem

/-- The two runs from agreeing arguments end with equal results. -/
theorem algebraic : algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Stages.goal m c, ?_, ?_⟩
  · refine (θ_run _ _ _).mono (fun r h c => ?_) (Cert.Kernel2Ideal.Value.run_blocks m g)
    exact ⟨(h c).1.trans (Cert.Kernel2Ideal.Stages.result_eq m c), (h c).2⟩
  · refine (θ_run _ _ _).mono (fun r h c => ?_) (Cert.Reference2Ideal.Value.run m' g')
    refine ⟨(h c).1.trans ?_, (h c).2⟩
    obtain ⟨h0, h1, h2, h3, h4, h5, h6, h7, h8, h9, h10, h11, h12⟩ := hag c
    funext i
    rw [eq_ix3 i]
    refine (Cert.Reference2Ideal.Stages.result_at m' c (i 0) (i 1) (i 2)).trans ?_
    show _ = Cert.Kernel2Ideal.Stages.goal m c (ix3 (i 0) (i 1) (i 2))
    unfold Cert.Kernel2Ideal.Stages.goal
    congr 1
    · exact funext fun k => congrFun h0 _
    · exact funext fun k => congrFun h2 _
    · exact funext fun k => congrFun h3 _
    · exact funext fun k => congrFun h1 _
    · exact funext fun k => funext fun l => congrFun h4 _
    · exact funext fun k => congrFun h5 _
    · exact funext fun k => funext fun l => congrFun h6 _
    · exact funext fun k => funext fun l => congrFun h7 _
    · exact funext fun k => funext fun l => congrFun h8 _
    · exact funext fun k => congrFun h9 _
    · exact funext fun k => funext fun l => congrFun h10 _
    · exact funext fun k => funext fun l => congrFun h11 _
    · exact funext fun k => congrFun h12 _

end Cert.Tail

end
-- ==== Proof.Soft.lean ====
module

public import Idealize.ShloMosaic.Lib.IdealHost

/-! Softmax by chunks over the extended reals: weights are powers of two of real scores, the
values weighed are any extended reals. -/

@[expose] public section

noncomputable section

namespace Cert.Soft

open Idealize.ShloMosaic

/-! ## Constants, and rounding to a grid by adding and taking away -/

theorem ofBits_zero : Ideal.ofBits .f32 0x00000000#32 = 0 := by
  simp [Ideal.ofBits, Ideal.ieee]

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_reals : (∃ r : ℝ, Ideal.ofBits .f32 0x4B000001#32 = r) ∧ (∃ r : ℝ, Ideal.ofBits .f32 0x3F7FFFFF#32 = r)
    ∧ (∃ r : ℝ, Ideal.ofBits .f32 0x3C800000#32 = r) ∧ (∃ r : ℝ, Ideal.ofBits .f32 0x49C00000#32 = r) := by
  simp only [Ideal.ofBits, Ideal.ieee]
  exact ⟨⟨_, rfl⟩, ⟨_, rfl⟩, ⟨_, rfl⟩, ⟨_, rfl⟩⟩

/-- What is added and taken away: a large multiple of the spacing at `x`. -/
def lift (x : EReal) : EReal :=
  max (max (x * Ideal.ofBits .f32 0x4B000001#32 - x * Ideal.ofBits .f32 0x4B000001#32 * Ideal.ofBits .f32 0x3F7FFFFF#32)
    (-(x * Ideal.ofBits .f32 0x4B000001#32 - x * Ideal.ofBits .f32 0x4B000001#32 * Ideal.ofBits .f32 0x3F7FFFFF#32)))
    (Ideal.ofBits .f32 0x3C800000#32) * Ideal.ofBits .f32 0x49C00000#32

/-- Adding and taking away. -/
def grid (x : EReal) : EReal := x + lift x - lift x

theorem max_coe (r u : ℝ) : max (r : EReal) (u : EReal) = ((max r u : ℝ) : EReal) :=
  (EReal.coe_strictMono.monotone.map_max).symm

/-- On reals without rounding it is the identity. -/
theorem grid_real (x : ℝ) : grid x = x := by
  obtain ⟨⟨a, ha⟩, ⟨b, hb⟩, ⟨c, hc⟩, ⟨d, hd⟩⟩ := ofBits_reals
  have h : ∃ r : ℝ, lift x = r := by
    unfold lift
    rw [ha, hb, hc, hd, ← EReal.coe_mul, ← EReal.coe_mul, ← EReal.coe_sub, ← EReal.coe_neg, max_coe, max_coe, ← EReal.coe_mul]
    exact ⟨_, rfl⟩
  obtain ⟨r, hr⟩ := h
  unfold grid
  rw [hr, ← EReal.coe_add, ← EReal.coe_sub, add_sub_cancel_right]

/-! ## Sums -/

theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A factor that is a nonnegative real goes into a sum, whatever the terms. -/
theorem sum_mul {ι : Type} (s : Finset ι) (f : ι → EReal) {x : ℝ} (hx : 0 ≤ x) :
    (∑ i ∈ s, f i) * (x : EReal) = ∑ i ∈ s, f i * (x : EReal) := by
  classical
  induction s using Finset.induction_on with
  | empty => simp
  | insert i s hi ih =>
    rw [Finset.sum_insert hi, Finset.sum_insert hi,
      EReal.right_distrib_of_nonneg_of_ne_top (EReal.coe_nonneg.mpr hx) (EReal.coe_ne_top x), ih]

/-- The largest of some reals, from minus infinity, is a real. -/
theorem fold_max {ι : Type} (s : Finset ι) (hs : s.Nonempty) (f : ι → EReal)
    (hf : ∀ i, ∃ r : ℝ, f i = r) : ∃ r : ℝ, s.fold max ⊥ f = r := by
  classical
  induction hs using Finset.Nonempty.cons_induction with
  | singleton i =>
    obtain ⟨r, hr⟩ := hf i
    exact ⟨r, by rw [Finset.fold_singleton, hr, max_bot_right]⟩
  | cons i s hi _ ih =>
    obtain ⟨r, hr⟩ := hf i
    obtain ⟨u, hu⟩ := ih
    exact ⟨max r u, by rw [Finset.fold_cons, hr, hu]; exact (EReal.coe_strictMono.monotone.map_max).symm⟩

theorem exp2_real (x : ℝ) : Ideal.exp2 (x : EReal) = (((2 : ℝ) ^ x : ℝ) : EReal) := rfl

theorem exp2_sub (x m : ℝ) :
    Ideal.exp2 ((x : EReal) - (m : EReal)) = (((2 : ℝ) ^ (x - m) : ℝ) : EReal) := by
  rw [← EReal.coe_sub, exp2_real]

/-! ## The chunks' sums -/

section Chunks

variable {κ : Type} [Fintype κ]

/-- The weighted sum of the first `n` chunks' values, weights relative to `m`. -/
def taken (a : ℕ → κ → ℝ) (v : ℕ → κ → EReal) (n : ℕ) (m : ℝ) : EReal :=
  ∑ c ∈ Finset.range n, ∑ j, v c j * (((2 : ℝ) ^ (a c j - m) : ℝ) : EReal)

/-- The weights' sum. -/
def mass (a : ℕ → κ → ℝ) (n : ℕ) (m : ℝ) : ℝ :=
  ∑ c ∈ Finset.range n, ∑ j, (2 : ℝ) ^ (a c j - m)

/-- The softmax mean of the first `n` chunks' values. -/
def mean (a : ℕ → κ → ℝ) (v : ℕ → κ → EReal) (n : ℕ) : EReal :=
  ∑ c ∈ Finset.range n, ∑ j, v c j * (((2 : ℝ) ^ a c j / mass a n 0 : ℝ) : EReal)

theorem taken_zero (a : ℕ → κ → ℝ) (v : ℕ → κ → EReal) (m : ℝ) : taken a v 0 m = 0 := by
  simp [taken]

theorem taken_succ (a : ℕ → κ → ℝ) (v : ℕ → κ → EReal) (n : ℕ) (m : ℝ) :
    taken a v (n + 1) m
      = taken a v n m + ∑ j, v n j * (((2 : ℝ) ^ (a n j - m) : ℝ) : EReal) :=
  Finset.sum_range_succ _ _

/-- Weights relative to one base, made relative to another. -/
theorem taken_rescale (a : ℕ → κ → ℝ) (v : ℕ → κ → EReal) (n : ℕ) (m m' : ℝ) :
    taken a v n m * (((2 : ℝ) ^ (m - m') : ℝ) : EReal) = taken a v n m' := by
  have h : (0 : ℝ) ≤ (2 : ℝ) ^ (m - m') := (Real.rpow_pos_of_pos two_pos _).le
  unfold taken
  rw [sum_mul _ _ h]
  refine Finset.sum_congr rfl fun c _ => ?_
  rw [sum_mul _ _ h]
  refine Finset.sum_congr rfl fun j _ => ?_
  rw [mul_assoc, ← EReal.coe_mul, ← Real.rpow_add two_pos]
  congr 3
  ring

theorem taken_one (a : ℕ → κ → ℝ) (n : ℕ) (m : ℝ) :
    taken a (fun _ _ => 1) n m = ((mass a n m : ℝ) : EReal) := by
  simp only [taken, mass, one_mul, coe_sum]

theorem mass_eq (a : ℕ → κ → ℝ) (n : ℕ) (m : ℝ) : mass a n m = mass a n 0 * (2 : ℝ) ^ (-m) := by
  unfold mass
  rw [Finset.sum_mul]
  refine Finset.sum_congr rfl fun c _ => ?_
  rw [Finset.sum_mul]
  refine Finset.sum_congr rfl fun j _ => ?_
  rw [← Real.rpow_add two_pos]
  congr 1
  ring

theorem mass_pos [Nonempty κ] (a : ℕ → κ → ℝ) {n : ℕ} (hn : 0 < n) (m : ℝ) : 0 < mass a n m :=
  Finset.sum_pos (fun _ _ => Finset.sum_pos (fun _ _ => Real.rpow_pos_of_pos two_pos _)
    Finset.univ_nonempty) (Finset.nonempty_range_iff.mpr hn.ne')

/-- Values' sum over weights' sum is the mean, whatever the base. -/
theorem div_taken [Nonempty κ] (a : ℕ → κ → ℝ) (v : ℕ → κ → EReal) {n : ℕ} (hn : 0 < n) (m : ℝ) :
    Ideal.div (taken a v n m) (taken a (fun _ _ => 1) n m) = mean a v n := by
  have hp := mass_pos a hn m
  have h0 := mass_pos a hn 0
  have h : (0 : ℝ) ≤ 1 / mass a n m := (one_div_pos.mpr hp).le
  rw [taken_one, Ideal.div_coe hp.ne']
  unfold taken mean
  rw [sum_mul _ _ h]
  refine Finset.sum_congr rfl fun c _ => ?_
  rw [sum_mul _ _ h]
  refine Finset.sum_congr rfl fun j _ => ?_
  rw [mul_assoc, ← EReal.coe_mul]
  congr 2
  rw [mass_eq a n m, sub_eq_add_neg, Real.rpow_add two_pos]
  have h2 : (2 : ℝ) ^ (-m) ≠ 0 := (Real.rpow_pos_of_pos two_pos _).ne'
  field_simp

/-! ## The running maximum -/

/-- One chunk more, on top of a running maximum that is a real. -/
theorem online (a : ℕ → κ → ℝ) (v : ℕ → κ → EReal) (n : ℕ) (m m' : ℝ) (A : EReal)
    (hA : A = taken a v n m) (s : κ → EReal) (hs : ∀ j, s j = (a n j : EReal)) :
    A * Ideal.exp2 ((m : EReal) - (m' : EReal))
        + (0 + ∑ j, v n j * Ideal.exp2 (s j - (m' : EReal)))
      = taken a v (n + 1) m' := by
  rw [exp2_sub, hA, taken_rescale, taken_succ, zero_add]
  congr 1
  exact Finset.sum_congr rfl fun j _ => by rw [hs, exp2_sub]

/-- The first chunk, on top of a zero and minus infinity. -/
theorem online_first (a : ℕ → κ → ℝ) (v : ℕ → κ → EReal) (m' : ℝ)
    (s : κ → EReal) (hs : ∀ j, s j = (a 0 j : EReal)) :
    0 * Ideal.exp2 (⊥ - (m' : EReal))
        + (0 + ∑ j, v 0 j * Ideal.exp2 (s j - (m' : EReal)))
      = taken a v 1 m' := by
  rw [zero_mul, zero_add, zero_add, taken_succ, taken_zero, zero_add]
  exact Finset.sum_congr rfl fun j _ => by rw [hs, exp2_sub]

end Chunks

/-! ## A softmax over all keys at once -/

/-- The plain softmax weight of real scores, over the natural base with scores times `log 2`. -/
theorem weight_eq {κ : Type} [Fintype κ] [Nonempty κ] (a : κ → ℝ) (M : ℝ) (k : κ) :
    Ideal.div (Ideal.exp (((a k * Real.log 2 : ℝ) : EReal) - (M : EReal)))
        (∑ j, Ideal.exp (((a j * Real.log 2 : ℝ) : EReal) - (M : EReal)))
      = (((2 : ℝ) ^ a k / ∑ j, (2 : ℝ) ^ a j : ℝ) : EReal) := by
  have he : ∀ j, Ideal.exp (((a j * Real.log 2 : ℝ) : EReal) - (M : EReal))
      = (((2 : ℝ) ^ a j * Real.exp (-M) : ℝ) : EReal) := fun j => by
    rw [← EReal.coe_sub, Ideal.exp_coe, sub_eq_add_neg, Real.exp_add,
      Real.rpow_def_of_pos two_pos, mul_comm (a j)]
  have hs : (0 : ℝ) < ∑ j, (2 : ℝ) ^ a j :=
    Finset.sum_pos (fun _ _ => Real.rpow_pos_of_pos two_pos _) Finset.univ_nonempty
  have hM : Real.exp (-M) ≠ 0 := Real.exp_ne_zero _
  simp only [he]
  rw [← coe_sum, ← Finset.sum_mul, Ideal.div_coe (mul_ne_zero hs.ne' hM), ← EReal.coe_mul]
  congr 1
  field_simp

/-! ## Attention over 8192 keys, 32 chunks of 256 -/

/-- The place of a chunk's key. -/
def place (c : ℕ) (j : Fin 256) : Fin 8192 := ⟨256 * (c % 32) + j, by omega⟩

theorem sum_place {M : Type} [AddCommMonoid M] (f : Fin 8192 → M) :
    ∑ n, f n = ∑ c ∈ Finset.range 32, ∑ j, f (place c j) := by
  rw [Finset.sum_range fun c => ∑ j, f (place c j), ← Fintype.sum_prod_type' fun (c : Fin 32) j => f (place c j)]
  refine ((finProdFinEquiv (m := 32) (n := 256)).sum_comp f).symm.trans (Finset.sum_congr rfl fun x _ => ?_)
  congr 1
  refine Fin.ext ?_
  show x.2.val + 256 * x.1.val = 256 * (x.1.val % 32) + x.2.val
  have := x.1.isLt
  omega

/-- The values' mean under the softmax, over base two, of the keys' products with a query. -/
def attend (q : Fin 64 → ℝ) (k : Fin 8192 → Fin 64 → ℝ) (v : Fin 8192 → EReal) : EReal :=
  mean (fun c j => ∑ e, k (place c j) e * q e) (fun c j => v (place c j)) 32

theorem attend_eq (q : Fin 64 → ℝ) (k : Fin 8192 → Fin 64 → ℝ) (v : Fin 8192 → EReal) :
    attend q k v = ∑ n, v n * (((2 : ℝ) ^ (∑ e, k n e * q e) / ∑ i, (2 : ℝ) ^ (∑ e, k i e * q e) : ℝ) : EReal) := by
  rw [sum_place, sum_place fun i => (2 : ℝ) ^ (∑ e, k i e * q e)]
  unfold attend mean mass
  simp only [sub_zero]

end Cert.Soft

end
-- ==== Proof.Operands.lean ====
/-
  What the attention call is handed, at an index, from the arguments.
-/
module

public import proofs.«01_k».proof.Proof.Attn
public import proofs.«01_k».proof.Proof.Soft
public import Idealize.ShloMosaic.Lib.Pointwise
public import Idealize.ShloMosaic.Lib.Pipeline.ValueKit

@[expose] public section

noncomputable section

namespace Cert.KernelIdeal.Tiles

open Idealize.ShloMosaic Idealize.ShloMosaic.TcCoe Cert.KernelIdeal Cert.KernelIdeal.Gen

variable (m : (ℓ : Loc nD τ sig) → Buf (Elt Ideal) ℓ) (c : Dev nD)

def q₀ : Vec Ideal S2x4x3x64x8192 .f32 := m ((c.tc : Thread nD τ).loc main_arg0)
def k₀ : Vec Ideal S2x4x8192x64 .f32 := m ((c.tc : Thread nD τ).loc main_arg1)
def v₀ : Vec Ideal S2x4x8192x64 .f32 := m ((c.tc : Thread nD τ).loc main_arg2)

theorem entry_q (b : Fin 2) (h : Fin 4) (g : Fin 3) (d : Fin 64) (s : Fin 8192) :
    (V m c main_v0 : Vec Ideal S2x4x3x64x8192 .bf16) (ix5 b h g d s) = q₀ m c (ix5 b h g d s) := by
  entry_read
  pointwise
  rfl

theorem entry_k (b : Fin 2) (h : Fin 4) (s : Fin 8192) (d : Fin 64) :
    (V m c main_v73 : Vec Ideal S2x4x8192x64 .bf16) (ix4 b h s d) = k₀ m c (ix4 b h s d) := by
  entry_read
  pointwise
  rfl

theorem entry_v (b : Fin 2) (h : Fin 4) (n : Fin 32) (d : Fin 64) (j : Fin 256) :
    (V m c main_v63 : Vec Ideal S2x4x32x64x256 .bf16) (ix5 b h n d j) = v₀ m c (ix4 b h ⟨256 * n + j, by omega⟩ d) := by
  entry_read
  pointwise
  unfold v₀
  congr 1
  blk_ext

/-- What is added and taken away, of a whole operand. -/
def lifts {s : Shape} (hb : S_.BroadcastsInDim s (![] : Fin 0 → Fin s.rank)) (x : FVec Ideal s .f32) : FVec Ideal s .f32 :=
  mulf (maximumf (Host.absf (subf (mulf x (broadcastInDim s ![] hb (constant S_ .f32 0x4B000001#32)))
      (mulf (mulf x (broadcastInDim s ![] hb (constant S_ .f32 0x4B000001#32))) (broadcastInDim s ![] hb (constant S_ .f32 0x3F7FFFFF#32)))))
      (broadcastInDim s ![] hb (constant S_ .f32 0x3C800000#32))) (broadcastInDim s ![] hb (constant S_ .f32 0x49C00000#32))

/-- An operand rounded to its grid. -/
def grids {s : Shape} (hb : S_.BroadcastsInDim s (![] : Fin 0 → Fin s.rank)) (x : FVec Ideal s .f32) : FVec Ideal s .f32 :=
  subf (addf x (lifts hb x)) (lifts hb x)

theorem grids_at {s : Shape} (hb : S_.BroadcastsInDim s (![] : Fin 0 → Fin s.rank)) (x : FVec Ideal s .f32) (i : s.Idx) :
    grids hb x i = Soft.grid (x i) := by
  rfl

/-- The queries sixteen times. -/
def q₁₆ : FVec Ideal S2x4x3x64x8192 .f32 :=
  mulf (q₀ m c) (broadcastInDim S2x4x3x64x8192 ![] bcast_S_S2x4x3x64x8192 (constant S_ .f32 0x41800000#32))

theorem q₁₆_at (i : S2x4x3x64x8192.Idx) : q₁₆ m c i = q₀ m c i * Ideal.ofBits .f32 0x41800000#32 := by
  rfl

/-- The queries' four pieces. -/
def q₈ (x y z w : FVec Ideal S2x4x3x64x8192 .f32) : FVec Ideal S2x4x3x256x8192 .fp8e4m3 :=
  Host.convertf .fp8e4m3 (concatenate S2x4x3x256x8192 3 [⟨S2x4x3x64x8192, x⟩, ⟨S2x4x3x64x8192, y⟩, ⟨S2x4x3x64x8192, z⟩, ⟨S2x4x3x64x8192, w⟩]
    concatenates_S2x4x3x64x8192_S2x4x3x64x8192_S2x4x3x64x8192_S2x4x3x64x8192_S2x4x3x256x8192_d3)

/-- The keys' four pieces. -/
def k₈ (x y z w : FVec Ideal S2x4x8192x64 .f32) : FVec Ideal S2x4x8192x256 .fp8e4m3 :=
  Host.convertf .fp8e4m3 (concatenate S2x4x8192x256 3 [⟨S2x4x8192x64, x⟩, ⟨S2x4x8192x64, y⟩, ⟨S2x4x8192x64, z⟩, ⟨S2x4x8192x64, w⟩]
    concatenates_S2x4x8192x64_S2x4x8192x64_S2x4x8192x64_S2x4x8192x64_S2x4x8192x256_d3)

/-- One of four pieces. -/
def piece {α : Type} (f : Fin 4 → Fin 64 → α) (e : Fin 256) : α := f ⟨e / 64, by omega⟩ ⟨e % 64, by omega⟩

theorem piece_eq {α : Type} (x y z w : Fin 64 → α) (e : Fin 256) :
    (if h₀ : e.val < 64 then x ⟨e.val, h₀⟩ else if h₁ : e.val - 64 < 64 then y ⟨e.val - 64, h₁⟩
      else if h₂ : e.val - 64 - 64 < 64 then z ⟨e.val - 64 - 64, h₂⟩ else w ⟨e.val - 64 - 64 - 64, by omega⟩)
      = piece (fun p d => (![x, y, z, w] p) d) e := by
  unfold piece
  by_cases h₀ : e.val < 64
  · rw [dif_pos h₀]
    simp only [show e.val / 64 = 0 by omega, show e.val % 64 = e.val by omega]
    rfl
  rw [dif_neg h₀]
  by_cases h₁ : e.val - 64 < 64
  · rw [dif_pos h₁]
    simp only [show e.val / 64 = 1 by omega, show e.val % 64 = e.val - 64 by omega]
    rfl
  rw [dif_neg h₁]
  by_cases h₂ : e.val - 64 - 64 < 64
  · rw [dif_pos h₂]
    simp only [show e.val / 64 = 2 by omega, show e.val % 64 = e.val - 64 - 64 by omega]
    rfl
  rw [dif_neg h₂]
  simp only [show e.val / 64 = 3 by omega, show e.val % 64 = e.val - 64 - 64 - 64 by omega]
  rfl

theorem q₈_at (x y z w : FVec Ideal S2x4x3x64x8192 .f32) (b : Fin 2) (h : Fin 4) (g : Fin 3) (e : Fin 256) (s : Fin 8192) :
    q₈ x y z w (ix5 b h g e s) = piece (fun p d => (![fun d => x (ix5 b h g d s), fun d => y (ix5 b h g d s), fun d => z (ix5 b h g d s), fun d => w (ix5 b h g d s)] p) d) e := by
  rw [← piece_eq]
  pointwise [q₈]

theorem k₈_at (x y z w : FVec Ideal S2x4x8192x64 .f32) (b : Fin 2) (h : Fin 4) (s : Fin 8192) (e : Fin 256) :
    k₈ x y z w (ix4 b h s e) = piece (fun p d => (![fun d => x (ix4 b h s d), fun d => y (ix4 b h s d), fun d => z (ix4 b h s d), fun d => w (ix4 b h s d)] p) d) e := by
  rw [← piece_eq]
  pointwise [k₈]

end Cert.KernelIdeal.Tiles

end
-- ==== Proof.Pieces.lean ====
/-
  The two operands in four pieces, as the host line computes them.
-/
module

public import proofs.«01_k».proof.Proof.Operands
public import Idealize.ShloMosaic.Lib.StableHlo.RunRead

@[expose] public section

noncomputable section

namespace Cert.KernelIdeal.Tiles

open Idealize.ShloMosaic Idealize.ShloMosaic.TcCoe Cert.KernelIdeal Cert.KernelIdeal.Gen

variable (m : (ℓ : Loc nD τ sig) → Buf (Elt Ideal) ℓ) (c : Dev nD)

/-- The host line's first `n` results. -/
abbrev line (n : ℕ) := StableHlo.upto (hostOps0 (F := Ideal)) (fun b => m (c, b)) n

theorem q_hi : line m c 39 (Proc.tc.devRef main_v14) = grids bcast_S_S2x4x3x64x8192 (q₁₆ m c) := by
  unfold line
  after_reads_simp
  rfl

theorem q_lo : line m c 39 (Proc.tc.devRef main_v27)
    = grids bcast_S_S2x4x3x64x8192 (subf (q₁₆ m c) (grids bcast_S_S2x4x3x64x8192 (q₁₆ m c))) := by
  unfold line
  after_reads_simp
  rfl

theorem q_no : line m c 39 (Proc.tc.devRef main_v28)
    = broadcastInDim S2x4x3x64x8192 ![] bcast_S_S2x4x3x64x8192 (constant (F := Ideal) S_ .f32 0x00000000#32) := by
  unfold line
  after_reads_simp

theorem k_hi : line m c 78 (Proc.tc.devRef main_v44) = grids bcast_S_S2x4x8192x64 (k₀ m c) := by
  unfold line
  after_reads_simp
  rfl

theorem k_lo : line m c 78 (Proc.tc.devRef main_v57)
    = grids bcast_S_S2x4x8192x64 (subf (k₀ m c) (grids bcast_S_S2x4x8192x64 (k₀ m c))) := by
  unfold line
  after_reads_simp
  rfl

theorem k_no : line m c 78 (Proc.tc.devRef main_v58)
    = broadcastInDim S2x4x8192x64 ![] bcast_S_S2x4x8192x64 (constant (F := Ideal) S_ .f32 0x00000000#32) := by
  unfold line
  after_reads_simp

theorem entry_q8 : (V m c main_v30 : Vec Ideal S2x4x3x256x8192 .fp8e4m3)
    = q₈ (grids bcast_S_S2x4x3x64x8192 (q₁₆ m c)) (grids bcast_S_S2x4x3x64x8192 (q₁₆ m c))
        (grids bcast_S_S2x4x3x64x8192 (subf (q₁₆ m c) (grids bcast_S_S2x4x3x64x8192 (q₁₆ m c))))
        (broadcastInDim S2x4x3x64x8192 ![] bcast_S_S2x4x3x64x8192 (constant S_ .f32 0x00000000#32)) := by
  have h : (V m c main_v30 : Vec Ideal S2x4x3x256x8192 .fp8e4m3)
      = q₈ (line m c 39 (Proc.tc.devRef main_v14)) (line m c 39 (Proc.tc.devRef main_v14)) (line m c 39 (Proc.tc.devRef main_v27))
          (line m c 39 (Proc.tc.devRef main_v28)) := by
    unfold V q₈ line
    after_reads_simp
    rfl
  rw [h, q_hi, q_lo, q_no]

theorem entry_k8 : (V m c main_v60 : Vec Ideal S2x4x8192x256 .fp8e4m3)
    = k₈ (grids bcast_S_S2x4x8192x64 (k₀ m c)) (grids bcast_S_S2x4x8192x64 (subf (k₀ m c) (grids bcast_S_S2x4x8192x64 (k₀ m c))))
        (grids bcast_S_S2x4x8192x64 (k₀ m c))
        (broadcastInDim S2x4x8192x64 ![] bcast_S_S2x4x8192x64 (constant S_ .f32 0x00000000#32)) := by
  have h : (V m c main_v60 : Vec Ideal S2x4x8192x256 .fp8e4m3)
      = k₈ (line m c 78 (Proc.tc.devRef main_v44)) (line m c 78 (Proc.tc.devRef main_v57)) (line m c 78 (Proc.tc.devRef main_v44))
          (line m c 78 (Proc.tc.devRef main_v58)) := by
    unfold V k₈ line
    after_reads_simp
    rfl
  rw [h, k_hi, k_lo, k_no]

end Cert.KernelIdeal.Tiles

end
-- ==== Proof.Lanes.lean ====
/-
  The attention body's payloads at an index: scores, weights, the accumulator's update and the stored quotient.
-/
module

public import proofs.«01_k».proof.Proof.Point
public import proofs.«01_k».proof.Proof.Soft
public import Idealize.ShloMosaic.Lib.Pointwise

@[expose] public section

noncomputable section

namespace Cert.KernelIdeal.Tiles

open Idealize.ShloMosaic Idealize.ShloMosaic.TcCoe Cert.KernelIdeal Cert.KernelIdeal.Gen

/-- The values of a chunk over rows of ones: what the weights are multiplied by. -/
def ext (v : Vec Ideal S1x1x1x64x256 .bf16) (r : Fin 80) (j : Fin 256) : EReal :=
  if h : r.val < 64 then v (ix5 0 0 0 ⟨r.val, h⟩ j) else 1

theorem lane_lt (t : ℕ) (x : Fin 256) : 256 * (t % 12) + x.val < 3072 := by
  have := Nat.mod_lt t (by decide : 12 > 0)
  omega

theorem weights_at (q : FVec Ideal S256x3072 .fp8e4m3) (t : ℕ) (k : Vec Ideal S1x1x256x256 .fp8e4m3) (j x : Fin 256) :
    weights q t k (ix2 j x)
      = Ideal.exp2 ((0 + ∑ d : Fin 256, k (ix4 0 0 j d) * q (ix2 d ⟨256 * (t % 12) + x.val, lane_lt t x⟩)) * Ideal.ofBits .f32 0x3D800000#32) := by
  pointwise [weights]
  rfl

/-- The values over the ones. -/
theorem ones_at (v : Vec Ideal S1x1x1x64x256 .bf16) (r : Fin 80) (j : Fin 256) :
    concatenate S80x256 0 [⟨S64x256, shapeCast S64x256 v shapeCasts_S1x1x1x64x256_S64x256⟩, ⟨S16x256, (k0_pay976 : FVec Ideal S16x256 .bf16)⟩]
      concatenates_S64x256_S16x256_S80x256_d0 (ix2 r j) = ext v r j := by
  pointwise [k0_pay976]
  rfl

theorem added_at (v : Vec Ideal S1x1x1x64x256 .bf16) (w : FVec Ideal S256x256 .bf16) (a : Vec Ideal S80x256 .f32) (r : Fin 80) (x : Fin 256) :
    added k0_pay976 v w a (ix2 r x) = a (ix2 r x) + (0 + ∑ j : Fin 256, ext v r j * w (ix2 j x)) := by
  pointwise [added, k0_pay976]
  rfl

/-- Scores of a chunk of keys. -/
theorem scores_at (q : FVec Ideal S64x3072 .bf16) (k : Vec Ideal S1x1x256x64 .bf16) (j : Fin 256) (l : Fin 3072) :
    k0_pay984 q k (ix2 j l) = 0 + ∑ d : Fin 64, k (ix4 0 0 j d) * q (ix2 d l) := by
  pointwise [k0_pay984]

theorem newmax_at (s : Vec Ideal S1x3072 .f32) (x : Vec Ideal S1x1x3072 .f32) (l : Fin 3072) :
    k0_pay989 s x (ix2 0 l) = max (s (ix2 0 l)) (x (ix3 0 0 l)) := by
  pointwise [k0_pay989, k0_pay987]

theorem rescaled_at (s : Vec Ideal S1x3072 .f32) (x : Vec Ideal S1x1x3072 .f32) (S : Vec Ideal S256x3072 .f32)
    (v : Vec Ideal S1x1x1x64x256 .bf16) (a : Vec Ideal S80x3072 .f32) (r : Fin 80) (l : Fin 3072) :
    k0_pay988 k0_pay976 s x (shapeCast S1x256x3072 S shapeCasts_S256x3072_S1x256x3072) v a (ix2 r l)
      = a (ix2 r l) * Ideal.exp2 (s (ix2 0 l) - max (s (ix2 0 l)) (x (ix3 0 0 l)))
        + (0 + ∑ j : Fin 256, ext v r j * Ideal.exp2 (S (ix2 j l) - max (s (ix2 0 l)) (x (ix3 0 0 l)))) := by
  pointwise [k0_pay988, k0_pay987, k0_pay976]
  rfl

/-- A chunk's largest score is a real when its scores are. -/
theorem chunkmax_real (q : FVec Ideal S64x3072 .bf16) (k : Vec Ideal S1x1x256x64 .bf16)
    (l : Fin 3072) (h : ∀ j, ∃ x : ℝ, k0_pay984 q k (ix2 j l) = x) : ∃ x : ℝ, k0_pay986 q k (ix3 0 0 l) = x := by
  pointwise [k0_pay986]
  rw [Soft.ofBits_bot]
  exact Soft.fold_max _ Finset.univ_nonempty _ h

theorem quotient_at (A : Vec Ideal S80x3072 .f32) (d : Fin 64) (l : Fin 3072) :
    k0_pay990 A (ix2 d l) = Ideal.div (A (ix2 ⟨d.val, by omega⟩ l)) (A (ix2 64 l)) := by
  pointwise [k0_pay990]

/-- A window's place. -/
theorem emb_val {s : Shape} (off size : Fin s.rank → ℕ) (inb : ∀ a, off a + size a ≤ s.size a) (y : (Rect.unit off size inb).shape.Idx)
    (a : Fin s.rank) : ((Rect.unit off size inb).emb y a).val = off a + 1 * (y a).val := rfl

theorem keys_at (K : Vec Ideal S1x1x8192x256 .fp8e4m3) (t : ℕ) (j d : Fin 256) :
    keys K t (ix4 0 0 j d) = K (ix4 0 0 ⟨256 * (t / 12 % 32) + j.val, by omega⟩ d) := by
  have h : ∀ c : Fin 32, k0_off1 (BitVec.ofNat 32 c.val) = ![0, 0, 256 * c.val, 0] := by decide +kernel
  unfold keys VecWindow.window
  congr 1
  funext a
  refine Fin.ext ?_
  rw [emb_val, congrFun (h (chunk t)) a]
  match a with
  | ⟨0, _⟩ => rfl
  | ⟨1, _⟩ => rfl
  | ⟨2, _⟩ => show 256 * (t / 12 % 32) + 1 * j.val = 256 * (t / 12 % 32) + j.val; omega
  | ⟨3, _⟩ => show 0 + 1 * d.val = d.val; omega

theorem vals_at (V : Vec Ideal S1x1x32x64x256 .bf16) (t : ℕ) (r : Fin 64) (j : Fin 256) :
    vals V t (ix5 0 0 0 r j) = V (ix5 0 0 ⟨t / 12 % 32, by omega⟩ r j) := by
  have h : ∀ c : Fin 32, k0_off2 (BitVec.ofNat 32 c.val) = ![0, 0, c.val, 0, 0] := by decide +kernel
  unfold vals VecWindow.window
  congr 1
  funext a
  refine Fin.ext ?_
  rw [emb_val, congrFun (h (chunk t)) a]
  match a with
  | ⟨0, _⟩ => rfl
  | ⟨1, _⟩ => rfl
  | ⟨2, _⟩ => rfl
  | ⟨3, _⟩ => show 0 + 1 * r.val = r.val; omega
  | ⟨4, _⟩ => show 0 + 1 * j.val = j.val; omega

theorem rows_at (K : Vec Ideal S1x1x8192x64 .bf16) (t : ℕ) (j : Fin 256) (d : Fin 64) :
    rows K t (ix4 0 0 j d) = K (ix4 0 0 ⟨256 * min t 31 + j.val, by omega⟩ d) := by
  unfold rows VecWindow.window
  congr 1
  funext a
  refine Fin.ext ?_
  rw [emb_val]
  match a with
  | ⟨0, _⟩ => rfl
  | ⟨1, _⟩ => rfl
  | ⟨2, _⟩ => show 256 * min t 31 + 1 * j.val = 256 * min t 31 + j.val; omega
  | ⟨3, _⟩ => show 0 + 1 * d.val = d.val; omega

theorem cols_at (V : Vec Ideal S1x1x32x64x256 .bf16) (t : ℕ) (r : Fin 64) (j : Fin 256) :
    cols V t (ix5 0 0 0 r j) = V (ix5 0 0 ⟨t % 32, by omega⟩ r j) := by
  unfold cols VecWindow.window
  congr 1
  funext a
  refine Fin.ext ?_
  rw [emb_val]
  match a with
  | ⟨0, _⟩ => rfl
  | ⟨1, _⟩ => rfl
  | ⟨2, _⟩ => rfl
  | ⟨3, _⟩ => show 0 + 1 * r.val = r.val; omega
  | ⟨4, _⟩ => show 0 + 1 * j.val = j.val; omega

/-- A head's queries, in the block. -/
theorem head_at {e : EltTy} {n : ℕ} (Q : Vec Ideal ⟨5, ![1, 1, 3, n, 1024]⟩ e) (g : ℕ)
    (inb : ∀ a, (![0, 0, g, 0, 0] : Fin 5 → ℕ) a + (![1, 1, 1, n, 1024] : Fin 5 → ℕ) a ≤ (⟨5, ![1, 1, 3, n, 1024]⟩ : Shape).size a)
    (d : Fin n) (l : Fin 3072) (x : Fin 1024) (hx : l.val = 1024 * g + x.val) :
    VecWindow.window Q ![0, 0, g, 0, 0] ![1, 1, 1, n, 1024] inb (ix5 (0 : Fin 1) (0 : Fin 1) (0 : Fin 1) d x)
      = Q (ix5 0 0 ⟨l.val / 1024, by omega⟩ d ⟨l.val % 1024, by omega⟩) := by
  unfold VecWindow.window
  congr 1
  funext a
  refine Fin.ext ?_
  rw [emb_val]
  match a with
  | ⟨0, _⟩ => rfl
  | ⟨1, _⟩ => rfl
  | ⟨2, _⟩ => show g + 1 * 0 = l.val / 1024; omega
  | ⟨3, _⟩ => show 0 + 1 * d.val = d.val; omega
  | ⟨4, _⟩ => show 0 + 1 * x.val = l.val % 1024; omega

/-- The queries side by side, at a lane. -/
theorem side_at (Q8 : Vec Ideal S1x1x3x256x1024 .fp8e4m3) (d : Fin 256) (l : Fin 3072) :
    side Q8 (ix2 d l) = Q8 (ix5 0 0 ⟨l.val / 1024, by omega⟩ d ⟨l.val % 1024, by omega⟩) := by
  pointwise [side, head]
  split
  · exact head_at _ 0 _ d l ⟨l.val, _⟩ (by simp)
  · split
    · exact head_at _ 1 _ d l ⟨l.val - 1024, _⟩ (by show l.val = 1024 * 1 + (l.val - 1024); omega)
    · exact head_at _ 2 _ d l ⟨l.val - 1024 - 1024, _⟩ (by show l.val = 1024 * 2 + (l.val - 1024 - 1024); omega)

theorem qcat_at (Q : Vec Ideal S1x1x3x64x1024 .bf16) (d : Fin 64) (l : Fin 3072) :
    qcat Q (ix2 d l) = Q (ix5 0 0 ⟨l.val / 1024, by omega⟩ d ⟨l.val % 1024, by omega⟩) := by
  pointwise [qcat, k0_pay975]
  split
  · exact head_at _ 0 _ d l ⟨l.val, _⟩ (by simp)
  · split
    · exact head_at _ 1 _ d l ⟨l.val - 1024, _⟩ (by show l.val = 1024 * 1 + (l.val - 1024); omega)
    · exact head_at _ 2 _ d l ⟨l.val - 1024 - 1024, _⟩ (by show l.val = 1024 * 2 + (l.val - 1024 - 1024); omega)

/-- One tile, at a row and a lane. -/
theorem step_at (q : FVec Ideal S256x3072 .fp8e4m3) (K : Vec Ideal S1x1x8192x256 .fp8e4m3) (V : Vec Ideal S1x1x32x64x256 .bf16)
    (t : ℕ) (A : Vec Ideal S80x3072 .f32) (r : Fin 80) (l : Fin 3072) :
    step k0_pay976 q K V t A (ix2 r l)
      = if l.val / 256 = t % 12 then
          A (ix2 r l) + (0 + ∑ j : Fin 256, ext (vals V t) r j
            * Ideal.exp2 ((0 + ∑ d : Fin 256, keys K t (ix4 0 0 j d) * q (ix2 d l)) * Ideal.ofBits .f32 0x3D800000#32))
        else A (ix2 r l) := by
  unfold step VecWindow.put
  have hiff : (∀ a : Fin 2, (![0, 256 * (t % 12)] : Fin 2 → ℕ) a ≤ ((ix2 r l : S80x3072.Idx) a).val
      ∧ ((ix2 r l : S80x3072.Idx) a).val < (![0, 256 * (t % 12)] : Fin 2 → ℕ) a + S80x256.size a) ↔ l.val / 256 = t % 12 := by
    constructor
    · intro h
      have h1 := h 1
      have h2 : 256 * (t % 12) ≤ l.val ∧ l.val < 256 * (t % 12) + 256 := h1
      omega
    · intro h a
      match a with
      | ⟨0, _⟩ => exact ⟨Nat.zero_le _, by show r.val < 0 + 80; omega⟩
      | ⟨1, _⟩ => exact ⟨by show 256 * (t % 12) ≤ l.val; omega, by show l.val < 256 * (t % 12) + 256; omega⟩
  by_cases h : l.val / 256 = t % 12
  · rw [if_pos h, dif_pos (hiff.mpr h)]
    have hl : (Rect.unitLocal (s := S80x3072) (off := ![0, 256 * (t % 12)]) (size := S80x256.size) (ix2 r l) (hiff.mpr h))
        = (ix2 r ⟨l.val % 256, by omega⟩ : S80x256.Idx) := by
      funext a
      refine Fin.ext ?_
      match a with
      | ⟨0, _⟩ => show r.val - 0 = r.val; omega
      | ⟨1, _⟩ => show l.val - 256 * (t % 12) = l.val % 256; omega
    have hx : (⟨256 * (t % 12) + l.val % 256, by omega⟩ : Fin 3072) = l := Fin.ext (by show 256 * (t % 12) + l.val % 256 = l.val; omega)
    rw [hl, added_at]
    simp only [weights_at, hx]
    congr 1
    unfold VecWindow.window
    congr 1
    funext a
    refine Fin.ext ?_
    match a with
    | ⟨0, _⟩ => show 0 + 1 * r.val = r.val; omega
    | ⟨1, _⟩ => show 256 * (t % 12) + 1 * (l.val % 256) = l.val; omega
  · rw [if_neg h, dif_neg (fun hh => h (hiff.mp hh))]

/-- A store into head `g` of the result's block, read at an entry of that head. -/
theorem put_head (X : Vec Ideal S1x1x3x64x1024 .bf16) (w : Vec Ideal S1x1x1x64x1024 .bf16) (g' : ℕ) (g : Fin 3) (hg : g.val = g') (d : Fin 64) (x : Fin 1024) :
    VecWindow.put X ![0, 0, g', 0, 0] S1x1x1x64x1024.size w (ix5 0 0 g d x) = w (ix5 0 0 0 d x) := by
  unfold VecWindow.put
  rw [dif_pos]
  · congr 1
    funext a
    refine Fin.ext ?_
    match a with
    | ⟨0, _⟩ => rfl
    | ⟨1, _⟩ => rfl
    | ⟨2, _⟩ => show g.val - g' = 0; omega
    | ⟨3, _⟩ => show d.val - 0 = d.val; omega
    | ⟨4, _⟩ => show x.val - 0 = x.val; omega
  · intro a
    match a with
    | ⟨0, _⟩ => exact ⟨Nat.zero_le _, by show 0 < 0 + 1; omega⟩
    | ⟨1, _⟩ => exact ⟨Nat.zero_le _, by show 0 < 0 + 1; omega⟩
    | ⟨2, _⟩ => exact ⟨by show g' ≤ g.val; omega, by show g.val < g' + 1; omega⟩
    | ⟨3, _⟩ => exact ⟨Nat.zero_le _, by show d.val < 0 + 64; omega⟩
    | ⟨4, _⟩ => exact ⟨Nat.zero_le _, by show x.val < 0 + 1024; omega⟩

/-- A store into another head. -/
theorem put_other (X : Vec Ideal S1x1x3x64x1024 .bf16) (w : Vec Ideal S1x1x1x64x1024 .bf16) (g' : ℕ) (g : Fin 3) (hg : g.val ≠ g') (d : Fin 64) (x : Fin 1024) :
    VecWindow.put X ![0, 0, g', 0, 0] S1x1x1x64x1024.size w (ix5 0 0 g d x) = X (ix5 0 0 g d x) := by
  unfold VecWindow.put
  rw [dif_neg]
  intro h
  have h2 : g' ≤ g.val ∧ g.val < g' + 1 := h 2
  omega

theorem stored_at (X : Vec Ideal S1x1x3x64x1024 .bf16) (A : Vec Ideal S80x3072 .f32) (g : Fin 3) (d : Fin 64) (x : Fin 1024) :
    stored X A (ix5 0 0 g d x)
      = Ideal.div (A (ix2 ⟨d.val, by omega⟩ ⟨1024 * g.val + x.val, by omega⟩)) (A (ix2 64 ⟨1024 * g.val + x.val, by omega⟩)) := by
  unfold stored
  match g with
  | 2 =>
    rw [put_head _ _ 2 2 rfl]
    pointwise [k0_pay993, k0_pay990]
  | 1 =>
    rw [put_other _ _ 2 1 (by decide), put_head _ _ 1 1 rfl]
    pointwise [k0_pay992, k0_pay990]
  | 0 =>
    rw [put_other _ _ 2 0 (by decide), put_other _ _ 1 0 (by decide), put_head _ _ 0 0 rfl]
    pointwise [k0_pay991, k0_pay990]

end Cert.KernelIdeal.Tiles

end
-- ==== Proof.Mean.lean ====
/-
  Both paths of the attention body, at a lane whose scores are reals: the accumulator's rows over its row of weights are the softmax
  mean of the values.
-/
module

public import proofs.«01_k».proof.Proof.Lanes

@[expose] public section

noncomputable section

namespace Cert.KernelIdeal.Tiles

open Idealize.ShloMosaic Idealize.ShloMosaic.TcCoe Cert.KernelIdeal Cert.KernelIdeal.Gen

/-- Row `r` of the values over the ones, by chunk and key. -/
def vrow (V : Vec Ideal S1x1x32x64x256 .bf16) (r : Fin 80) (c : ℕ) (j : Fin 256) : EReal :=
  if h : r.val < 64 then V (ix5 0 0 ⟨c % 32, by omega⟩ ⟨r.val, h⟩ j) else 1

theorem ext_vals (V : Vec Ideal S1x1x32x64x256 .bf16) (t : ℕ) (r : Fin 80) (j : Fin 256) : ext (vals V t) r j = vrow V r (t / 12) j := by
  unfold ext vrow
  simp only [vals_at]

theorem ext_cols (V : Vec Ideal S1x1x32x64x256 .bf16) (t : ℕ) (r : Fin 80) (j : Fin 256) : ext (cols V t) r j = vrow V r t j := by
  unfold ext vrow
  simp only [cols_at]

theorem zero_at (r : Fin 80) (l : Fin 3072) : (k0_pay977 : FVec Ideal S80x3072 .f32) (ix2 r l) = 0 := by
  pointwise [k0_pay977]

theorem bot_at (l : Fin 3072) : (k0_pay983 : FVec Ideal S1x3072 .f32) (ix2 0 l) = ⊥ := by
  pointwise [k0_pay983]
  exact Soft.ofBits_bot

/-- The bounded path after `n` tiles, at a row and a lane: the chunks whose tile of this lane is done. -/
theorem bounded_at (q : FVec Ideal S256x3072 .fp8e4m3) (K : Vec Ideal S1x1x8192x256 .fp8e4m3) (V : Vec Ideal S1x1x32x64x256 .bf16)
    (l : Fin 3072) (a : ℕ → Fin 256 → ℝ)
    (hs : ∀ t, t < 384 → ∀ j, (0 + ∑ d : Fin 256, keys K t (ix4 0 0 j d) * q (ix2 d l)) * Ideal.ofBits .f32 0x3D800000#32 = (a (t / 12) j : EReal))
    (r : Fin 80) (n : ℕ) : n ≤ 384 →
    steps k0_pay976 q K V n 0 (k0_pay977 (F := Ideal)) (ix2 r l) = Soft.taken a (vrow V r) ((n + 11 - l.val / 256) / 12) 0 := by
  have hl : l.val / 256 < 12 := by omega
  induction n with
  | zero =>
    intro _
    rw [show (0 + 11 - l.val / 256) / 12 = 0 by omega, Soft.taken_zero]
    exact zero_at r l
  | succ n ih =>
    intro hn
    rw [show steps k0_pay976 q K V (n + 1) 0 (k0_pay977 (F := Ideal))
      = step k0_pay976 q K V n (steps k0_pay976 q K V n 0 (k0_pay977 (F := Ideal))) from by
        rw [← steps_add (m := 1) (n := n), Nat.zero_add]; rfl, step_at, ih (by omega)]
    by_cases h : l.val / 256 = n % 12
    · rw [if_pos h, show (n + 1 + 11 - l.val / 256) / 12 = n / 12 + 1 by omega,
        show (n + 11 - l.val / 256) / 12 = n / 12 by omega, Soft.taken_succ, zero_add]
      congr 1
      refine Finset.sum_congr rfl fun j _ => ?_
      rw [hs n (by omega), ext_vals, Soft.exp2_real, sub_zero]
    · rw [if_neg h, show (n + 1 + 11 - l.val / 256) / 12 = (n + 11 - l.val / 256) / 12 by omega]

/-- The general path after `n + 1` chunks, at a lane: a real running maximum, and weights relative to it. -/
theorem general_at (q : FVec Ideal S64x3072 .bf16) (K : Vec Ideal S1x1x8192x64 .bf16) (V : Vec Ideal S1x1x32x64x256 .bf16)
    (l : Fin 3072) (a : ℕ → Fin 256 → ℝ)
    (hs : ∀ t, t < 32 → ∀ j, k0_pay984 q (rows K t) (ix2 j l) = (a t j : EReal)) (n : ℕ) : n < 32 →
    ∃ m : ℝ, (after k0_pay976 q K V (k0_pay983 (F := Ideal), k0_pay977 (F := Ideal)) (n + 1)).1 (ix2 0 l) = m
      ∧ ∀ r : Fin 80, (after k0_pay976 q K V (k0_pay983 (F := Ideal), k0_pay977 (F := Ideal)) (n + 1)).2 (ix2 r l) = Soft.taken a (vrow V r) (n + 1) m := by
  induction n with
  | zero =>
    intro hn
    obtain ⟨m, hm⟩ := chunkmax_real q (rows K 0) l fun j => ⟨_, hs 0 hn j⟩
    refine ⟨m, ?_, fun r => ?_⟩
    · show k0_pay989 k0_pay983 (k0_pay986 q (rows K 0)) (ix2 0 l) = _
      rw [newmax_at, hm, bot_at, max_bot_left]
    · show k0_pay988 k0_pay976 k0_pay983 (k0_pay986 q (rows K 0)) (k0_pay985 q (rows K 0)) (cols V 0) (k0_pay977 (F := Ideal)) (ix2 r l) = _
      unfold k0_pay985
      rw [rescaled_at, hm, bot_at, max_bot_left, zero_at]
      simp only [ext_cols]
      exact Soft.online_first a (vrow V r) m _ (hs 0 hn)
  | succ n ih =>
    intro hn
    obtain ⟨m, h1, h2⟩ := ih (by omega)
    obtain ⟨x, hx⟩ := chunkmax_real q (rows K (n + 1)) l fun j => ⟨_, hs (n + 1) hn j⟩
    have hmax : max (m : EReal) (x : EReal) = ((max m x : ℝ) : EReal) := (EReal.coe_strictMono.monotone.map_max).symm
    refine ⟨max m x, ?_, fun r => ?_⟩
    · show k0_pay989 (after k0_pay976 q K V (k0_pay983 (F := Ideal), k0_pay977 (F := Ideal)) (n + 1)).1 (k0_pay986 q (rows K (n + 1))) (ix2 0 l) = _
      rw [newmax_at, hx, h1, hmax]
    · show k0_pay988 k0_pay976 (after k0_pay976 q K V (k0_pay983 (F := Ideal), k0_pay977 (F := Ideal)) (n + 1)).1 (k0_pay986 q (rows K (n + 1))) (k0_pay985 q (rows K (n + 1)))
        (cols V (n + 1)) (after k0_pay976 q K V (k0_pay983 (F := Ideal), k0_pay977 (F := Ideal)) (n + 1)).2 (ix2 r l) = _
      unfold k0_pay985
      rw [rescaled_at, hx, h1, hmax]
      simp only [ext_cols]
      exact Soft.online a (vrow V r) (n + 1) m (max m x) _ (h2 r) _ (hs (n + 1) hn)

/-- One entry of the result's block: the softmax mean of a row of values. -/
theorem result_mean (Q : Vec Ideal S1x1x3x64x1024 .bf16) (K : Vec Ideal S1x1x8192x64 .bf16) (Q8 : Vec Ideal S1x1x3x256x1024 .fp8e4m3)
    (K8 : Vec Ideal S1x1x8192x256 .fp8e4m3) (V : Vec Ideal S1x1x32x64x256 .bf16) (N : Vec Ideal S1x1x2x8192 .f32)
    (g : Fin 3) (d : Fin 64) (x : Fin 1024) (a : ℕ → Fin 256 → ℝ)
    (h8 : ∀ t, t < 384 → ∀ j, (0 + ∑ e : Fin 256, keys K8 t (ix4 0 0 j e) * side Q8 (ix2 e ⟨1024 * g.val + x.val, by omega⟩))
      * Ideal.ofBits .f32 0x3D800000#32 = (a (t / 12) j : EReal))
    (hs : ∀ t, t < 32 → ∀ j, k0_pay984 (qcat Q) (rows K t) (ix2 j ⟨1024 * g.val + x.val, by omega⟩) = (a t j : EReal)) :
    result Q K Q8 K8 V N (ix5 0 0 g d x) = Soft.mean a (fun c j => V (ix5 0 0 ⟨c % 32, by omega⟩ d j)) 32 := by
  have hd : vrow V ⟨d.val, by omega⟩ = fun c j => V (ix5 0 0 ⟨c % 32, by omega⟩ d j) := by
    funext c j
    exact dif_pos d.isLt
  have h1 : vrow V 64 = fun _ _ => 1 := by
    funext c j
    exact dif_neg (by decide)
  unfold result
  rw [stored_at]
  unfold total
  split
  · rw [bounded_at _ _ _ _ a h8 _ 384 le_rfl, bounded_at _ _ _ _ a h8 _ 384 le_rfl,
      show (384 + 11 - (1024 * g.val + x.val) / 256) / 12 = 32 by omega, hd, h1]
    exact Soft.div_taken a _ (by decide) 0
  · obtain ⟨m, _, hr⟩ := general_at (qcat Q) K V _ a hs 31 (by decide)
    rw [hr, hr, hd, h1]
    exact Soft.div_taken a _ (by decide) m

end Cert.KernelIdeal.Tiles

end
-- ==== Proof.Blocks.lean ====
/-
  The attention call's blocks, at an index, from the arguments, where queries and keys are reals.
-/
module

public import proofs.«01_k».proof.Proof.Pieces
public import proofs.«01_k».proof.Proof.Mean

@[expose] public section

noncomputable section

namespace Cert.KernelIdeal.Tiles

open Idealize.ShloMosaic Idealize.ShloMosaic.TcCoe Cert.KernelIdeal Cert.KernelIdeal.Gen

/-! ## The product of the two operands in four pieces -/

theorem sum_piece (f : Fin 4 → Fin 64 → EReal) : ∑ e : Fin 256, piece f e = ∑ p : Fin 4, ∑ d : Fin 64, f p d := by
  rw [← Fintype.sum_prod_type' f]
  exact (finProdFinEquiv (m := 4) (n := 64)).symm.sum_comp fun x => f x.1 x.2

theorem piece_mul (f g : Fin 4 → Fin 64 → EReal) (e : Fin 256) : piece f e * piece g e = piece (fun p d => f p d * g p d) e := rfl

/-- Keys against sixteen times the queries: only the first pieces count. -/
theorem pieces_dot (q k : Fin 64 → ℝ) :
    (0 + ∑ e : Fin 256, piece (fun p d => (![fun d => (k d : EReal), fun _ => 0, fun d => (k d : EReal), fun _ => 0] : Fin 4 → Fin 64 → EReal) p d) e
      * piece (fun p d => (![fun d => ((16 * q d : ℝ) : EReal), fun d => ((16 * q d : ℝ) : EReal), fun _ => 0, fun _ => 0] : Fin 4 → Fin 64 → EReal) p d) e)
      * Ideal.ofBits .f32 0x3D800000#32 = ((∑ d : Fin 64, k d * q d : ℝ) : EReal) := by
  simp only [piece_mul, sum_piece, Fin.sum_univ_four, Matrix.cons_val_zero, Matrix.cons_val_one, Matrix.cons_val, zero_mul, mul_zero,
    Finset.sum_const_zero, add_zero, zero_add]
  rw [Soft.ofBits_sixteenth]
  simp only [← EReal.coe_mul, ← Soft.coe_sum]
  congr 1
  rw [Finset.sum_mul]
  refine Finset.sum_congr rfl fun d _ => ?_
  ring

variable (m : (ℓ : Loc nD τ sig) → Buf (Elt Ideal) ℓ) (c : Dev nD)

/-- A query's pieces. -/
theorem entry_q8_at (b : Fin 2) (h : Fin 4) (g : Fin 3) (s : Fin 8192) (q : Fin 64 → ℝ) (hq : ∀ d, q₀ m c (ix5 b h g d s) = q d) (e : Fin 256) :
    (V m c main_v30 : Vec Ideal S2x4x3x256x8192 .fp8e4m3) (ix5 b h g e s)
      = piece (fun p d => (![fun d => ((16 * q d : ℝ) : EReal), fun d => ((16 * q d : ℝ) : EReal), fun _ => 0, fun _ => 0] : Fin 4 → Fin 64 → EReal) p d) e := by
  have h₁ : ∀ d, q₁₆ m c (ix5 b h g d s) = ((16 * q d : ℝ) : EReal) := fun d => by
    rw [q₁₆_at, hq, Soft.ofBits_sixteen, ← EReal.coe_mul, mul_comm]
  rw [entry_q8, q₈_at]
  have h₂ : (fun d => grids bcast_S_S2x4x3x64x8192 (q₁₆ m c) (ix5 b h g d s)) = fun d => ((16 * q d : ℝ) : EReal) :=
    funext fun d => by rw [grids_at, h₁, Soft.grid_real]
  have h₃ : (fun d => grids bcast_S_S2x4x3x64x8192 (subf (q₁₆ m c) (grids bcast_S_S2x4x3x64x8192 (q₁₆ m c))) (ix5 b h g d s)) = fun _ => 0 :=
    funext fun d => by
      rw [grids_at]
      show Soft.grid (q₁₆ m c (ix5 b h g d s) - grids bcast_S_S2x4x3x64x8192 (q₁₆ m c) (ix5 b h g d s)) = 0
      rw [congrFun h₂ d, h₁, ← EReal.coe_sub, Soft.grid_real, sub_self, EReal.coe_zero]
  have h₄ : (fun d : Fin 64 => broadcastInDim S2x4x3x64x8192 ![] bcast_S_S2x4x3x64x8192 (constant (F := Ideal) S_ .f32 0x00000000#32) (ix5 b h g d s))
      = fun _ => (0 : EReal) := funext fun d => Soft.ofBits_zero
  rw [h₂, h₃, h₄]

/-- A key's pieces. -/
theorem entry_k8_at (b : Fin 2) (h : Fin 4) (s : Fin 8192) (k : Fin 64 → ℝ) (hk : ∀ d, k₀ m c (ix4 b h s d) = k d) (e : Fin 256) :
    (V m c main_v60 : Vec Ideal S2x4x8192x256 .fp8e4m3) (ix4 b h s e)
      = piece (fun p d => (![fun d => (k d : EReal), fun _ => 0, fun d => (k d : EReal), fun _ => 0] : Fin 4 → Fin 64 → EReal) p d) e := by
  rw [entry_k8, k₈_at]
  have h₂ : (fun d => grids bcast_S_S2x4x8192x64 (k₀ m c) (ix4 b h s d)) = fun d => (k d : EReal) :=
    funext fun d => by rw [grids_at, hk, Soft.grid_real]
  have h₃ : (fun d => grids bcast_S_S2x4x8192x64 (subf (k₀ m c) (grids bcast_S_S2x4x8192x64 (k₀ m c))) (ix4 b h s d)) = fun _ => 0 :=
    funext fun d => by
      rw [grids_at]
      show Soft.grid (k₀ m c (ix4 b h s d) - grids bcast_S_S2x4x8192x64 (k₀ m c) (ix4 b h s d)) = 0
      rw [congrFun h₂ d, hk, ← EReal.coe_sub, Soft.grid_real, sub_self, EReal.coe_zero]
  have h₄ : (fun d : Fin 64 => broadcastInDim S2x4x8192x64 ![] bcast_S_S2x4x8192x64 (constant (F := Ideal) S_ .f32 0x00000000#32) (ix4 b h s d))
      = fun _ => (0 : EReal) := funext fun d => Soft.ofBits_zero
  rw [h₂, h₃, h₄]

/-! ## The blocks -/

/-- Where each window's block lies at a point. -/
theorem places : ∀ t : Fin cfg0.N,
    win0_0.index t = ![(t : ℕ) / 32, (t : ℕ) / 8 % 4, 0, 0, (t : ℕ) % 8] ∧ win0_1.index t = ![(t : ℕ) / 32, (t : ℕ) / 8 % 4, 0, 0]
    ∧ win0_2.index t = ![(t : ℕ) / 32, (t : ℕ) / 8 % 4, 0, 0, (t : ℕ) % 8] ∧ win0_3.index t = ![(t : ℕ) / 32, (t : ℕ) / 8 % 4, 0, 0]
    ∧ win0_4.index t = ![(t : ℕ) / 32, (t : ℕ) / 8 % 4, 0, 0, 0] ∧ win0_6.index t = ![(t : ℕ) / 32, (t : ℕ) / 8 % 4, 0, 0, (t : ℕ) % 8] :=
  (by decide +kernel : ∀ t : Fin grid0.N,
    win0_0.index t = ![(t : ℕ) / 32, (t : ℕ) / 8 % 4, 0, 0, (t : ℕ) % 8] ∧ win0_1.index t = ![(t : ℕ) / 32, (t : ℕ) / 8 % 4, 0, 0]
    ∧ win0_2.index t = ![(t : ℕ) / 32, (t : ℕ) / 8 % 4, 0, 0, (t : ℕ) % 8] ∧ win0_3.index t = ![(t : ℕ) / 32, (t : ℕ) / 8 % 4, 0, 0]
    ∧ win0_4.index t = ![(t : ℕ) / 32, (t : ℕ) / 8 % 4, 0, 0, 0] ∧ win0_6.index t = ![(t : ℕ) / 32, (t : ℕ) / 8 % 4, 0, 0, (t : ℕ) % 8])

theorem N_eq : cfg0.N = 64 := by decide +kernel

/-- A point's batch, head and run of queries. -/
def batch (t : Fin cfg0.N) : Fin 2 := ⟨t / 32, by have := lt_of_lt_of_eq t.isLt N_eq; omega⟩
def head' (t : Fin cfg0.N) : Fin 4 := ⟨t / 8 % 4, by omega⟩
def spot (t : Fin cfg0.N) (x : Fin 1024) : Fin 8192 := ⟨1024 * (t % 8) + x, by omega⟩

theorem block0_at (t : Fin cfg0.N) (g : Fin 3) (d : Fin 64) (x : Fin 1024) :
    (iblk m c 0 t : Vec Ideal S1x1x3x64x1024 .bf16) (ix5 0 0 g d x) = q₀ m c (ix5 (batch t) (head' t) g d (spot t x)) := by
  rw [← entry_q]
  unfold iblk
  show V m c main_v0 _ = V m c main_v0 _
  congr 1
  unfold batch head' spot
  blk_ext [places t]

theorem block2_at (t : Fin cfg0.N) (g : Fin 3) (d : Fin 256) (x : Fin 1024) :
    (iblk m c 2 t : Vec Ideal S1x1x3x256x1024 .fp8e4m3) (ix5 0 0 g d x) = (V m c main_v30 : Vec Ideal S2x4x3x256x8192 .fp8e4m3) (ix5 (batch t) (head' t) g d (spot t x)) := by
  unfold iblk
  show V m c main_v30 _ = V m c main_v30 _
  congr 1
  unfold batch head' spot
  blk_ext [places t]

theorem block1_at (t : Fin cfg0.N) (s : Fin 8192) (d : Fin 64) :
    (iblk m c 1 t : Vec Ideal S1x1x8192x64 .bf16) (ix4 0 0 s d) = k₀ m c (ix4 (batch t) (head' t) s d) := by
  rw [← entry_k]
  unfold iblk
  show V m c main_v73 _ = V m c main_v73 _
  congr 1
  unfold batch head'
  blk_ext [places t]

theorem block3_at (t : Fin cfg0.N) (s : Fin 8192) (e : Fin 256) :
    (iblk m c 3 t : Vec Ideal S1x1x8192x256 .fp8e4m3) (ix4 0 0 s e)
      = (V m c main_v60 : Vec Ideal S2x4x8192x256 .fp8e4m3) (ix4 (batch t) (head' t) s e) := by
  unfold iblk
  show V m c main_v60 _ = V m c main_v60 _
  congr 1
  unfold batch head'
  blk_ext [places t]

theorem block4_emb (t : Fin cfg0.N) (n : Fin 32) (d : Fin 64) (j : Fin 256) :
    ((cfg0.win 4).blk t).view.emb (ix5 0 0 n d j) = (ix5 (batch t) (head' t) n d j : S2x4x32x64x256.Idx) := by
  unfold batch head'
  blk_ext [places t]

theorem block4_read (t : Fin cfg0.N) (n : Fin 32) (d : Fin 64) (j : Fin 256) :
    (iblk m c 4 t : Vec Ideal S1x1x32x64x256 .bf16) (ix5 0 0 n d j)
      = (V m c main_v63 : Vec Ideal S2x4x32x64x256 .bf16) (ix5 (batch t) (head' t) n d j) :=
  congrArg (V m c main_v63) (block4_emb t n d j)

theorem block4_at (t : Fin cfg0.N) (n : Fin 32) (d : Fin 64) (j : Fin 256) :
    (iblk m c 4 t : Vec Ideal S1x1x32x64x256 .bf16) (ix5 0 0 n d j) = v₀ m c (ix4 (batch t) (head' t) ⟨256 * n + j, by omega⟩ d) :=
  (block4_read m c t n d j).trans (entry_v m c (batch t) (head' t) n d j)

/-! ## The result -/

/-- Where queries and keys are reals, every entry of the result is the attention of its query. -/
def goal (Q : Fin 2 → Fin 4 → Fin 3 → Fin 8192 → Fin 64 → ℝ) (K : Fin 2 → Fin 4 → Fin 8192 → Fin 64 → ℝ) : S2x4x3x64x8192.Idx → EReal := fun i =>
  Soft.attend (Q (i 0) (i 1) (i 2) (i 4)) (K (i 0) (i 1)) fun n => v₀ m c (ix4 (i 0) (i 1) n (i 3))

variable (Q : Fin 2 → Fin 4 → Fin 3 → Fin 8192 → Fin 64 → ℝ) (K : Fin 2 → Fin 4 → Fin 8192 → Fin 64 → ℝ)

theorem block_at (hQ : ∀ b h g s d, q₀ m c (ix5 b h g d s) = Q b h g s d) (hK : ∀ b h s d, k₀ m c (ix4 b h s d) = K b h s d)
    (t : Fin cfg0.N) (g : Fin 3) (d : Fin 64) (x : Fin 1024) :
    block m c t (ix5 0 0 g d x) = goal m c Q K (ix5 (batch t) (head' t) g d (spot t x)) := by
  have hg : (⟨(1024 * g.val + x.val) / 1024, by omega⟩ : Fin 3) = g := Fin.ext (by show (1024 * g.val + x.val) / 1024 = g.val; omega)
  have hx : (⟨(1024 * g.val + x.val) % 1024, by omega⟩ : Fin 1024) = x := Fin.ext (by show (1024 * g.val + x.val) % 1024 = x.val; omega)
  refine (result_mean (iblk m c 0 t) (iblk m c 1 t) (iblk m c 2 t) (iblk m c 3 t) (iblk m c 4 t) (iblk m c 5 t) g d x
    (fun n j => ∑ e, K (batch t) (head' t) (Soft.place n j) e * Q (batch t) (head' t) g (spot t x) e) (fun n _ j => ?_) fun n hn j => ?_).trans ?_
  · refine (congrArg (fun z : EReal => (0 + z) * Ideal.ofBits .f32 0x3D800000#32) (Finset.sum_congr rfl fun e _ => ?_)).trans
      (pieces_dot (Q (batch t) (head' t) g (spot t x)) (K (batch t) (head' t) (Soft.place (n / 12) j)))
    rw [keys_at, side_at, hg, hx, block3_at, block2_at, entry_q8_at m c _ _ _ _ _ (hQ (batch t) (head' t) g (spot t x)),
      entry_k8_at m c _ _ _ _ (hK (batch t) (head' t) _)]
    rfl
  · rw [scores_at, zero_add, Soft.coe_sum]
    refine Finset.sum_congr rfl fun e _ => ?_
    rw [rows_at, qcat_at, hg, hx, block1_at, block0_at, hQ, hK, EReal.coe_mul]
    congr 4
    show 256 * min n 31 + j.val = 256 * (n % 32) + j.val
    omega
  · show _ = Soft.attend _ _ _
    unfold Soft.attend
    congr 1
    funext n j
    rw [block4_at]
    rfl

set_option maxHeartbeats 4000000 in
theorem array_eq (hQ : ∀ b h g s d, q₀ m c (ix5 b h g d s) = Q b h g s d) (hK : ∀ b h s d, k₀ m c (ix4 b h s d) = K b h s d) :
    (flow m 0 c).arrAt 6 cfg0.N = goal m c Q K := by
  refine (flow m 0 c).arrAt_eq_of_covers 6 _ (by decide +kernel) fun t hf y => ?_
  blk_simp
  rw [show (flow m 0 c).after 6 t = block m c t by dsimp only [flow]]
  have hy : y = ix5 0 0 (y 2) (y 3) (y 4) := by blk_ext
  generalize hi : ((View.whole main_v74).slice (win0_6.rect t)).emb y = i
  rw [hy]
  refine (block_at m c Q K hQ hK t (y 2) (y 3) (y 4)).trans ?_
  subst hi
  congr 1
  unfold batch head' spot
  blk_ext [places t]

end Cert.KernelIdeal.Tiles

end
-- ==== Proof.AttnRef.lean ====
/-
  The plain attention at an index, where queries and keys are reals.
-/
module

public import proofs.«01_k».proof.Proof.Gen.ReferenceIdeal.Run
public import proofs.«01_k».proof.Proof.Soft
public import Idealize.ShloMosaic.Lib.Pointwise

@[expose] public section

noncomputable section

namespace Cert.ReferenceIdeal.Stages

open Cert.ReferenceIdeal Cert.ReferenceIdeal.Gen Idealize.ShloMosaic Idealize.ShloMosaic.TcCoe

/-- Scores, over the natural base. -/
def scores (q : FVec Ideal S2x4x3x64x8192 .f32) (k : FVec Ideal S2x4x8192x64 .f32) : FVec Ideal S2x4x3x8192x8192 .f32 :=
  mulf (Host.dotGeneral dot_S2x4x3x64x8192_S2x4x8192x64_S2x4x3x8192x8192_3_3_24_2_01_01 none q k)
    (broadcastInDim S2x4x3x8192x8192 ![] bcast_S_S2x4x3x8192x8192 (Host.log (constant S_ .f32 0x40000000#32)))

/-- Each query's largest score. -/
def tops (s : FVec Ideal S2x4x3x8192x8192 .f32) : FVec Ideal S2x4x3x8192 .f32 :=
  maximumf (broadcastInDim S2x4x3x8192 ![] bcast_S_S2x4x3x8192 (constant S_ .f32 0xFF800000#32))
    (Host.reduce FloatOps.maximumf s (constant S_ .f32 0xFF800000#32) reducesTo_S2x4x3x8192x8192_S2x4x3x8192_d4 h_S_)

/-- One number per query, over all keys. -/
def spread (x : FVec Ideal S2x4x3x8192 .f32) : FVec Ideal S2x4x3x8192x8192 .f32 :=
  broadcastInDim S2x4x3x8192x8192 ![0, 1, 2, 3, 4] bcast_S2x4x3x8192x1_S2x4x3x8192x8192_0_1_2_3_4
    (broadcastInDim S2x4x3x8192x1 ![0, 1, 2, 3] bcast_S2x4x3x8192_S2x4x3x8192x1_0_1_2_3 x)

/-- Exponentials relative to the largest score. -/
def exps (s : FVec Ideal S2x4x3x8192x8192 .f32) (t : FVec Ideal S2x4x3x8192 .f32) : FVec Ideal S2x4x3x8192x8192 .f32 :=
  Host.exp (subf s (spread t))

/-- The softmax's weights. -/
def weights (e : FVec Ideal S2x4x3x8192x8192 .f32) : FVec Ideal S2x4x3x8192x8192 .f32 :=
  Host.divf e (spread (Host.reduceAdd e (constant S_ .f32 0x00000000#32) reducesTo_S2x4x3x8192x8192_S2x4x3x8192_d4 h_S_))

/-- The values' mean. -/
def means (v : FVec Ideal S2x4x8192x64 .f32) (w : FVec Ideal S2x4x3x8192x8192 .f32) : FVec Ideal S2x4x3x64x8192 .bf16 :=
  truncf .bf16 (transpose S2x4x3x64x8192 [0, 1, 3, 2, 4]
    (Host.dotGeneral dot_S2x4x8192x64_S2x4x3x8192x8192_S2x4x64x3x8192_2_4_3_23_01_01 none v w)
    transposes_S2x4x64x3x8192_S2x4x3x64x8192_0_1_3_2_4) bitsLt_bf16_f32

theorem scores_at (q : FVec Ideal S2x4x3x64x8192 .f32) (k : FVec Ideal S2x4x8192x64 .f32) (b : Fin 2) (h : Fin 4) (g : Fin 3) (s n : Fin 8192) :
    scores q k (ix5 b h g s n) = (0 + ∑ d : Fin 64, q (ix5 b h g d s) * k (ix4 b h n d)) * Ideal.log (Ideal.ofBits .f32 0x40000000#32) := by
  pointwise [scores]

/-- A largest entry, from minus infinity, of reals along an axis. -/
theorem max_real {s t u : Shape} {a : Fin s.rank} (x : FVec Ideal s .f32) (y : FVec Ideal t .f32) (z : FVec Ideal u .f32) (h' : s.ReducesTo [a] t)
    (h : s.Reduces [a] t) (hu : 0 < u.numel) (ha : 0 < s.size a) (hx : ∀ i, ∃ r : ℝ, x i = r) (hy : ∀ i, y i = (⊥ : EReal)) (hz : ∀ i, z i = (⊥ : EReal))
    (j : t.Idx) : ∃ r : ℝ, maximumf y (Host.reduce FloatOps.maximumf x z h' hu) j = r := by
  show ∃ r : ℝ, max (y j) (Host.reduce (max : EReal → EReal → EReal) x z h' hu j) = r
  rw [Host.reduce_eq_fold_single max x z h' h hu j, hy, hz]
  obtain ⟨r, hr⟩ := Soft.fold_max Finset.univ ⟨⟨0, ha⟩, Finset.mem_univ _⟩ (x ∘ h.lift j) fun k => hx _
  exact ⟨r, by rw [hr, max_bot_left]⟩

theorem bots_at {t : Shape} (hb : S_.BroadcastsInDim t (![] : Fin 0 → Fin t.rank)) (i : t.Idx) :
    broadcastInDim t ![] hb (constant (F := Ideal) S_ .f32 0xFF800000#32) i = (⊥ : EReal) := Soft.ofBits_bot

theorem reduces : S2x4x3x8192x8192.Reduces [4] S2x4x3x8192 := by decide

theorem tops_real (x : FVec Ideal S2x4x3x8192x8192 .f32) (hx : ∀ i, ∃ r : ℝ, x i = r) (i : S2x4x3x8192.Idx) : ∃ r : ℝ, tops x i = r := by
  unfold tops
  exact max_real x _ _ reducesTo_S2x4x3x8192x8192_S2x4x3x8192_d4 reduces h_S_ (by decide) hx (bots_at _) (fun _ => Soft.ofBits_bot) i

theorem exps_at (x : FVec Ideal S2x4x3x8192x8192 .f32) (y : FVec Ideal S2x4x3x8192 .f32) (b : Fin 2) (h : Fin 4) (g : Fin 3) (s n : Fin 8192) :
    exps x y (ix5 b h g s n) = Ideal.exp (x (ix5 b h g s n) - y (ix4 b h g s)) := by
  pointwise [exps, spread]

theorem weights_at (x : FVec Ideal S2x4x3x8192x8192 .f32) (b : Fin 2) (h : Fin 4) (g : Fin 3) (s n : Fin 8192) :
    weights x (ix5 b h g s n) = Ideal.div (x (ix5 b h g s n)) (0 + ∑ i : Fin 8192, x (ix5 b h g s i)) := by
  pointwise [weights, spread]

theorem means_at (v : FVec Ideal S2x4x8192x64 .f32) (w : FVec Ideal S2x4x3x8192x8192 .f32) (b : Fin 2) (h : Fin 4) (g : Fin 3) (d : Fin 64) (s : Fin 8192) :
    means v w (ix5 b h g d s) = 0 + ∑ n : Fin 8192, v (ix4 b h n d) * w (ix5 b h g s n) := by
  pointwise [means]

variable (Q : Fin 2 → Fin 4 → Fin 3 → Fin 8192 → Fin 64 → ℝ) (K : Fin 2 → Fin 4 → Fin 8192 → Fin 64 → ℝ)

/-- The plain attention of real queries and keys. -/
theorem attention_at (q : FVec Ideal S2x4x3x64x8192 .f32) (k v : FVec Ideal S2x4x8192x64 .f32)
    (hQ : ∀ b h g s d, q (ix5 b h g d s) = Q b h g s d) (hK : ∀ b h s d, k (ix4 b h s d) = K b h s d)
    (b : Fin 2) (h : Fin 4) (g : Fin 3) (d : Fin 64) (s : Fin 8192) :
    means v (weights (exps (scores q k) (tops (scores q k)))) (ix5 b h g d s)
      = Soft.attend (Q b h g s) (K b h) fun n => v (ix4 b h n d) := by
  have hs : ∀ b h g s n, scores q k (ix5 b h g s n) = (((∑ e, K b h n e * Q b h g s e) * Real.log 2 : ℝ) : EReal) := fun b h g s n => by
    rw [scores_at, Soft.ofBits_two, Ideal.log_coe, if_neg (by norm_num), zero_add, EReal.coe_mul, Soft.coe_sum]
    congr 1
    refine Finset.sum_congr rfl fun e _ => ?_
    rw [hQ, hK, mul_comm, EReal.coe_mul]
  obtain ⟨M, hM⟩ := tops_real (scores q k) (fun i => ⟨_, (congrArg (scores q k) (eq_ix5 i)).trans (hs (i 0) (i 1) (i 2) (i 3) (i 4))⟩) (ix4 b h g s)
  rw [means_at, zero_add, Soft.attend_eq]
  refine Finset.sum_congr rfl fun n _ => ?_
  rw [weights_at, zero_add, ← Soft.weight_eq (fun i => ∑ e, K b h i e * Q b h g s e) M n]
  simp only [exps_at, hs, hM]

end Cert.ReferenceIdeal.Stages

end
-- ==== Proof.AttnEq.lean ====
/-
  The attention call's result and the plain attention's are one array, where queries and keys are finite.
-/
module

public import proofs.«01_k».proof.Defs
public import proofs.«01_k».proof.Proof.Gen.Pre_finite
public import proofs.«01_k».proof.Proof.Blocks
public import proofs.«01_k».proof.Proof.AttnRef

@[expose] public section

noncomputable section

namespace Cert.AttnEq

open Idealize.ShloMosaic Idealize.ShloMosaic.TcCoe Idealize.SL.Sem Cert.KernelIdeal.Tiles

theorem real_of_lt {x : EReal} (h : max x (-x) < ⊤) : x = (x.toReal : EReal) := by
  refine (EReal.coe_toReal ?_ ?_).symm
  · rintro rfl
    exact absurd h (by simp)
  · rintro rfl
    exact absurd h (by simp)

/-- The comparison that the precondition makes. -/
theorem real_of_finite {x : EReal} (h : Ideal.cmp .olt (max x (-x)) (Ideal.ofBits .f32 0x7F800000#32) = 1#1) : x = (x.toReal : EReal) := by
  rw [Soft.ofBits_top] at h
  refine real_of_lt ?_
  by_contra hn
  have h' : BitVec.ofBool (decide (max x (-x) < ⊤)) = 1#1 := h
  rw [decide_eq_false hn] at h'
  exact absurd h' (by decide)

/-- The attention call's run, its result array named. -/
theorem run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v74) = (flow m 0 c).arrAt 6 Cert.KernelIdeal.cfg0.N) :=
  (θ_run _ _ _).mono (fun _ h c => (h.1 c).1 6) (launched m g)

theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  have hQ : ∀ c b h k s d, q₀ m c (ix5 b h k d s) = ((q₀ m c (ix5 b h k d s)).toReal : EReal) := fun c b h k s d =>
    real_of_finite (congrFun (hpre c).1 (ix5 b h k d s))
  have hK : ∀ c b h s d, k₀ m c (ix4 b h s d) = ((k₀ m c (ix4 b h s d)).toReal : EReal) := fun c b h s d =>
    real_of_finite (congrFun (hpre c).2 (ix4 b h s d))
  refine ⟨fun c => goal m c (fun b h k s d => (q₀ m c (ix5 b h k d s)).toReal) (fun b h s d => (k₀ m c (ix4 b h s d)).toReal), ?_, ?_⟩
  · refine (θ_run _ _ _).mono (fun r h c => ?_) (θ_run_and (run m g) (attn_frame m g))
    exact ⟨(h.1 c).trans (array_eq m c _ _ (hQ c) (hK c)), h.2.1 c⟩
  · refine (θ_run _ _ _).mono (fun r h c => ?_) (Cert.ReferenceIdeal.Value.run m' g')
    refine ⟨(h c).1.trans ?_, (h c).2⟩
    obtain ⟨h0, h1, h2⟩ := hag c
    rw [h0, h1, h2]
    funext i
    rw [eq_ix5 i]
    exact Cert.ReferenceIdeal.Stages.attention_at _ _ (q₀ m c) (k₀ m c) (v₀ m c) (hQ c) (hK c) (i 0) (i 1) (i 2) (i 3) (i 4)

end Cert.AttnEq

end
-- ==== Proof.ProjRow.lean ====
/-
  One token before the attention, over the extended reals: the projection of a normalised row, and a head normalised and
turned by its position. No array, no grid and no launch appears here.
-/
module

public import proofs.«01_k».proof.Proof.TailRow

@[expose] public section

noncomputable section

namespace Cert.Proj

open Idealize.ShloMosaic

/-- A row times a column. -/
def along (h w : Fin 1024 → EReal) : EReal := ∑ k, h k * w k

/-- The head's length as the programs' literal. -/
def length : EReal := Ideal.ofBits .f32 0x42800000#32

/-- A head divided by the root of its mean square, then scaled. -/
def unit (u g : Fin 64 → EReal) (i : Fin 64) : EReal :=
  u i * Ideal.rsqrt (Ideal.div (∑ k, u k * u k) length + Tail.eps) * g i

/-- Thirty-two pairs turned; the first members come out before the second ones. -/
def turn (a b c s : Fin 32 → EReal) (i : Fin 64) : EReal :=
  if h : i.val < 32 then a ⟨i, h⟩ * c ⟨i, h⟩ - b ⟨i, h⟩ * s ⟨i, h⟩
  else a ⟨i - 32, by omega⟩ * s ⟨i - 32, by omega⟩ + b ⟨i - 32, by omega⟩ * c ⟨i - 32, by omega⟩

/-- A head normalised, its adjacent pairs turned. -/
def turned (u g : Fin 64 → EReal) (c s : Fin 32 → EReal) : Fin 64 → EReal :=
  turn (fun i => unit u g ⟨2 * i, by omega⟩) (fun i => unit u g ⟨1 + 2 * i, by omega⟩) c s

/-- A head normalised, each feature turned with the one thirty-two later. -/
def apart (u g : Fin 64 → EReal) (c s : Fin 32 → EReal) : Fin 64 → EReal :=
  turn (fun i => unit u g ⟨i, by omega⟩) (fun i => unit u g ⟨32 + i, by omega⟩) c s

theorem apart_congr {u u' g g' : Fin 64 → EReal} {c c' s s' : Fin 32 → EReal} (hu : u = u') (hg : g = g') (hc : c = c') (hs : s = s')
    (d : Fin 64) : apart u g c s d = apart u' g' c' s' d := by
  rw [hu, hg, hc, hs]

/-- Where a feature of the split order stands among the adjacent pairs. -/
def spread (i : Fin 64) : Fin 64 := ⟨2 * (i.val % 32) + i.val / 32, by omega⟩

theorem spread_bijective : Function.Bijective spread := by decide +kernel

theorem unit_spread (u g : Fin 64 → EReal) (i : Fin 64) :
    unit (fun k => u (spread k)) (fun k => g (spread k)) i = unit u g (spread i) := by
  unfold unit
  rw [Function.Bijective.sum_comp spread_bijective fun k => u k * u k]

/-- The split order gives the same turned head. -/
theorem apart_spread (u g : Fin 64 → EReal) (c s : Fin 32 → EReal) :
    apart (fun k => u (spread k)) (fun k => g (spread k)) c s = turned u g c s := by
  unfold apart turned
  congr 1
  · funext i
    rw [unit_spread]
    congr 1
    exact Fin.ext (by simp only [spread]; omega)
  · funext i
    rw [unit_spread]
    congr 1
    exact Fin.ext (by simp only [spread]; omega)

end Cert.Proj

end
-- ==== Proof.ProjKernel.lean ====
/-
  One block of 1024 tokens through the projection call: what its payloads hold at an index.
-/
module

public import proofs.«01_k».proof.Proof.Gen.Kernel3Ideal.Frame
public import proofs.«01_k».proof.Proof.ProjRow

@[expose] public section

noncomputable section

namespace Cert.Kernel3Ideal.Stages

open Cert.Kernel3Ideal Cert.Kernel3Ideal.Gen Idealize.ShloMosaic Idealize.ShloMosaic.TcCoe

theorem norm_at (x : FVec Ideal S1x1024x1024 .f32) (g : FVec Ideal S1x1024 .f32) (r j : Fin 1024) :
    k0_pay5 (F := Ideal) x g (ix2 r j) = Tail.norm (fun k => x (ix3 0 r k)) (fun k => g (ix2 0 k)) j := by
  pointwise [k0_pay5]
  rfl

/-- A row of the weights times a token. -/
theorem rows_at (x : FVec Ideal S1x1024x1024 .f32) (g : FVec Ideal S1x1024 .f32) (w : FVec Ideal S1280x1024 .bf16) (o : Fin 1280) (r : Fin 1024) :
    k0_pay6 (F := Ideal) x g w (ix2 o r)
      = Proj.along (Tail.norm (fun k => x (ix3 0 r k)) (fun k => g (ix2 0 k))) (fun k => w (ix2 o k)) := by
  have h : k0_pay6 (F := Ideal) x g w (ix2 o r) = ∑ k : Fin 1024, w (ix2 o k) * k0_pay5 (F := Ideal) x g (ix2 r k) := by
    unfold k0_pay6
    generalize k0_pay5 (F := Ideal) x g = h
    pointwise
  rw [h]
  unfold Proj.along
  exact Finset.sum_congr rfl fun k _ => by rw [norm_at, mul_comm]

theorem heads₁₂_at (x : FVec Ideal S1x1024x1024 .f32) (g : FVec Ideal S1x1024 .f32) (w : FVec Ideal S1280x1024 .bf16) (h : Fin 12) (d : Fin 64) (r : Fin 1024) :
    k0_pay10 (F := Ideal) x g w (ix3 h d r) = k0_pay6 (F := Ideal) x g w (ix2 ⟨h * 64 + d, by omega⟩ r) := by
  unfold k0_pay10
  generalize k0_pay6 (F := Ideal) x g w = p
  pointwise

theorem heads₄_at (p : FVec Ideal S1280x1024 .f32) (h : Fin 4) (d : Fin 64) (r : Fin 1024) :
    k0_pay16 (F := Ideal) p (ix3 h d r) = p (ix2 ⟨768 + (h * 64 + d), by omega⟩ r) := by
  pointwise [k0_pay16]

theorem root_at (x : FVec Ideal S1x1024x1024 .f32) (g : FVec Ideal S1x1024 .f32) (w : FVec Ideal S1280x1024 .bf16) (h : Fin 12) (r : Fin 1024) :
    k0_pay11 (F := Ideal) x g w (ix3 h 0 r)
      = Ideal.rsqrt (Ideal.div (∑ k : Fin 64, k0_pay10 (F := Ideal) x g w (ix3 h k r) * k0_pay10 (F := Ideal) x g w (ix3 h k r)) Proj.length + Tail.eps) := by
  unfold k0_pay11
  generalize k0_pay10 (F := Ideal) x g w = p
  pointwise
  rfl

/-- The queries' factor. -/
def scale : EReal := (((8 * Real.log 2)⁻¹ : ℝ) : EReal)

theorem queries_at (c t : FVec Ideal S32x1024 .f32) (g : FVec Ideal S64x1 .f32) (u : FVec Ideal S12x64x1024 .f32) (n : FVec Ideal S12x1x1024 .f32)
    (hn : ∀ h r, n (ix3 h 0 r) = Ideal.rsqrt (Ideal.div (∑ k : Fin 64, u (ix3 h k r) * u (ix3 h k r)) Proj.length + Tail.eps))
    (h : Fin 12) (d : Fin 64) (r : Fin 1024) :
    k0_pay12 (F := Ideal) (k0_pay7 c) (k0_pay8 t) (k0_pay9 g) u n (ix3 h d r)
      = Proj.apart (fun k => u (ix3 h k r)) (fun k => g (ix2 k 0)) (fun i => c (ix2 i r)) (fun i => t (ix2 i r)) d * scale := by
  have hs : Named.named (F := Ideal) κ "q_scale" (φ := .f32) 0x3E38AA3B#32 = scale := IdealRules.named_const.ideal_named_scalar _ _ _ _ rfl
  unfold Proj.apart Proj.unit
  simp only [← hn]
  unfold k0_pay12
  rw [hs]
  generalize scale = z
  pointwise [k0_pay7, k0_pay8, k0_pay9, Proj.turn]

theorem out_queries_at (c t : FVec Ideal S1x32x1024 .f32) (g : FVec Ideal S64x1 .f32) (u : FVec Ideal S12x64x1024 .f32) (n : FVec Ideal S12x1x1024 .f32)
    (h : Fin 4) (j : Fin 3) (d : Fin 64) (r : Fin 1024) :
    k0_pay13 (F := Ideal) c t g u n (ix5 0 h j d r) = k0_pay12 (F := Ideal) c t g u n (ix3 ⟨h * 3 + j, by omega⟩ d r) := by
  unfold k0_pay13
  generalize k0_pay12 (F := Ideal) c t g u n = p
  pointwise

theorem keys_at (c t : FVec Ideal S32x1024 .f32) (g : FVec Ideal S64x1 .f32) (u : FVec Ideal S4x64x1024 .f32)
    (h : Fin 4) (d : Fin 64) (r : Fin 1024) :
    k0_pay17 (F := Ideal) (k0_pay7 c) (k0_pay8 t) (k0_pay15 g) u (ix3 h d r)
      = Proj.apart (fun k => u (ix3 h k r)) (fun k => g (ix2 k 0)) (fun i => c (ix2 i r)) (fun i => t (ix2 i r)) d := by
  pointwise [k0_pay17, k0_pay7, k0_pay8, k0_pay15, Proj.turn, Proj.apart, Proj.unit]
  rfl

theorem flat_at (c t : FVec Ideal S1x32x1024 .f32) (g : FVec Ideal S64x1 .f32) (u : FVec Ideal S4x64x1024 .f32) (r : Fin 1024) (o : Fin 256) :
    k0_pay19 (F := Ideal) c t g u (ix2 r o) = k0_pay17 (F := Ideal) c t g u (ix3 ⟨o / 64, by omega⟩ ⟨o % 64, by omega⟩ r) := by
  unfold k0_pay19
  generalize k0_pay17 (F := Ideal) c t g u = p
  pointwise

theorem channels_at (h : FVec Ideal S1024x1024 .bf16) (w : FVec Ideal S1024x256 .bf16) (t : FVec Ideal S256x512 .bf16) (r : Fin 1024) (j : Fin 512) :
    k0_pay2 (F := Ideal) h w t (ix2 r j) = ∑ k : Fin 256, Proj.along (fun l => h (ix2 r l)) (fun l => w (ix2 l k)) * t (ix2 k j) := by
  pointwise [k0_pay2]
  rfl

end Cert.Kernel3Ideal.Stages

end
-- ==== Proof.ProjBlock.lean ====
/-
  One block of 1024 tokens through the projection call, from the blocks it reads to each of the five outputs.
-/
module

public import proofs.«01_k».proof.Proof.ProjKernel

@[expose] public section

noncomputable section

namespace Cert.Kernel3Ideal.Stages

open Cert.Kernel3Ideal Cert.Kernel3Ideal.Gen Idealize.ShloMosaic Idealize.ShloMosaic.TcCoe

variable (x : FVec Ideal S1x1024x1024 .f32) (n : FVec Ideal S1x1024 .f32) (w : FVec Ideal S1280x1024 .bf16) (z : FVec Ideal S1024x256 .bf16)
  (gq gk : FVec Ideal S64x1 .f32) (c t : FVec Ideal S32x1024 .f32) (a : FVec Ideal S256x512 .bf16)

/-- A token of the block, normalised. -/
def token (r : Fin 1024) : Fin 1024 → EReal := Tail.norm (fun k => x (ix3 0 r k)) (fun k => n (ix2 0 k))

theorem block_queries (h : Fin 4) (j : Fin 3) (d : Fin 64) (r : Fin 1024) :
    out0_9 (F := Ideal) x n w z gq gk c t a (ix5 0 h j d r)
      = Proj.apart (fun k => Proj.along (token x n r) fun l => w (ix2 ⟨(h * 3 + j) * 64 + k, by omega⟩ l)) (fun k => gq (ix2 k 0))
          (fun i => c (ix2 i r)) (fun i => t (ix2 i r)) d * scale := by
  unfold_out out0_9
  frame_out
  refine (out_queries_at _ _ _ _ _ h j d r).trans ?_
  refine (queries_at _ _ _ _ _ (root_at x n w) _ _ _).trans ?_
  simp only [heads₁₂_at, rows_at]
  rfl

/-- The four heads of keys, stored one by one, are the columns of one array. -/
theorem block_keys_flat (h : Fin 4) (r : Fin 1024) (d : Fin 64) :
    out0_10 (F := Ideal) x n w z gq gk c t a (ix4 0 h r d)
      = k0_pay19 (F := Ideal) (k0_pay7 c) (k0_pay8 t) (k0_pay15 gk) (k0_pay16 (k0_pay6 x n w)) (ix2 r ⟨h * 64 + d, by omega⟩) := by
  have hp : k0_pay19 (F := Ideal) (k0_pay38 x n w z gq gk c t a) (k0_pay39 x n w z gq gk c t a) (k0_pay43 x n w z gq gk c t a)
      (k0_pay44 x n w z gq gk c t a) = k0_pay19 (k0_pay7 c) (k0_pay8 t) (k0_pay15 gk) (k0_pay16 (k0_pay6 x n w)) := by
    unfold k0_pay38 k0_pay39 k0_pay43 k0_pay44 k0_pay37
    simp (disch := decide) only [View.ld_unit_lit']
  have hp' : k0_pay46 (F := Ideal) x n w z gq gk c t a = k0_pay19 (k0_pay7 c) (k0_pay8 t) (k0_pay15 gk) (k0_pay16 (k0_pay6 x n w)) := by
    unfold k0_pay46
    exact hp
  canon_tiles y e using cover0_10 ..
  all_goals
    first | rw [hp'] | unfold k0_pay20; rw [hp] | unfold k0_pay21; rw [hp]
    generalize k0_pay19 (F := Ideal) (k0_pay7 c) (k0_pay8 t) (k0_pay15 gk) (k0_pay16 (k0_pay6 x n w)) = p
    rw [eq_ix4 y]
    pointwise [k0_pay24, k0_pay23, k0_pay22]
    replace e1 : h.val = _ := e1
    replace e2 : r.val = _ := e2
    replace e3 : d.val = _ := e3
    congr 2
    all_goals
      refine Fin.ext ?_
      try simp only
      omega

/-- The four runs of values, stored one by one, are the columns of one array. -/
theorem block_values (h : Fin 4) (q : Fin 4) (d : Fin 64) (r : Fin 256) :
    out0_14 (F := Ideal) x n w z gq gk c t a (ix5 0 h q d r)
      = Proj.along (token x n ⟨q * 256 + r, by omega⟩) fun l => w (ix2 ⟨1024 + (h * 64 + d), by omega⟩ l) := by
  refine Eq.trans ?_ (rows_at x n w ⟨1024 + (h * 64 + d), by omega⟩ ⟨q * 256 + r, by omega⟩)
  have hp : k0_pay37 (F := Ideal) x n w z gq gk c t a = k0_pay6 x n w := by
    unfold k0_pay37
    simp (disch := decide) only [View.ld_unit_lit']
  canon_tiles y e using cover0_14 ..
  all_goals
    rw [hp]
    generalize k0_pay6 (F := Ideal) x n w = p
    rw [eq_ix5 y]
    pointwise [k0_pay1, k0_pay35, k0_pay34, k0_pay33, k0_pay32, k0_pay30]
    replace e1 : h.val = _ := e1
    replace e2 : q.val = _ := e2
    replace e3 : d.val = _ := e3
    replace e4 : r.val = _ := e4
    congr 2
    all_goals
      refine Fin.ext ?_
      try simp only
      omega

theorem block_keys (h : Fin 4) (r : Fin 1024) (d : Fin 64) :
    out0_10 (F := Ideal) x n w z gq gk c t a (ix4 0 h r d)
      = Proj.apart (fun k => Proj.along (token x n r) fun l => w (ix2 ⟨768 + (h * 64 + k), by omega⟩ l)) (fun k => gk (ix2 k 0))
          (fun i => c (ix2 i r)) (fun i => t (ix2 i r)) d := by
  rw [block_keys_flat, flat_at, keys_at]
  simp only [heads₄_at, rows_at]
  have h1 : (h.val * 64 + d.val) / 64 = h := by omega
  have h2 : (h.val * 64 + d.val) % 64 = d := by omega
  simp only [h1, h2]
  rfl

theorem block_first (r : Fin 1024) (j : Fin 256) :
    out0_15 (F := Ideal) x n w z gq gk c t a (ix3 0 r j)
      = ∑ k : Fin 256, Proj.along (token x n r) (fun l => z (ix2 l k)) * a (ix2 k ⟨j, by omega⟩) := by
  have hp : out0_15 (F := Ideal) x n w z gq gk c t a (ix3 0 r j) = k0_pay2 (F := Ideal) (k0_pay5 x n) z a (ix2 r ⟨j, by omega⟩) := by
    unfold_out out0_15
    frame_out
    unfold k0_pay3
    generalize k0_pay2 (F := Ideal) (k0_pay5 x n) z a = p
    pointwise
  rw [hp, channels_at]
  simp only [norm_at]
  rfl

theorem block_second (r : Fin 1024) (j : Fin 256) :
    out0_16 (F := Ideal) x n w z gq gk c t a (ix3 0 r j)
      = ∑ k : Fin 256, Proj.along (token x n r) (fun l => z (ix2 l k)) * a (ix2 k ⟨256 + j, by omega⟩) := by
  have hp : out0_16 (F := Ideal) x n w z gq gk c t a (ix3 0 r j) = k0_pay2 (F := Ideal) (k0_pay5 x n) z a (ix2 r ⟨256 + j, by omega⟩) := by
    unfold_out out0_16
    frame_out
    unfold k0_pay4
    generalize k0_pay2 (F := Ideal) (k0_pay5 x n) z a = p
    pointwise
  rw [hp, channels_at]
  simp only [norm_at]
  rfl

end Cert.Kernel3Ideal.Stages

end
-- ==== Proof.ProjHost.lean ====
/-
  What the host hands to the projection call: the weights' rows with each head's pairs taken apart, the gains in the same
order, the tables turned over.
-/
module

public import proofs.«01_k».proof.Proof.Gen.Kernel3Ideal.Frame
public import proofs.«01_k».proof.Proof.ProjRow
public import Idealize.ShloMosaic.Lib.StableHlo.RunRead

@[expose] public section

noncomputable section

namespace Cert.Kernel3Ideal.Stages

open Cert.Kernel3Ideal Cert.Kernel3Ideal.Gen Idealize.ShloMosaic Idealize.ShloMosaic.TcCoe

/-- Entries of a flat array at a column of positions, each read signed and clamped. -/
theorem gather_at (x : FVec Ideal S64 .f32) (p : IVec S64x1 32) (i : Fin 64) :
    Host.gather gather_S64_S64x1_S64_n_0_n_n_0_1_1 x p (ix1 i) = x (ix1 ⟨min (p (ix2 i 0)).toInt.toNat 63, by omega⟩) := by
  unfold Host.gather
  congr 1
  funext a
  obtain rfl : a = 0 := Subsingleton.elim _ _
  refine Fin.ext ?_
  show gather_S64_S64x1_S64_n_0_n_n_0_1_1.start (ix1 i) p 0 + gather_S64_S64x1_S64_n_0_n_n_0_1_1.batchCoord (ix1 i) 0
    + gather_S64_S64x1_S64_n_0_n_n_0_1_1.offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (ix1 i) ⟨List.idxOf (0 : Fin 1) gather_S64_S64x1_S64_n_0_n_n_0_1_1.startIndexMap,
      List.idxOf_lt_length_iff.2 (List.mem_singleton.mpr rfl)⟩ = ix2 i 0 := by
    funext b
    refine Fin.ext ?_
    match b with
    | ⟨0, _⟩ => rfl
    | ⟨1, _⟩ => rfl
  rw [hsi]
  rfl

/-- The column of positions. -/
def places : IVec S64x1 32 :=
  broadcastInDim S64x1 ![0] bcast_S64_S64x1_0
    (select (constantI S64 1 0#1) (addi (fun i => lit0 (S64.rowMajor i)) (broadcastInDim S64 ![] bcast_S_S64 (constantI S_ 32 64#32)))
      (fun i => lit0 (S64.rowMajor i)))

theorem places_at (i : Fin 64) : min (places (ix2 i 0)).toInt.toNat 63 = (Proj.spread i).val := by
  revert i
  decide +kernel

/-- A gain in the split order. -/
def gains (g : FVec Ideal S64 .f32) : FVec Ideal S64x1 .f32 :=
  broadcastInDim S64x1 ![0] bcast_S64_S64x1_0 (Host.gather gather_S64_S64x1_S64_n_0_n_n_0_1_1 g places)

theorem gains_at (g : FVec Ideal S64 .f32) (i : Fin 64) : gains g (ix2 i 0) = g (ix1 (Proj.spread i)) := by
  have h : gains g (ix2 i 0) = Host.gather gather_S64_S64x1_S64_n_0_n_n_0_1_1 g places (ix1 i) := by
    unfold gains
    generalize Host.gather gather_S64_S64x1_S64_n_0_n_n_0_1_1 g places = y
    pointwise
  rw [h, gather_at]
  congr 2
  exact Fin.ext (places_at i)

/-- The rows of the weights that the call takes. -/
def weights (w : FVec Ideal S1024x3584 .f32) : FVec Ideal S1280x1024 .bf16 :=
  concatenate S1280x1024 0
    [⟨S1024x1024, shapeCast S1024x1024 (transpose S16x2x32x1024 [1, 3, 2, 0] (shapeCast S1024x16x32x2
        (extractStridedSlice S1024x1024 ![0, 0] (truncf .bf16 w bitsLt_bf16_f32) slices_S1024x3584_S1024x1024_0_0)
        shapeCasts_S1024x1024_S1024x16x32x2) transposes_S1024x16x32x2_S16x2x32x1024_1_3_2_0) shapeCasts_S16x2x32x1024_S1024x1024⟩,
     ⟨S256x1024, transpose S256x1024 [1, 0]
        (extractStridedSlice S1024x256 ![0, 1024] (truncf .bf16 w bitsLt_bf16_f32) slices_S1024x3584_S1024x256_0_1024)
        transposes_S1024x256_S256x1024_1_0⟩]
    concatenates_S1024x1024_S256x1024_S1280x1024_d0

theorem weights_at (w : FVec Ideal S1024x3584 .f32) (o : Fin 1280) (k : Fin 1024) :
    weights w (ix2 o k) = if h : o.val < 1024 then w (ix2 k ⟨o / 64 * 64 + o % 32 * 2 + o / 32 % 2, by omega⟩)
      else w (ix2 k ⟨1024 + (o - 1024), by omega⟩) := by
  pointwise [weights]

theorem weights_head (w : FVec Ideal S1024x3584 .f32) (h : Fin 16) (d : Fin 64) (k : Fin 1024) (o : Fin 1280) (ho : o.val = h * 64 + d)
    (p : Fin 3584) (hp : p.val = h * 64 + (Proj.spread d).val) : weights w (ix2 o k) = w (ix2 k p) := by
  rw [weights_at, dif_pos (by omega)]
  congr 2
  refine Fin.ext ?_
  rw [hp]
  show o.val / 64 * 64 + o.val % 32 * 2 + o.val / 32 % 2 = h.val * 64 + (2 * (d.val % 32) + d.val / 32)
  omega

theorem weights_value (w : FVec Ideal S1024x3584 .f32) (k : Fin 1024) (o : Fin 1280) (ho : 1024 ≤ o.val)
    (p : Fin 3584) (hp : p.val = o) : weights w (ix2 o k) = w (ix2 k p) := by
  rw [weights_at, dif_neg (by omega)]
  congr 2
  exact Fin.ext (by rw [hp]; show 1024 + (o.val - 1024) = o.val; omega)

/-- The columns of the weights for the channels. -/
def rest (w : FVec Ideal S1024x3584 .f32) : FVec Ideal S1024x256 .bf16 :=
  extractStridedSlice S1024x256 ![0, 1280] (truncf .bf16 w bitsLt_bf16_f32) slices_S1024x3584_S1024x256_0_1280

theorem rest_at (w : FVec Ideal S1024x3584 .f32) (k : Fin 1024) (o : Fin 256) : rest w (ix2 k o) = w (ix2 k ⟨1280 + o, by omega⟩) := by
  pointwise [rest]

variable (m : (ℓ : Loc nD τ sig) → Buf (Elt Ideal) ℓ) (c : Dev nD)

theorem entry_weights : (V m c main_v7 : FVec Ideal S1280x1024 .bf16) = weights (m ((c.tc : Thread nD τ).loc main_arg2)) := by
  unfold V
  after_reads_simp
  rfl

theorem entry_rest : (V m c main_v8 : FVec Ideal S1024x256 .bf16) = rest (m ((c.tc : Thread nD τ).loc main_arg2)) := by
  unfold V
  after_reads_simp
  rfl

theorem entry_gain : (V m c main_v9 : FVec Ideal S1x1024 .f32)
    = broadcastInDim S1x1024 ![1] bcast_S1024_S1x1024_1 (m ((c.tc : Thread nD τ).loc main_arg1)) := by
  unfold V
  after_reads_simp
  try rfl

theorem entry_qgain : (V m c main_v15 : FVec Ideal S64x1 .f32) = gains (m ((c.tc : Thread nD τ).loc main_arg3)) := by
  unfold V
  after_reads_simp
  rfl

theorem entry_kgain : (V m c main_v21 : FVec Ideal S64x1 .f32) = gains (m ((c.tc : Thread nD τ).loc main_arg4)) := by
  unfold V
  after_reads_simp
  rfl

theorem entry_cos : (V m c main_v22 : FVec Ideal S32x8192 .f32)
    = transpose S32x8192 [1, 0] (m ((c.tc : Thread nD τ).loc main_arg5)) transposes_S8192x32_S32x8192_1_0 := by
  unfold V
  after_reads_simp
  try rfl

theorem entry_sin : (V m c main_v23 : FVec Ideal S32x8192 .f32)
    = transpose S32x8192 [1, 0] (m ((c.tc : Thread nD τ).loc main_arg6)) transposes_S8192x32_S32x8192_1_0 := by
  unfold V
  after_reads_simp
  try rfl

end Cert.Kernel3Ideal.Stages

end
-- ==== Proof.ProjArrays.lean ====
/-
  The projection call's five arrays, from the arguments.
-/
module

public import proofs.«01_k».proof.Proof.ProjBlock
public import proofs.«01_k».proof.Proof.ProjHost

@[expose] public section

noncomputable section

namespace Cert.Kernel3Ideal.Stages

open Cert.Kernel3Ideal Cert.Kernel3Ideal.Gen Idealize.ShloMosaic Idealize.ShloMosaic.TcCoe

variable (m : (ℓ : Loc nD τ sig) → Buf (Elt Ideal) ℓ) (c : Dev nD)

/-- Where each window's block lies at a point: a batch and a run of 1024 tokens. -/
theorem spots : ∀ t : Fin cfg0.N,
    win0_0.index t = ![(t : ℕ) / 8, (t : ℕ) % 8, 0] ∧ win0_6.index t = ![0, (t : ℕ) % 8] ∧ win0_7.index t = ![0, (t : ℕ) % 8]
    ∧ win0_9.index t = ![(t : ℕ) / 8, 0, 0, 0, (t : ℕ) % 8] ∧ win0_10.index t = ![(t : ℕ) / 8, 0, (t : ℕ) % 8, 0]
    ∧ win0_14.index t = ![(t : ℕ) / 8, 0, (t : ℕ) % 8, 0, 0] ∧ win0_15.index t = ![(t : ℕ) / 8, (t : ℕ) % 8, 0]
    ∧ win0_16.index t = ![(t : ℕ) / 8, (t : ℕ) % 8, 0]
    ∧ win0_1.index t = ![0, 0] ∧ win0_2.index t = ![0, 0] ∧ win0_3.index t = ![0, 0] ∧ win0_4.index t = ![0, 0]
    ∧ win0_5.index t = ![0, 0] ∧ win0_8.index t = ![0, 0] :=
  (by decide +kernel : ∀ t : Fin grid0.N,
    win0_0.index t = ![(t : ℕ) / 8, (t : ℕ) % 8, 0] ∧ win0_6.index t = ![0, (t : ℕ) % 8] ∧ win0_7.index t = ![0, (t : ℕ) % 8]
    ∧ win0_9.index t = ![(t : ℕ) / 8, 0, 0, 0, (t : ℕ) % 8] ∧ win0_10.index t = ![(t : ℕ) / 8, 0, (t : ℕ) % 8, 0]
    ∧ win0_14.index t = ![(t : ℕ) / 8, 0, (t : ℕ) % 8, 0, 0] ∧ win0_15.index t = ![(t : ℕ) / 8, (t : ℕ) % 8, 0]
    ∧ win0_16.index t = ![(t : ℕ) / 8, (t : ℕ) % 8, 0]
    ∧ win0_1.index t = ![0, 0] ∧ win0_2.index t = ![0, 0] ∧ win0_3.index t = ![0, 0] ∧ win0_4.index t = ![0, 0]
    ∧ win0_5.index t = ![0, 0] ∧ win0_8.index t = ![0, 0])

theorem N_eq : cfg0.N = 16 := by decide +kernel

/-- A point's batch, and where a token of its run stands. -/
def batch (t : Fin cfg0.N) : Fin 2 := ⟨t / 8, by have := lt_of_lt_of_eq t.isLt N_eq; omega⟩
def spot (t : Fin cfg0.N) (r : Fin 1024) : Fin 8192 := ⟨t % 8 * 1024 + r, by omega⟩
/-- Where a run of 256 tokens of the point's block stands. -/
def chunk (t : Fin cfg0.N) (q : Fin 4) : Fin 32 := ⟨t % 8 * 4 + q, by omega⟩

/-! ### The blocks the call reads -/

theorem block0_at (t : Fin cfg0.N) (r k : Fin 1024) :
    (iblk m c 0 t : Vec Ideal S1x1024x1024 .f32) (ix3 0 r k) = m ((c.tc : Thread nD τ).loc main_arg0) (ix3 (batch t) (spot t r) k) := by
  unfold iblk batch spot
  blk_ext! [V, spots t]

theorem block1_at (t : Fin cfg0.N) (k : Fin 1024) :
    (iblk m c 1 t : Vec Ideal S1x1024 .f32) (ix2 0 k) = m ((c.tc : Thread nD τ).loc main_arg1) (ix1 k) := by
  have h : (iblk m c 1 t : Vec Ideal S1x1024 .f32) (ix2 0 k) = (V m c main_v9 : FVec Ideal S1x1024 .f32) (ix2 0 k) := by
    unfold iblk
    show V m c main_v9 _ = V m c main_v9 _
    congr 1
    blk_ext [spots t]
  rw [h, entry_gain]
  generalize m ((c.tc : Thread nD τ).loc main_arg1) = y
  pointwise

theorem block2_at (t : Fin cfg0.N) (o : Fin 1280) (k : Fin 1024) :
    (iblk m c 2 t : Vec Ideal S1280x1024 .bf16) (ix2 o k) = weights (m ((c.tc : Thread nD τ).loc main_arg2)) (ix2 o k) := by
  rw [← entry_weights]
  unfold iblk
  show V m c main_v7 _ = V m c main_v7 _
  congr 1
  blk_ext [spots t]

theorem block3_at (t : Fin cfg0.N) (k : Fin 1024) (o : Fin 256) :
    (iblk m c 3 t : Vec Ideal S1024x256 .bf16) (ix2 k o) = m ((c.tc : Thread nD τ).loc main_arg2) (ix2 k ⟨1280 + o, by omega⟩) := by
  rw [← rest_at (m ((c.tc : Thread nD τ).loc main_arg2)), ← entry_rest]
  unfold iblk
  show V m c main_v8 _ = V m c main_v8 _
  congr 1
  blk_ext [spots t]

theorem block4_at (t : Fin cfg0.N) (k : Fin 64) :
    (iblk m c 4 t : Vec Ideal S64x1 .f32) (ix2 k 0) = m ((c.tc : Thread nD τ).loc main_arg3) (ix1 (Proj.spread k)) := by
  rw [← gains_at (m ((c.tc : Thread nD τ).loc main_arg3)), ← entry_qgain]
  unfold iblk
  show V m c main_v15 _ = V m c main_v15 _
  congr 1
  blk_ext [spots t]

theorem block5_at (t : Fin cfg0.N) (k : Fin 64) :
    (iblk m c 5 t : Vec Ideal S64x1 .f32) (ix2 k 0) = m ((c.tc : Thread nD τ).loc main_arg4) (ix1 (Proj.spread k)) := by
  rw [← gains_at (m ((c.tc : Thread nD τ).loc main_arg4)), ← entry_kgain]
  unfold iblk
  show V m c main_v21 _ = V m c main_v21 _
  congr 1
  blk_ext [spots t]

theorem block6_at (t : Fin cfg0.N) (i : Fin 32) (r : Fin 1024) :
    (iblk m c 6 t : Vec Ideal S32x1024 .f32) (ix2 i r) = m ((c.tc : Thread nD τ).loc main_arg5) (ix2 (spot t r) i) := by
  have h : (iblk m c 6 t : Vec Ideal S32x1024 .f32) (ix2 i r) = (V m c main_v22 : FVec Ideal S32x8192 .f32) (ix2 i (spot t r)) := by
    unfold iblk
    show V m c main_v22 _ = V m c main_v22 _
    congr 1
    unfold spot
    blk_ext [spots t]
  rw [h, entry_cos]
  generalize m ((c.tc : Thread nD τ).loc main_arg5) = y
  generalize spot t r = s
  pointwise

theorem block7_at (t : Fin cfg0.N) (i : Fin 32) (r : Fin 1024) :
    (iblk m c 7 t : Vec Ideal S32x1024 .f32) (ix2 i r) = m ((c.tc : Thread nD τ).loc main_arg6) (ix2 (spot t r) i) := by
  have h : (iblk m c 7 t : Vec Ideal S32x1024 .f32) (ix2 i r) = (V m c main_v23 : FVec Ideal S32x8192 .f32) (ix2 i (spot t r)) := by
    unfold iblk
    show V m c main_v23 _ = V m c main_v23 _
    congr 1
    unfold spot
    blk_ext [spots t]
  rw [h, entry_sin]
  generalize m ((c.tc : Thread nD τ).loc main_arg6) = y
  generalize spot t r = s
  pointwise

theorem block8_at (t : Fin cfg0.N) (k : Fin 256) (j : Fin 512) :
    (iblk m c 8 t : Vec Ideal S256x512 .bf16) (ix2 k j) = m ((c.tc : Thread nD τ).loc main_arg7) (ix2 k j) := by
  unfold iblk
  blk_ext! [V, spots t]

/-! ### The arrays -/

/-- A token's projection on one column, from the arguments. -/
def column (b : Fin 2) (s : Fin 8192) (o : Fin 3584) : EReal :=
  Proj.along (Tail.norm (fun k => m ((c.tc : Thread nD τ).loc main_arg0) (ix3 b s k)) (fun k => m ((c.tc : Thread nD τ).loc main_arg1) (ix1 k)))
    (fun k => m ((c.tc : Thread nD τ).loc main_arg2) (ix2 k o))

/-- One feature of a query, one of a key, one of a value, and one channel. -/
def queryAt (b : Fin 2) (h : Fin 4) (g : Fin 3) (d : Fin 64) (s : Fin 8192) : EReal :=
  Proj.turned (fun k => column m c b s ⟨(h * 3 + g) * 64 + k, by omega⟩) (fun k => m ((c.tc : Thread nD τ).loc main_arg3) (ix1 k))
    (fun i => m ((c.tc : Thread nD τ).loc main_arg5) (ix2 s i)) (fun i => m ((c.tc : Thread nD τ).loc main_arg6) (ix2 s i)) d * scale
def keyAt (b : Fin 2) (h : Fin 4) (s : Fin 8192) (d : Fin 64) : EReal :=
  Proj.turned (fun k => column m c b s ⟨768 + (h * 64 + k), by omega⟩) (fun k => m ((c.tc : Thread nD τ).loc main_arg4) (ix1 k))
    (fun i => m ((c.tc : Thread nD τ).loc main_arg5) (ix2 s i)) (fun i => m ((c.tc : Thread nD τ).loc main_arg6) (ix2 s i)) d
def valueAt (b : Fin 2) (h : Fin 4) (n : Fin 32) (d : Fin 64) (r : Fin 256) : EReal :=
  column m c b ⟨n * 256 + r, by omega⟩ ⟨1024 + (h * 64 + d), by omega⟩
def channelAt (b : Fin 2) (s : Fin 8192) (j : Fin 512) : EReal :=
  ∑ k : Fin 256, column m c b s ⟨1280 + k, by omega⟩ * m ((c.tc : Thread nD τ).loc main_arg7) (ix2 k j)

theorem token_eq (t : Fin cfg0.N) (r : Fin 1024) : token (iblk m c 0 t) (iblk m c 1 t) r
    = Tail.norm (fun k => m ((c.tc : Thread nD τ).loc main_arg0) (ix3 (batch t) (spot t r) k)) (fun k => m ((c.tc : Thread nD τ).loc main_arg1) (ix1 k)) := by
  unfold token
  congr 1
  · exact funext fun k => block0_at m c t r k
  · exact funext fun k => block1_at m c t k

theorem head_eq (t : Fin cfg0.N) (r : Fin 1024) (h : Fin 16) (k : Fin 64) (o : Fin 1280) (ho : o.val = h * 64 + k)
    (p : Fin 3584) (hp : p.val = h * 64 + (Proj.spread k).val) :
    Proj.along (token (iblk m c 0 t) (iblk m c 1 t) r) (fun l => (iblk m c 2 t : Vec Ideal S1280x1024 .bf16) (ix2 o l))
      = column m c (batch t) (spot t r) p := by
  rw [token_eq]
  unfold column
  congr 1
  exact funext fun l => (block2_at m c t o l).trans (weights_head _ h k l o ho p hp)

theorem query_eq (t : Fin cfg0.N) (h : Fin 4) (g : Fin 3) (d : Fin 64) (r : Fin 1024) :
    out0_9 (F := Ideal) (iblk m c 0 t) (iblk m c 1 t) (iblk m c 2 t) (iblk m c 3 t) (iblk m c 4 t) (iblk m c 5 t) (iblk m c 6 t)
      (iblk m c 7 t) (iblk m c 8 t) (ix5 0 h g d r) = queryAt m c (batch t) h g d (spot t r) := by
  refine (block_queries _ _ _ _ _ _ _ _ _ h g d r).trans ?_
  unfold queryAt
  rw [← Proj.apart_spread]
  exact congrArg (· * scale) (Proj.apart_congr (funext fun k => head_eq m c t r ⟨h * 3 + g, by omega⟩ k _ rfl _ rfl)
    (funext fun k => block4_at m c t k) (funext fun i => block6_at m c t i r) (funext fun i => block7_at m c t i r) d)

theorem key_eq (t : Fin cfg0.N) (h : Fin 4) (r : Fin 1024) (d : Fin 64) :
    out0_10 (F := Ideal) (iblk m c 0 t) (iblk m c 1 t) (iblk m c 2 t) (iblk m c 3 t) (iblk m c 4 t) (iblk m c 5 t) (iblk m c 6 t)
      (iblk m c 7 t) (iblk m c 8 t) (ix4 0 h r d) = keyAt m c (batch t) h (spot t r) d := by
  refine (block_keys _ _ _ _ _ _ _ _ _ h r d).trans ?_
  unfold keyAt
  rw [← Proj.apart_spread]
  exact Proj.apart_congr (funext fun k => head_eq m c t r ⟨12 + h, by omega⟩ k _ (by simp only; omega) _ (by simp only; omega))
    (funext fun k => block5_at m c t k) (funext fun i => block6_at m c t i r) (funext fun i => block7_at m c t i r) d

theorem value_eq (t : Fin cfg0.N) (h q : Fin 4) (d : Fin 64) (r : Fin 256) :
    out0_14 (F := Ideal) (iblk m c 0 t) (iblk m c 1 t) (iblk m c 2 t) (iblk m c 3 t) (iblk m c 4 t) (iblk m c 5 t) (iblk m c 6 t)
      (iblk m c 7 t) (iblk m c 8 t) (ix5 0 h q d r) = valueAt m c (batch t) h (chunk t q) d r := by
  rw [block_values, token_eq]
  unfold valueAt column
  congr 1
  · congr 1
    funext k
    congr 2
    refine Fin.ext ?_
    simp only [spot, chunk]
    omega
  · exact funext fun l => (block2_at m c t _ l).trans (weights_value _ l _ (by simp only; omega) _ rfl)

theorem channel_eq (t : Fin cfg0.N) (r : Fin 1024) (j : Fin 512) :
    (∑ k : Fin 256, Proj.along (token (iblk m c 0 t) (iblk m c 1 t) r) (fun l => (iblk m c 3 t : Vec Ideal S1024x256 .bf16) (ix2 l k))
      * (iblk m c 8 t : Vec Ideal S256x512 .bf16) (ix2 k j)) = channelAt m c (batch t) (spot t r) j := by
  unfold channelAt column
  rw [token_eq]
  refine Finset.sum_congr rfl fun k _ => ?_
  rw [block8_at]
  congr 2
  exact funext fun l => block3_at m c t l k

/-- The five arrays. -/
def queryArray : S2x4x3x64x8192.Idx → EReal := fun i => queryAt m c (i 0) (i 1) (i 2) (i 3) (i 4)
def keyArray : S2x4x8192x64.Idx → EReal := fun i => keyAt m c (i 0) (i 1) (i 2) (i 3)
def valueArray : S2x4x32x64x256.Idx → EReal := fun i => valueAt m c (i 0) (i 1) (i 2) (i 3) (i 4)
def firstArray : S2x8192x256.Idx → EReal := fun i => channelAt m c (i 0) (i 1) ⟨(i 2).val, lt_of_lt_of_le (i 2).isLt (by decide)⟩
def secondArray : S2x8192x256.Idx → EReal := fun i => channelAt m c (i 0) (i 1) ⟨256 + (i 2).val, Nat.add_lt_add_left (i 2).isLt 256⟩

end Cert.Kernel3Ideal.Stages

end
-- ==== Proof.ProjResults.lean ====
/-
  The five arrays, block by block.
-/
module

public import proofs.«01_k».proof.Proof.ProjArrays

@[expose] public section

noncomputable section

namespace Cert.Kernel3Ideal.Stages

open Cert.Kernel3Ideal Cert.Kernel3Ideal.Gen Idealize.ShloMosaic Idealize.ShloMosaic.TcCoe

/-! Where an element of a point's block stands in each array. -/

variable (m : (ℓ : Loc nD τ sig) → Buf (Elt Ideal) ℓ) (c : Dev nD)

theorem spot_9 (t : Fin cfg0.N) (y : ((cfg0.win 9).xblock (cfg0.grid.coords t)).Idx) :
    ((View.whole main_v24_0).slice (win0_9.rect t)).emb y = ix5 (batch t) (y 1) (y 2) (y 3) (spot t (y 4)) := by
  unfold batch spot
  blk_ext [spots t]

theorem spot_10 (t : Fin cfg0.N) (y : ((cfg0.win 10).xblock (cfg0.grid.coords t)).Idx) :
    ((View.whole main_v24_1).slice (win0_10.rect t)).emb y = ix4 (batch t) (y 1) (spot t (y 2)) (y 3) := by
  unfold batch spot
  blk_ext [spots t]

theorem spot_14 (t : Fin cfg0.N) (y : ((cfg0.win 14).xblock (cfg0.grid.coords t)).Idx) :
    ((View.whole main_v24_5).slice (win0_14.rect t)).emb y = ix5 (batch t) (y 1) (chunk t (y 2)) (y 3) (y 4) := by
  unfold batch chunk
  blk_ext [spots t]

theorem spot_15 (t : Fin cfg0.N) (y : ((cfg0.win 15).xblock (cfg0.grid.coords t)).Idx) :
    ((View.whole main_v24_6).slice (win0_15.rect t)).emb y = ix3 (batch t) (spot t (y 1)) (y 2) := by
  unfold batch spot
  blk_ext [spots t]

theorem spot_16 (t : Fin cfg0.N) (y : ((cfg0.win 16).xblock (cfg0.grid.coords t)).Idx) :
    ((View.whole main_v24_7).slice (win0_16.rect t)).emb y = ix3 (batch t) (spot t (y 1)) (y 2) := by
  unfold batch spot
  blk_ext [spots t]

/-! The arrays after the last point. -/

theorem queries_array : (dats m 0 c).arrAt 9 cfg0.N = queryArray m c := by
  refine (dats m 0 c).arrAt_eq_of_covers 9 _ (by decide +kernel) fun t hf y => ?_
  blk_simp
  rw [after0_9]
  have hy : y = ix5 0 (y 1) (y 2) (y 3) (y 4) := by blk_ext
  rw [spot_9 t y]
  rw [hy]
  exact query_eq m c t (y 1) (y 2) (y 3) (y 4)

theorem keys_array : (dats m 0 c).arrAt 10 cfg0.N = keyArray m c := by
  refine (dats m 0 c).arrAt_eq_of_covers 10 _ (by decide +kernel) fun t hf y => ?_
  blk_simp
  rw [after0_10]
  have hy : y = ix4 0 (y 1) (y 2) (y 3) := by blk_ext
  rw [spot_10 t y]
  rw [hy]
  exact key_eq m c t (y 1) (y 2) (y 3)

theorem values_array : (dats m 0 c).arrAt 14 cfg0.N = valueArray m c := by
  refine (dats m 0 c).arrAt_eq_of_covers 14 _ (by decide +kernel) fun t hf y => ?_
  blk_simp
  rw [after0_14]
  have hy : y = ix5 0 (y 1) (y 2) (y 3) (y 4) := by blk_ext
  rw [spot_14 t y]
  rw [hy]
  exact value_eq m c t (y 1) (y 2) (y 3) (y 4)

theorem first_array : (dats m 0 c).arrAt 15 cfg0.N = firstArray m c := by
  refine (dats m 0 c).arrAt_eq_of_covers 15 _ (by decide +kernel) fun t hf y => ?_
  blk_simp
  rw [after0_15]
  have hy : y = ix3 0 (y 1) (y 2) := by blk_ext
  rw [spot_15 t y]
  rw [hy]
  exact (block_first (iblk m c 0 t) (iblk m c 1 t) (iblk m c 2 t) (iblk m c 3 t) (iblk m c 4 t) (iblk m c 5 t) (iblk m c 6 t)
    (iblk m c 7 t) (iblk m c 8 t) (y 1) (y 2)).trans (channel_eq m c t (y 1) _)

theorem second_array : (dats m 0 c).arrAt 16 cfg0.N = secondArray m c := by
  refine (dats m 0 c).arrAt_eq_of_covers 16 _ (by decide +kernel) fun t hf y => ?_
  blk_simp
  rw [after0_16]
  have hy : y = ix3 0 (y 1) (y 2) := by blk_ext
  rw [spot_16 t y]
  rw [hy]
  exact (block_second (iblk m c 0 t) (iblk m c 1 t) (iblk m c 2 t) (iblk m c 3 t) (iblk m c 4 t) (iblk m c 5 t) (iblk m c 6 t)
    (iblk m c 7 t) (iblk m c 8 t) (y 1) (y 2)).trans (channel_eq m c t (y 1) _)

end Cert.Kernel3Ideal.Stages

end
-- ==== Proof.ProjFactor.lean ====
/-
  The queries' factor, written as a quotient.
-/
module

public import proofs.«01_k».proof.Proof.ProjKernel
public import proofs.«01_k».proof.Proof.Soft

@[expose] public section

noncomputable section

namespace Cert.Proj

open Idealize.ShloMosaic Cert.Kernel3Ideal.Stages

theorem factor_eq : Ideal.div (Ideal.ofBits .f32 0x3E000000#32) (Ideal.log (Ideal.ofBits .f32 0x40000000#32)) = scale := by
  rw [Soft.ofBits_eighth, Soft.ofBits_two]
  have hl : Ideal.log ((2 : ℝ) : EReal) = ((Real.log 2 : ℝ) : EReal) := by
    show (if (2 : ℝ) ≤ 0 then ⊥ else (Real.log 2 : EReal)) = _
    rw [if_neg (by norm_num)]
  have hz : (Real.log 2 : ℝ) ≠ 0 := (Real.log_pos (by norm_num)).ne'
  rw [hl]
  unfold Ideal.div scale
  rw [if_neg (by exact_mod_cast hz), ← EReal.coe_inv, ← EReal.coe_mul, mul_inv, one_div]

end Cert.Proj

end
-- ==== Proof.ProjRef.lean ====
/-
  The plain computation's five results before the attention, at an index.
-/
module

public import proofs.«01_k».proof.Proof.Gen.Reference3Ideal.Run
public import proofs.«01_k».proof.Proof.ProjRow

@[expose] public section

noncomputable section

namespace Cert.Reference3Ideal.Stages

open Cert.Reference3Ideal Cert.Reference3Ideal.Gen Idealize.ShloMosaic Idealize.ShloMosaic.TcCoe Idealize.SL.Sem

/-- The reference's normalisation. -/
def norm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The reference's one projection. -/
def all (x : FVec Ideal S2x8192x1024 .f32) (g : FVec Ideal S1024 .f32) (w : FVec Ideal S1024x3584 .f32) : FVec Ideal S2x8192x3584 .f32 :=
  Host.dotGeneral dot_S2x8192x1024_S1024x3584_S2x8192x3584_2_0_01_1_n_n none (norm x g) w

def heads₁₂ (p : FVec Ideal S2x8192x3584 .f32) : FVec Ideal S2x8192x12x64 .f32 :=
  shapeCast _ (extractStridedSlice S2x8192x768 ![0, 0, 0] p slices_S2x8192x3584_S2x8192x768_0_0_0) shapeCasts_S2x8192x768_S2x8192x12x64

def heads₄ (p : FVec Ideal S2x8192x3584 .f32) : FVec Ideal S2x8192x4x64 .f32 :=
  shapeCast _ (extractStridedSlice S2x8192x256 ![0, 0, 768] p slices_S2x8192x3584_S2x8192x256_0_0_768) shapeCasts_S2x8192x256_S2x8192x4x64

def unit₁₂ (u : FVec Ideal S2x8192x12x64 .f32) (g : FVec Ideal S64 .f32) : FVec Ideal S2x8192x12x64 .f32 :=
  mulf (mulf u (broadcastInDim S2x8192x12x64 ![0, 1, 2, 3] bcast_S2x8192x12x1_S2x8192x12x64_0_1_2_3
    (Host.rsqrt (addf (Host.divf (broadcastInDim S2x8192x12x1 ![0, 1, 2] bcast_S2x8192x12_S2x8192x12x1_0_1_2
      (Host.reduceAdd (mulf u u) (constant S_ .f32 0x00000000#32) reducesTo_S2x8192x12x64_S2x8192x12_d3 h_S_))
      (broadcastInDim S2x8192x12x1 ![] bcast_S_S2x8192x12x1 (constant S_ .f32 0x42800000#32)))
      (broadcastInDim S2x8192x12x1 ![] bcast_S_S2x8192x12x1 (constant S_ .f32 0x358637BD#32))))))
    (broadcastInDim S2x8192x12x64 ![0, 1, 2, 3] bcast_S1x1x1x64_S2x8192x12x64_0_1_2_3 (broadcastInDim S1x1x1x64 ![3] bcast_S64_S1x1x1x64_3 g))

def unit₄ (u : FVec Ideal S2x8192x4x64 .f32) (g : FVec Ideal S64 .f32) : FVec Ideal S2x8192x4x64 .f32 :=
  mulf (mulf u (broadcastInDim S2x8192x4x64 ![0, 1, 2, 3] bcast_S2x8192x4x1_S2x8192x4x64_0_1_2_3
    (Host.rsqrt (addf (Host.divf (broadcastInDim S2x8192x4x1 ![0, 1, 2] bcast_S2x8192x4_S2x8192x4x1_0_1_2
      (Host.reduceAdd (mulf u u) (constant S_ .f32 0x00000000#32) reducesTo_S2x8192x4x64_S2x8192x4_d3 h_S_))
      (broadcastInDim S2x8192x4x1 ![] bcast_S_S2x8192x4x1 (constant S_ .f32 0x42800000#32)))
      (broadcastInDim S2x8192x4x1 ![] bcast_S_S2x8192x4x1 (constant S_ .f32 0x358637BD#32))))))
    (broadcastInDim S2x8192x4x64 ![0, 1, 2, 3] bcast_S1x1x1x64_S2x8192x4x64_0_1_2_3 (broadcastInDim S1x1x1x64 ![3] bcast_S64_S1x1x1x64_3 g))

def table (t : FVec Ideal S8192x32 .f32) : FVec Ideal S1x8192x1x32 .f32 :=
  broadcastInDim S1x8192x1x32 ![1, 3] bcast_S8192x32_S1x8192x1x32_1_3 t

def turn₁₂ (u : FVec Ideal S2x8192x12x64 .f32) (c s : FVec Ideal S8192x32 .f32) : FVec Ideal S2x8192x12x64 .f32 :=
  concatenate S2x8192x12x64 3
    [⟨S2x8192x12x32, subf
      (mulf (Host.slice S2x8192x12x32 ![0, 0, 0, 0] ![1, 1, 1, 2] u slicesBy_S2x8192x12x64_S2x8192x12x32_0s1_0s1_0s1_0s2)
        (broadcastInDim S2x8192x12x32 ![0, 1, 2, 3] bcast_S1x8192x1x32_S2x8192x12x32_0_1_2_3 (table c)))
      (mulf (Host.slice S2x8192x12x32 ![0, 0, 0, 1] ![1, 1, 1, 2] u slicesBy_S2x8192x12x64_S2x8192x12x32_0s1_0s1_0s1_1s2)
        (broadcastInDim S2x8192x12x32 ![0, 1, 2, 3] bcast_S1x8192x1x32_S2x8192x12x32_0_1_2_3 (table s)))⟩,
     ⟨S2x8192x12x32, addf
      (mulf (Host.slice S2x8192x12x32 ![0, 0, 0, 0] ![1, 1, 1, 2] u slicesBy_S2x8192x12x64_S2x8192x12x32_0s1_0s1_0s1_0s2)
        (broadcastInDim S2x8192x12x32 ![0, 1, 2, 3] bcast_S1x8192x1x32_S2x8192x12x32_0_1_2_3 (table s)))
      (mulf (Host.slice S2x8192x12x32 ![0, 0, 0, 1] ![1, 1, 1, 2] u slicesBy_S2x8192x12x64_S2x8192x12x32_0s1_0s1_0s1_1s2)
        (broadcastInDim S2x8192x12x32 ![0, 1, 2, 3] bcast_S1x8192x1x32_S2x8192x12x32_0_1_2_3 (table c)))⟩]
    concatenates_S2x8192x12x32_S2x8192x12x32_S2x8192x12x64_d3

def turn₄ (u : FVec Ideal S2x8192x4x64 .f32) (c s : FVec Ideal S8192x32 .f32) : FVec Ideal S2x8192x4x64 .f32 :=
  concatenate S2x8192x4x64 3
    [⟨S2x8192x4x32, subf
      (mulf (Host.slice S2x8192x4x32 ![0, 0, 0, 0] ![1, 1, 1, 2] u slicesBy_S2x8192x4x64_S2x8192x4x32_0s1_0s1_0s1_0s2)
        (broadcastInDim S2x8192x4x32 ![0, 1, 2, 3] bcast_S1x8192x1x32_S2x8192x4x32_0_1_2_3 (table c)))
      (mulf (Host.slice S2x8192x4x32 ![0, 0, 0, 1] ![1, 1, 1, 2] u slicesBy_S2x8192x4x64_S2x8192x4x32_0s1_0s1_0s1_1s2)
        (broadcastInDim S2x8192x4x32 ![0, 1, 2, 3] bcast_S1x8192x1x32_S2x8192x4x32_0_1_2_3 (table s)))⟩,
     ⟨S2x8192x4x32, addf
      (mulf (Host.slice S2x8192x4x32 ![0, 0, 0, 0] ![1, 1, 1, 2] u slicesBy_S2x8192x4x64_S2x8192x4x32_0s1_0s1_0s1_0s2)
        (broadcastInDim S2x8192x4x32 ![0, 1, 2, 3] bcast_S1x8192x1x32_S2x8192x4x32_0_1_2_3 (table s)))
      (mulf (Host.slice S2x8192x4x32 ![0, 0, 0, 1] ![1, 1, 1, 2] u slicesBy_S2x8192x4x64_S2x8192x4x32_0s1_0s1_0s1_1s2)
        (broadcastInDim S2x8192x4x32 ![0, 1, 2, 3] bcast_S1x8192x1x32_S2x8192x4x32_0_1_2_3 (table c)))⟩]
    concatenates_S2x8192x4x32_S2x8192x4x32_S2x8192x4x64_d3

/-- The queries' factor, as the program computes it. -/
def factor : FVec Ideal S_ .f32 := Host.divf (constant S_ .f32 0x3E000000#32) (Host.log (constant S_ .f32 0x40000000#32))

def queries (u : FVec Ideal S2x8192x12x64 .f32) : FVec Ideal S2x4x3x64x8192 .bf16 :=
  truncf .bf16 (transpose S2x4x3x64x8192 [0, 2, 3, 4, 1] (shapeCast _ (mulf u (broadcastInDim S2x8192x12x64 ![] bcast_S_S2x8192x12x64 factor))
    shapeCasts_S2x8192x12x64_S2x8192x4x3x64) transposes_S2x8192x4x3x64_S2x4x3x64x8192_0_2_3_4_1) bitsLt_bf16_f32

def keys (u : FVec Ideal S2x8192x4x64 .f32) : FVec Ideal S2x4x8192x64 .bf16 :=
  truncf .bf16 (transpose S2x4x8192x64 [0, 2, 1, 3] u transposes_S2x8192x4x64_S2x4x8192x64_0_2_1_3) bitsLt_bf16_f32

def values (p : FVec Ideal S2x8192x3584 .f32) : FVec Ideal S2x4x32x64x256 .bf16 :=
  truncf .bf16 (transpose S2x4x32x64x256 [0, 3, 1, 4, 2] (shapeCast _ (extractStridedSlice S2x8192x256 ![0, 0, 1024] p slices_S2x8192x3584_S2x8192x256_0_0_1024)
    shapeCasts_S2x8192x256_S2x32x256x4x64) transposes_S2x32x256x4x64_S2x4x32x64x256_0_3_1_4_2) bitsLt_bf16_f32

def channels (p : FVec Ideal S2x8192x3584 .f32) (t : FVec Ideal S256x512 .bf16) : FVec Ideal S2x8192x512 .f32 :=
  Host.dotGeneral dot_S2x8192x256_S256x512_S2x8192x512_2_0_01_1_n_n none
    (extractStridedSlice S2x8192x256 ![0, 0, 1280] p slices_S2x8192x3584_S2x8192x256_0_0_1280) (extf .f32 t bitsLt_bf16_f32)

theorem norm_at (x : FVec Ideal S2x8192x1024 .f32) (g : FVec Ideal S1024 .f32) (b : Fin 2) (s : Fin 8192) (j : Fin 1024) :
    norm x g (ix3 b s j) = Tail.norm (fun k => x (ix3 b s k)) (fun k => g (ix1 k)) j := by
  pointwise [norm]
  rfl

theorem all_at (x : FVec Ideal S2x8192x1024 .f32) (g : FVec Ideal S1024 .f32) (w : FVec Ideal S1024x3584 .f32) (b : Fin 2) (s : Fin 8192) (o : Fin 3584) :
    all x g w (ix3 b s o) = Proj.along (Tail.norm (fun k => x (ix3 b s k)) (fun k => g (ix1 k))) (fun k => w (ix2 k o)) := by
  unfold Proj.along
  simp only [← norm_at]
  unfold all
  generalize norm x g = h
  pointwise

theorem heads₁₂_at (p : FVec Ideal S2x8192x3584 .f32) (b : Fin 2) (s : Fin 8192) (h : Fin 12) (d : Fin 64) :
    heads₁₂ p (ix4 b s h d) = p (ix3 b s ⟨h * 64 + d, by omega⟩) := by
  pointwise [heads₁₂]

theorem heads₄_at (p : FVec Ideal S2x8192x3584 .f32) (b : Fin 2) (s : Fin 8192) (h : Fin 4) (d : Fin 64) :
    heads₄ p (ix4 b s h d) = p (ix3 b s ⟨768 + (h * 64 + d), by omega⟩) := by
  pointwise [heads₄]

theorem unit₁₂_at (u : FVec Ideal S2x8192x12x64 .f32) (g : FVec Ideal S64 .f32) (b : Fin 2) (s : Fin 8192) (h : Fin 12) (d : Fin 64) :
    unit₁₂ u g (ix4 b s h d) = Proj.unit (fun k => u (ix4 b s h k)) (fun k => g (ix1 k)) d := by
  pointwise [unit₁₂]
  rfl

theorem unit₄_at (u : FVec Ideal S2x8192x4x64 .f32) (g : FVec Ideal S64 .f32) (b : Fin 2) (s : Fin 8192) (h : Fin 4) (d : Fin 64) :
    unit₄ u g (ix4 b s h d) = Proj.unit (fun k => u (ix4 b s h k)) (fun k => g (ix1 k)) d := by
  pointwise [unit₄]
  rfl

theorem turn₁₂_at (u : FVec Ideal S2x8192x12x64 .f32) (c t : FVec Ideal S8192x32 .f32) (b : Fin 2) (s : Fin 8192) (h : Fin 12) (d : Fin 64) :
    turn₁₂ u c t (ix4 b s h d) = Proj.turn (fun i => u (ix4 b s h ⟨2 * i, by omega⟩)) (fun i => u (ix4 b s h ⟨1 + 2 * i, by omega⟩))
      (fun i => c (ix2 s i)) (fun i => t (ix2 s i)) d := by
  pointwise [turn₁₂, table, Proj.turn]

theorem turn₄_at (u : FVec Ideal S2x8192x4x64 .f32) (c t : FVec Ideal S8192x32 .f32) (b : Fin 2) (s : Fin 8192) (h : Fin 4) (d : Fin 64) :
    turn₄ u c t (ix4 b s h d) = Proj.turn (fun i => u (ix4 b s h ⟨2 * i, by omega⟩)) (fun i => u (ix4 b s h ⟨1 + 2 * i, by omega⟩))
      (fun i => c (ix2 s i)) (fun i => t (ix2 s i)) d := by
  pointwise [turn₄, table, Proj.turn]

theorem queries_at (u : FVec Ideal S2x8192x12x64 .f32) (b : Fin 2) (h : Fin 4) (g : Fin 3) (d : Fin 64) (s : Fin 8192) :
    queries u (ix5 b h g d s) = u (ix4 b s ⟨h * 3 + g, by omega⟩ d)
      * Ideal.div (Ideal.ofBits .f32 0x3E000000#32) (Ideal.log (Ideal.ofBits .f32 0x40000000#32)) := by
  pointwise [queries, factor]

theorem keys_at (u : FVec Ideal S2x8192x4x64 .f32) (b : Fin 2) (h : Fin 4) (s : Fin 8192) (d : Fin 64) :
    keys u (ix4 b h s d) = u (ix4 b s h d) := by
  pointwise [keys]

theorem values_at (p : FVec Ideal S2x8192x3584 .f32) (b : Fin 2) (h : Fin 4) (n : Fin 32) (d : Fin 64) (r : Fin 256) :
    values p (ix5 b h n d r) = p (ix3 b ⟨n * 256 + r, by omega⟩ ⟨1024 + (h * 64 + d), by omega⟩) := by
  pointwise [values]

theorem channels_at (p : FVec Ideal S2x8192x3584 .f32) (t : FVec Ideal S256x512 .bf16) (b : Fin 2) (s : Fin 8192) (j : Fin 512) :
    channels p t (ix3 b s j) = ∑ k : Fin 256, p (ix3 b s ⟨1280 + k, by omega⟩) * t (ix2 k j) := by
  pointwise [channels]

theorem first_at (z : FVec Ideal S2x8192x512 .f32) (b : Fin 2) (s : Fin 8192) (j : Fin 256) :
    extractStridedSlice S2x8192x256 ![0, 0, 0] z slices_S2x8192x512_S2x8192x256_0_0_0 (ix3 b s j) = z (ix3 b s ⟨j, by omega⟩) := by
  pointwise

theorem second_at (z : FVec Ideal S2x8192x512 .f32) (b : Fin 2) (s : Fin 8192) (j : Fin 256) :
    extractStridedSlice S2x8192x256 ![0, 0, 256] z slices_S2x8192x512_S2x8192x256_0_0_256 (ix3 b s j) = z (ix3 b s ⟨256 + j, by omega⟩) := by
  pointwise

variable (m : (ℓ : Loc nD τ sig) → Buf (Elt Ideal) ℓ) (c : Dev nD)

/-- The projection of the arguments. -/
def whole : FVec Ideal S2x8192x3584 .f32 :=
  all (m ((c.tc : Thread nD τ).loc main_arg0)) (m ((c.tc : Thread nD τ).loc main_arg1)) (m ((c.tc : Thread nD τ).loc main_arg2))

set_option maxRecDepth 8192 in
set_option maxHeartbeats 4000000 in
theorem queries_eq : Value.res_main_v87 m c = queries (turn₁₂ (unit₁₂ (heads₁₂ (whole m c)) (m ((c.tc : Thread nD τ).loc main_arg3)))
    (m ((c.tc : Thread nD τ).loc main_arg5)) (m ((c.tc : Thread nD τ).loc main_arg6))) := by
  unfold Value.res_main_v87
  rfl

set_option maxRecDepth 8192 in
set_option maxHeartbeats 4000000 in
theorem keys_eq : Value.res_main_v89 m c = keys (turn₄ (unit₄ (heads₄ (whole m c)) (m ((c.tc : Thread nD τ).loc main_arg4)))
    (m ((c.tc : Thread nD τ).loc main_arg5)) (m ((c.tc : Thread nD τ).loc main_arg6))) := by
  unfold Value.res_main_v89
  rfl

/-- What the run leaves in the three results not named there. -/
theorem others (ρ : Dev nD → PrngReg) :
    θ_run defs (onTc (τ := τ) (main (F := Ideal))) ⟨m, fun _ => 0, ρ⟩ fun r => ∀ c : Dev nD,
      r.2.mem ((c.tc : Thread nD τ).loc main_v90) = values (whole m c)
      ∧ r.2.mem ((c.tc : Thread nD τ).loc main_v91) = extractStridedSlice S2x8192x256 ![0, 0, 0]
          (channels (whole m c) (m ((c.tc : Thread nD τ).loc main_arg7))) slices_S2x8192x512_S2x8192x256_0_0_0
      ∧ r.2.mem ((c.tc : Thread nD τ).loc main_v92) = extractStridedSlice S2x8192x256 ![0, 0, 256]
          (channels (whole m c) (m ((c.tc : Thread nD τ).loc main_arg7))) slices_S2x8192x512_S2x8192x256_0_0_256 :=
  (θ_run _ _ _).mono (fun _ h c => ⟨(h c).2.2.1, (h c).2.2.2.1, (h c).2.2.2.2.1⟩) (Value.run m ρ)

end Cert.Reference3Ideal.Stages

end
-- ==== Proof.Proj.lean ====
/-
  The projection call's five arrays and the plain computation's are the same.
-/
module

public import proofs.«01_k».proof.Defs
public import proofs.«01_k».proof.Proof.ProjResults
public import proofs.«01_k».proof.Proof.ProjFactor
public import proofs.«01_k».proof.Proof.ProjRef

@[expose] public section

noncomputable section

namespace Cert.Proj

open Idealize.ShloMosaic Idealize.ShloMosaic.TcCoe Idealize.SL.Sem Cert.Kernel3Ideal.Stages

/-- The plain computation's projection, token by token, from the other program's arguments. -/
theorem whole_at (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2))
    (b : Fin 2) (s : Fin 8192) (o : Fin 3584) :
    Cert.Reference3Ideal.Stages.whole m' c (ix3 b s o) = column m c b s o := by
  unfold Cert.Reference3Ideal.Stages.whole
  rw [Cert.Reference3Ideal.Stages.all_at, h0, h1, h2]
  rfl

section

variable (m : (ℓ : Loc Cert.Kernel3Ideal.nD Cert.Kernel3Ideal.τ Cert.Kernel3Ideal.sig) → Buf (Elt Ideal) ℓ) (c : Dev Cert.Kernel3Ideal.nD)
  (p : FVec Ideal Cert.Reference3Ideal.S2x8192x3584 .f32) (hp : ∀ b s o, p (ix3 b s o) = column m c b s o)
include hp

/-! The stages of the plain computation over a projection `p`. -/

theorem query_at (b : Fin 2) (h : Fin 4) (g : Fin 3) (d : Fin 64) (s : Fin 8192) :
    Cert.Reference3Ideal.Stages.queries (Cert.Reference3Ideal.Stages.turn₁₂ (Cert.Reference3Ideal.Stages.unit₁₂
        (Cert.Reference3Ideal.Stages.heads₁₂ p) (m ((c.tc : Thread Cert.Kernel3Ideal.nD Cert.Kernel3Ideal.τ).loc Cert.Kernel3Ideal.main_arg3)))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))) (ix5 b h g d s)
      = queryAt m c b h g d s := by
  rw [Cert.Reference3Ideal.Stages.queries_at, Cert.Reference3Ideal.Stages.turn₁₂_at, factor_eq]
  simp only [Cert.Reference3Ideal.Stages.unit₁₂_at, Cert.Reference3Ideal.Stages.heads₁₂_at, hp]
  rfl

theorem key_at (b : Fin 2) (h : Fin 4) (s : Fin 8192) (d : Fin 64) :
    Cert.Reference3Ideal.Stages.keys (Cert.Reference3Ideal.Stages.turn₄ (Cert.Reference3Ideal.Stages.unit₄
        (Cert.Reference3Ideal.Stages.heads₄ p) (m ((c.tc : Thread Cert.Kernel3Ideal.nD Cert.Kernel3Ideal.τ).loc Cert.Kernel3Ideal.main_arg4)))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))) (ix4 b h s d)
      = keyAt m c b h s d := by
  rw [Cert.Reference3Ideal.Stages.keys_at, Cert.Reference3Ideal.Stages.turn₄_at]
  simp only [Cert.Reference3Ideal.Stages.unit₄_at, Cert.Reference3Ideal.Stages.heads₄_at, hp]
  rfl

theorem channel_at (b : Fin 2) (s : Fin 8192) (j : Fin 512) :
    Cert.Reference3Ideal.Stages.channels p (m ((c.tc : Thread Cert.Kernel3Ideal.nD Cert.Kernel3Ideal.τ).loc Cert.Kernel3Ideal.main_arg7)) (ix3 b s j)
      = channelAt m c b s j := by
  rw [Cert.Reference3Ideal.Stages.channels_at]
  simp only [hp]
  rfl

end

/-- The two runs from agreeing arguments end with equal results. -/
theorem algebraic : algebraic_Kernel3Ideal_Reference3Ideal (hKernel3Ideal := Cert.Kernel3Ideal.Gen.facts)
    (hReference3Ideal := Cert.Reference3Ideal.Gen.facts) := by
  intro m g m' g' _ hag
  refine ⟨fun c => queryArray m c, fun c => keyArray m c, fun c => valueArray m c, fun c => firstArray m c,
    fun c => secondArray m c, ?_, ?_⟩
  · refine (θ_run _ _ _).mono (fun r h c => ?_) (θ_run_and (Cert.Kernel3Ideal.Gen.run_main m g) (Cert.Kernel3Ideal.Gen.unchanged m g))
    exact ⟨((h.1 c).1 9).trans (queries_array m c), ((h.1 c).1 10).trans (keys_array m c), ((h.1 c).1 14).trans (values_array m c),
      ((h.1 c).1 15).trans (first_array m c), ((h.1 c).1 16).trans (second_array m c), h.2 c⟩
  · refine (θ_run _ _ _).mono (fun r h c => ?_) (θ_run_and (Cert.Reference3Ideal.Value.run m' g') (Cert.Reference3Ideal.Stages.others m' g'))
    obtain ⟨h0, h1, h2, h3, h4, h5, h6, h7⟩ := hag c
    have hw := whole_at m m' c h0 h1 h2
    obtain ⟨hv, hf, hs⟩ := h.2 c
    refine ⟨(h.1 c).1.trans ?_, (h.1 c).2.1.trans ?_, hv.trans ?_, hf.trans ?_, hs.trans ?_, (h.1 c).2.2.2.2.2⟩
    · refine (Cert.Reference3Ideal.Stages.queries_eq m' c).trans ?_
      rw [h3, h5, h6]
      funext i
      rw [eq_ix5 i]
      exact query_at m c _ hw (i 0) (i 1) (i 2) (i 3) (i 4)
    · refine (Cert.Reference3Ideal.Stages.keys_eq m' c).trans ?_
      rw [h4, h5, h6]
      funext i
      rw [eq_ix4 i]
      exact key_at m c _ hw (i 0) (i 1) (i 2) (i 3)
    · funext i
      rw [eq_ix5 i]
      exact (Cert.Reference3Ideal.Stages.values_at _ (i 0) (i 1) (i 2) (i 3) (i 4)).trans (hw _ _ _)
    · rw [h7]
      funext i
      rw [eq_ix3 i]
      exact (Cert.Reference3Ideal.Stages.first_at _ (i 0) (i 1) (i 2)).trans (channel_at m c _ hw (i 0) (i 1) _)
    · rw [h7]
      funext i
      rw [eq_ix3 i]
      exact (Cert.Reference3Ideal.Stages.second_at _ (i 0) (i 1) (i 2)).trans (channel_at m c _ hw (i 0) (i 1) _)

end Cert.Proj

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.Reference2Ideal.Run
public import proofs.«01_k».proof.Proof.Gen.Kernel2Ideal.Value
public import proofs.«01_k».proof.Proof.Gen.ReferenceIdeal.Run
public import proofs.«01_k».proof.Proof.Transfer
public import proofs.«01_k».proof.Proof.Tail
public import proofs.«01_k».proof.Proof.AttnEq
public import proofs.«01_k».proof.Proof.Gen.Reference3Ideal.Run
public import proofs.«01_k».proof.Proof.Proj
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts, Cert.Kernel.Gen.facts, Cert.KernelIdeal.Gen.facts, Cert.ReferenceIdeal.Gen.facts, Cert.Kernel3.Gen.facts, Cert.Kernel3Ideal.Gen.facts, Cert.Reference3Ideal.Gen.facts, Cert.Pre_finite.Gen.facts,
  fun m ρ _ => Cert.Kernel2.Gen.frame m ρ, fun m ρ _ => Cert.Kernel2Ideal.Gen.frame m ρ, fun m ρ _ => (θ_run Cert.Reference2Ideal.defs _ _).mono (fun r h => ⟨fun c => (h c).2, sem_eq_zero_of_no_sems (by decide) r.2⟩) (Cert.Reference2Ideal.Value.run m ρ),
  fun m ρ _ => Cert.Transfer.kernel_frame m ρ, fun m ρ _ => Cert.KernelIdeal.Tiles.attn_frame m ρ, fun m ρ _ => Cert.KernelIdeal.Tiles.attn_frame m ρ,
  fun m ρ _ => (θ_run Cert.ReferenceIdeal.defs _ _).mono (fun r h => ⟨fun c => (h c).2, sem_eq_zero_of_no_sems (by decide) r.2⟩) (Cert.ReferenceIdeal.Value.run m ρ),
  fun m ρ _ => (θ_run Cert.ReferenceIdeal.defs _ _).mono (fun r h => ⟨fun c => (h c).2, sem_eq_zero_of_no_sems (by decide) r.2⟩) (Cert.ReferenceIdeal.Value.run m ρ),
  fun m ρ _ => Cert.Kernel3.Gen.frame m ρ, fun m ρ _ => Cert.Kernel3Ideal.Gen.frame m ρ,
  fun m ρ _ => (θ_run Cert.Reference3Ideal.defs _ _).mono (fun r h => ⟨fun c => (h c).2.2.2.2.2, sem_eq_zero_of_no_sems (by decide) r.2⟩) (Cert.Reference3Ideal.Value.run m ρ),
  trivial, Cert.Tail.algebraic, trivial, Cert.AttnEq.algebraic,
  IdealRules.named_const.statement Cert.Kernel3Ideal.κ "q_scale" .f32 0x3E38AA3B#32 (((8 * (Real.log 2))⁻¹ : ℝ) : EReal) rfl, Cert.Proj.algebraic⟩

end Cert.Proof

end
